-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2 = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailReferenceIdeal (m : (ℓ : Loc Cert.TailReferenceIdeal.nD Cert.TailReferenceIdeal.τ Cert.TailReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5))
      ∧ r.2.sem = fun _ => 0)

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ r.2.sem = fun _ => 0)

def quiescent_TailReferenceIdeal [hTailReferenceIdeal : Cert.TailReferenceIdeal.Facts] : Prop :=
  ∀ (m : (ℓ : Loc Cert.TailReferenceIdeal.nD Cert.TailReferenceIdeal.τ Cert.TailReferenceIdeal.sig) → Buf (Elt Ideal) ℓ) (g : Dev Cert.TailReferenceIdeal.nD → PrngReg), Pre_TailReferenceIdeal m →
    θ_run (Cert.TailReferenceIdeal.defs (F := Ideal)) (onTc (τ := Cert.TailReferenceIdeal.τ) (Cert.TailReferenceIdeal.main (F := Ideal))) ⟨m, fun _ => 0, g⟩ (fun r => (∀ c : Dev Cert.TailReferenceIdeal.nD,
      r.2.mem ((c.tc : Thread Cert.TailReferenceIdeal.nD Cert.TailReferenceIdeal.τ).loc Cert.TailReferenceIdeal.main_arg0) = m ((c.tc : Thread Cert.TailReferenceIdeal.nD Cert.TailReferenceIdeal.τ).loc Cert.TailReferenceIdeal.main_arg0)
      ∧ r.2.mem ((c.tc : Thread Cert.TailReferenceIdeal.nD Cert.TailReferenceIdeal.τ).loc Cert.TailReferenceIdeal.main_arg1) = m ((c.tc : Thread Cert.TailReferenceIdeal.nD Cert.TailReferenceIdeal.τ).loc Cert.TailReferenceIdeal.main_arg1)
      ∧ r.2.mem ((c.tc : Thread Cert.TailReferenceIdeal.nD Cert.TailReferenceIdeal.τ).loc Cert.TailReferenceIdeal.main_arg2) = m ((c.tc : Thread Cert.TailReferenceIdeal.nD Cert.TailReferenceIdeal.τ).loc Cert.TailReferenceIdeal.main_arg2)
      ∧ r.2.mem ((c.tc : Thread Cert.TailReferenceIdeal.nD Cert.TailReferenceIdeal.τ).loc Cert.TailReferenceIdeal.main_arg3) = m ((c.tc : Thread Cert.TailReferenceIdeal.nD Cert.TailReferenceIdeal.τ).loc Cert.TailReferenceIdeal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v1_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)) →
    ∃ (v0 : (c : Dev Cert.MergeIdeal.nD) → Buf (Elt Ideal) ((c.tc : Thread Cert.MergeIdeal.nD Cert.MergeIdeal.τ).loc Cert.MergeIdeal.main_v5_0)) (v1 : (c : Dev Cert.MergeIdeal.nD) → Buf (Elt Ideal) ((c.tc : Thread Cert.MergeIdeal.nD Cert.MergeIdeal.τ).loc Cert.MergeIdeal.main_v5_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v5_0) = v0 c
          ∧ r.2.mem ((c.tc : Thread Cert.MergeIdeal.nD Cert.MergeIdeal.τ).loc Cert.MergeIdeal.main_v5_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v22) = v0 c
          ∧ r.2.mem ((c.tc : Thread Cert.MergeReferenceIdeal.nD Cert.MergeReferenceIdeal.τ).loc Cert.MergeReferenceIdeal.main_v35) = v1 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v18) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5))

def preserves_Tail_TailIdeal : Prop :=
  True

def algebraic_TailIdeal_TailReferenceIdeal [hTailIdeal : Cert.TailIdeal.Facts] [hTailReferenceIdeal : Cert.TailReferenceIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailReferenceIdeal.nD Cert.TailReferenceIdeal.τ Cert.TailReferenceIdeal.sig) → Buf (Elt Ideal) ℓ) (g' : Dev Cert.TailReferenceIdeal.nD → PrngReg), Pre_TailIdeal m →
    (∀ c : Dev Cert.TailIdeal.nD,
      m' ((c.tc : Thread Cert.TailReferenceIdeal.nD Cert.TailReferenceIdeal.τ).loc Cert.TailReferenceIdeal.main_arg0) = m ((c.tc : Thread Cert.TailIdeal.nD Cert.TailIdeal.τ).loc Cert.TailIdeal.main_arg0)
      ∧ m' ((c.tc : Thread Cert.TailReferenceIdeal.nD Cert.TailReferenceIdeal.τ).loc Cert.TailReferenceIdeal.main_arg1) = m ((c.tc : Thread Cert.TailIdeal.nD Cert.TailIdeal.τ).loc Cert.TailIdeal.main_arg1)
      ∧ m' ((c.tc : Thread Cert.TailReferenceIdeal.nD Cert.TailReferenceIdeal.τ).loc Cert.TailReferenceIdeal.main_arg2) = m ((c.tc : Thread Cert.TailIdeal.nD Cert.TailIdeal.τ).loc Cert.TailIdeal.main_arg2)
      ∧ m' ((c.tc : Thread Cert.TailReferenceIdeal.nD Cert.TailReferenceIdeal.τ).loc Cert.TailReferenceIdeal.main_arg3) = m ((c.tc : Thread Cert.TailIdeal.nD Cert.TailIdeal.τ).loc Cert.TailIdeal.main_arg3)) →
    ∃ (v0 : (c : Dev Cert.TailIdeal.nD) → Buf (Elt Ideal) ((c.tc : Thread Cert.TailIdeal.nD Cert.TailIdeal.τ).loc Cert.TailIdeal.main_v0)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v0) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3))
      ∧ θ_run (Cert.TailReferenceIdeal.defs (F := Ideal)) (onTc (τ := Cert.TailReferenceIdeal.τ) (Cert.TailReferenceIdeal.main (F := Ideal))) ⟨m', fun _ => 0, g'⟩ (fun r => ∀ c : Dev Cert.TailReferenceIdeal.nD,
          r.2.mem ((c.tc : Thread Cert.TailReferenceIdeal.nD Cert.TailReferenceIdeal.τ).loc Cert.TailReferenceIdeal.main_v21) = v0 c
          ∧ r.2.mem ((c.tc : Thread Cert.TailReferenceIdeal.nD Cert.TailReferenceIdeal.τ).loc Cert.TailReferenceIdeal.main_arg0) = m' ((c.tc : Thread Cert.TailReferenceIdeal.nD Cert.TailReferenceIdeal.τ).loc Cert.TailReferenceIdeal.main_arg0)
          ∧ r.2.mem ((c.tc : Thread Cert.TailReferenceIdeal.nD Cert.TailReferenceIdeal.τ).loc Cert.TailReferenceIdeal.main_arg1) = m' ((c.tc : Thread Cert.TailReferenceIdeal.nD Cert.TailReferenceIdeal.τ).loc Cert.TailReferenceIdeal.main_arg1)
          ∧ r.2.mem ((c.tc : Thread Cert.TailReferenceIdeal.nD Cert.TailReferenceIdeal.τ).loc Cert.TailReferenceIdeal.main_arg2) = m' ((c.tc : Thread Cert.TailReferenceIdeal.nD Cert.TailReferenceIdeal.τ).loc Cert.TailReferenceIdeal.main_arg2)
          ∧ r.2.mem ((c.tc : Thread Cert.TailReferenceIdeal.nD Cert.TailReferenceIdeal.τ).loc Cert.TailReferenceIdeal.main_arg3) = m' ((c.tc : Thread Cert.TailReferenceIdeal.nD Cert.TailReferenceIdeal.τ).loc Cert.TailReferenceIdeal.main_arg3))

def Claim : Prop :=
  ∃ (hKernel : Cert.Kernel.Facts) (hKernelIdeal : Cert.KernelIdeal.Facts) (hReferenceIdeal : Cert.ReferenceIdeal.Facts) (hMerge : Cert.Merge.Facts) (hMergeIdeal : Cert.MergeIdeal.Facts) (hMergeReferenceIdeal : Cert.MergeReferenceIdeal.Facts) (hFfn : Cert.Ffn.Facts) (hFfnIdeal : Cert.FfnIdeal.Facts) (hFfnReferenceIdeal : Cert.FfnReferenceIdeal.Facts) (hTail : Cert.Tail.Facts) (hTailIdeal : Cert.TailIdeal.Facts) (hTailReferenceIdeal : Cert.TailReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Merge (hMerge := hMerge)
    ∧ quiescent_MergeIdeal (hMergeIdeal := hMergeIdeal)
    ∧ quiescent_MergeReferenceIdeal (hMergeReferenceIdeal := hMergeReferenceIdeal)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Tail (hTail := hTail)
    ∧ quiescent_TailIdeal (hTailIdeal := hTailIdeal)
    ∧ quiescent_TailReferenceIdeal (hTailReferenceIdeal := hTailReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Merge_MergeIdeal
    ∧ algebraic_MergeIdeal_MergeReferenceIdeal (hMergeIdeal := hMergeIdeal) (hMergeReferenceIdeal := hMergeReferenceIdeal)
    ∧ preserves_Ffn_FfnIdeal
    ∧ algebraic_FfnIdeal_FfnReferenceIdeal (hFfnIdeal := hFfnIdeal) (hFfnReferenceIdeal := hFfnReferenceIdeal)
    ∧ preserves_Tail_TailIdeal
    ∧ algebraic_TailIdeal_TailReferenceIdeal (hTailIdeal := hTailIdeal) (hTailReferenceIdeal := hTailReferenceIdeal)
-- ==== Pre_finite_scores.lean ====
abbrev S8192x9216 : Shape := ⟨2, ![8192, 9216]⟩
abbrev S1x16 : Shape := ⟨2, ![1, 16]⟩
abbrev S32x16 : Shape := ⟨2, ![32, 16]⟩
abbrev S16x512 : Shape := ⟨2, ![16, 512]⟩
abbrev S1x512 : Shape := ⟨2, ![1, 512]⟩
abbrev S1x256 : Shape := ⟨2, ![1, 256]⟩
abbrev S1024x2048 : Shape := ⟨2, ![1024, 2048]⟩
abbrev S2048x2048 : Shape := ⟨2, ![2048, 2048]⟩
abbrev S2048x5632 : Shape := ⟨2, ![2048, 5632]⟩
abbrev S5632x2048 : Shape := ⟨2, ![5632, 2048]⟩
abbrev S8192x1280 : Shape := ⟨2, ![8192, 1280]⟩
abbrev S_ : Shape := ⟨0, ![]⟩

class Facts : Prop where
  slices_S8192x9216_S8192x1280_0_4096 : S8192x9216.Slices ![0, 4096] S8192x1280
  bcast_S_S8192x1280 : S_.BroadcastsInDim S8192x1280 (![] : Fin 0 → Fin S8192x1280.rank)
  bcast_S_S1x16 : S_.BroadcastsInDim S1x16 (![] : Fin 0 → Fin S1x16.rank)
  bcast_S_S32x16 : S_.BroadcastsInDim S32x16 (![] : Fin 0 → Fin S32x16.rank)

variable [Facts]

def fn {F : FTy → Type} [FloatOps F] (main_arg0 : FVec F S8192x9216 .bf16) (main_arg1 : FVec F S1x16 .f32) (main_arg2 : FVec F S32x16 .f32) (main_arg3 : FVec F S16x512 .f32) (main_arg4 : FVec F S1x512 .f32) (main_arg5 : FVec F S1x256 .f32) (main_arg6 : FVec F S1024x2048 .f32) (main_arg7 : FVec F S1024x2048 .f32) (main_arg8 : FVec F S2048x2048 .f32) (main_arg9 : FVec F S2048x5632 .f32) (main_arg10 : FVec F S2048x5632 .f32) (main_arg11 : FVec F S5632x2048 .f32) : IVec S8192x1280 1 × IVec S1x16 1 × IVec S32x16 1 :=
  let main_v0 : FVec F S8192x1280 .bf16 := (extractStridedSlice S8192x1280 ![0, 4096] · slices_S8192x9216_S8192x1280_0_4096) main_arg0
  let main_cst : FVec F S_ .bf16 := constant S_ .bf16 0xFF80#16
  let main_v1 : FVec F S8192x1280 .bf16 := broadcastInDim S8192x1280 ![] bcast_S_S8192x1280 main_cst
  let main_v2 : IVec S8192x1280 1 := cmpf .ogt main_v0 main_v1
  let main_cst_0 : FVec F S_ .bf16 := constant S_ .bf16 0x7F80#16
  let main_v3 : FVec F S8192x1280 .bf16 := broadcastInDim S8192x1280 ![] bcast_S_S8192x1280 main_cst_0
  let main_v4 : IVec S8192x1280 1 := cmpf .olt main_v0 main_v3
  let main_v5 : IVec S8192x1280 1 := andi main_v2 main_v4
  let main_cst_1 : FVec F S_ .f32 := constant S_ .f32 0xFF800000#32
  let main_v6 : FVec F S1x16 .f32 := broadcastInDim S1x16 ![] bcast_S_S1x16 main_cst_1
  let main_v7 : IVec S1x16 1 := cmpf .ogt main_arg1 main_v6
  let main_cst_2 : FVec F S_ .f32 := constant S_ .f32 0x7F800000#32
  let main_v8 : FVec F S1x16 .f32 := broadcastInDim S1x16 ![] bcast_S_S1x16 main_cst_2
  let main_v9 : IVec S1x16 1 := cmpf .olt main_arg1 main_v8
  let main_v10 : IVec S1x16 1 := andi main_v7 main_v9
  let main_cst_3 : FVec F S_ .f32 := constant S_ .f32 0xFF800000#32
  let main_v11 : FVec F S32x16 .f32 := broadcastInDim S32x16 ![] bcast_S_S32x16 main_cst_3
  let main_v12 : IVec S32x16 1 := cmpf .ogt main_arg2 main_v11
  let main_cst_4 : FVec F S_ .f32 := constant S_ .f32 0x7F800000#32
  let main_v13 : FVec F S32x16 .f32 := broadcastInDim S32x16 ![] bcast_S_S32x16 main_cst_4
  let main_v14 : IVec S32x16 1 := cmpf .olt main_arg2 main_v13
  let main_v15 : IVec S32x16 1 := andi main_v12 main_v14
  (main_v5, main_v10, main_v15)
-- ==== Kernel.lean ====
abbrev S8192x9216 : Shape := ⟨2, ![8192, 9216]⟩
abbrev S1x16 : Shape := ⟨2, ![1, 16]⟩
abbrev S32x16 : Shape := ⟨2, ![32, 16]⟩
abbrev S16x512 : Shape := ⟨2, ![16, 512]⟩
abbrev S1x512 : Shape := ⟨2, ![1, 512]⟩
abbrev S1x256 : Shape := ⟨2, ![1, 256]⟩
abbrev S1024x2048 : Shape := ⟨2, ![1024, 2048]⟩
abbrev S2048x2048 : Shape := ⟨2, ![2048, 2048]⟩
abbrev S2048x5632 : Shape := ⟨2, ![2048, 5632]⟩
abbrev S5632x2048 : Shape := ⟨2, ![5632, 2048]⟩
abbrev S16x32 : Shape := ⟨2, ![16, 32]⟩
abbrev S8192x1024 : Shape := ⟨2, ![8192, 1024]⟩
abbrev S512x4736 : Shape := ⟨2, ![512, 4736]⟩
abbrev S128x512 : Shape := ⟨2, ![128, 512]⟩
abbrev S64x2048 : Shape := ⟨2, ![64, 2048]⟩
abbrev S128x2048 : Shape := ⟨2, ![128, 2048]⟩
abbrev S128x5632 : Shape := ⟨2, ![128, 5632]⟩
abbrev S352x2048 : Shape := ⟨2, ![352, 2048]⟩
abbrev S512x1024 : Shape := ⟨2, ![512, 1024]⟩
abbrev S2x16x128x256 : Shape := ⟨4, ![2, 16, 128, 256]⟩
abbrev S4x128x256 : Shape := ⟨3, ![4, 128, 256]⟩
abbrev S128x256 : Shape := ⟨2, ![128, 256]⟩
abbrev S1x1 : Shape := ⟨2, ![1, 1]⟩
abbrev S1x1x128x256 : Shape := ⟨4, ![1, 1, 128, 256]⟩
abbrev S1x128 : Shape := ⟨2, ![1, 128]⟩
abbrev S128x128 : Shape := ⟨2, ![128, 128]⟩
abbrev S256x128 : Shape := ⟨2, ![256, 128]⟩
abbrev S512x256 : Shape := ⟨2, ![512, 256]⟩
abbrev S256x256 : Shape := ⟨2, ![256, 256]⟩
abbrev S512x128 : Shape := ⟨2, ![512, 128]⟩
abbrev S2048x256 : Shape := ⟨2, ![2048, 256]⟩
abbrev S2048 : Shape := ⟨1, ![2048]⟩
abbrev S2048x1 : Shape := ⟨2, ![2048, 1]⟩
abbrev S112x512 : Shape := ⟨2, ![112, 512]⟩
abbrev S512x512 : Shape := ⟨2, ![512, 512]⟩
abbrev S64x192 : Shape := ⟨2, ![64, 192]⟩
abbrev S64x512 : Shape := ⟨2, ![64, 512]⟩
abbrev S192x512 : Shape := ⟨2, ![192, 512]⟩
abbrev S8x512 : Shape := ⟨2, ![8, 512]⟩
abbrev S64x64 : Shape := ⟨2, ![64, 64]⟩
abbrev S64x128 : Shape := ⟨2, ![64, 128]⟩
abbrev S64x256 : Shape := ⟨2, ![64, 256]⟩
abbrev S128x64 : Shape := ⟨2, ![128, 64]⟩
abbrev S8x128 : Shape := ⟨2, ![8, 128]⟩
abbrev S128x8 : Shape := ⟨2, ![128, 8]⟩
abbrev S1x128x256 : Shape := ⟨3, ![1, 128, 256]⟩
abbrev S128x1 : Shape := ⟨2, ![128, 1]⟩
abbrev S512 : Shape := ⟨1, ![512]⟩
abbrev S512x1 : Shape := ⟨2, ![512, 1]⟩

abbrev nBuf : Space → Nat
  | .hbm => 21
  | .vmem => 37
  | .smem => 2
  | _ => 0

abbrev bufTy : (tb : Table) → Fin (tcTables nBuf tb) → BufTy
  | .hbm, ⟨0, _⟩ => ⟨S8192x9216, .bf16⟩
  | .hbm, ⟨1, _⟩ => ⟨S1x16, .f32⟩
  | .hbm, ⟨2, _⟩ => ⟨S32x16, .f32⟩
  | .hbm, ⟨3, _⟩ => ⟨S16x512, .f32⟩
  | .hbm, ⟨4, _⟩ => ⟨S1x512, .f32⟩
  | .hbm, ⟨5, _⟩ => ⟨S1x256, .f32⟩
  | .hbm, ⟨6, _⟩ => ⟨S1024x2048, .f32⟩
  | .hbm, ⟨7, _⟩ => ⟨S1024x2048, .f32⟩
  | .hbm, ⟨8, _⟩ => ⟨S2048x2048, .f32⟩
  | .hbm, ⟨9, _⟩ => ⟨S2048x5632, .f32⟩
  | .hbm, ⟨10, _⟩ => ⟨S2048x5632, .f32⟩
  | .hbm, ⟨11, _⟩ => ⟨S5632x2048, .f32⟩
  | .hbm, ⟨12, _⟩ => ⟨S16x32, .f32⟩
  | .hbm, ⟨13, _⟩ => ⟨S8192x1024, .bf16⟩
  | .hbm, ⟨14, _⟩ => ⟨S8192x1024, .bf16⟩
  | .hbm, ⟨15, _⟩ => ⟨S1024x2048, .bf16⟩
  | .hbm, ⟨16, _⟩ => ⟨S1024x2048, .bf16⟩
  | .hbm, ⟨17, _⟩ => ⟨S2048x2048, .bf16⟩
  | .hbm, ⟨18, _⟩ => ⟨S2048x5632, .bf16⟩
  | .hbm, ⟨19, _⟩ => ⟨S2048x5632, .bf16⟩
  | .hbm, ⟨20, _⟩ => ⟨S5632x2048, .bf16⟩
  | .local _ .vmem, ⟨0, _⟩ => ⟨S512x4736, .bf16⟩
  | .local _ .vmem, ⟨1, _⟩ => ⟨S512x4736, .bf16⟩
  | .local _ .vmem, ⟨2, _⟩ => ⟨S128x512, .bf16⟩
  | .local _ .vmem, ⟨3, _⟩ => ⟨S128x512, .bf16⟩
  | .local _ .vmem, ⟨4, _⟩ => ⟨S16x512, .f32⟩
  | .local _ .vmem, ⟨5, _⟩ => ⟨S1x512, .f32⟩
  | .local _ .vmem, ⟨6, _⟩ => ⟨S1x256, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S128x2048, .f32⟩
  | .local _ .vmem, ⟨12, _⟩ => ⟨S128x2048, .f32⟩
  | .local _ .vmem, ⟨13, _⟩ => ⟨S128x5632, .f32⟩
  | .local _ .vmem, ⟨14, _⟩ => ⟨S128x5632, .f32⟩
  | .local _ .vmem, ⟨15, _⟩ => ⟨S128x5632, .f32⟩
  | .local _ .vmem, ⟨16, _⟩ => ⟨S128x5632, .f32⟩
  | .local _ .vmem, ⟨17, _⟩ => ⟨S352x2048, .f32⟩
  | .local _ .vmem, ⟨18, _⟩ => ⟨S352x2048, .f32⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S64x2048, .bf16⟩
  | .local _ .vmem, ⟨24, _⟩ => ⟨S64x2048, .bf16⟩
  | .local _ .vmem, ⟨25, _⟩ => ⟨S64x2048, .bf16⟩
  | .local _ .vmem, ⟨26, _⟩ => ⟨S64x2048, .bf16⟩
  | .local _ .vmem, ⟨27, _⟩ => ⟨S128x2048, .bf16⟩
  | .local _ .vmem, ⟨28, _⟩ => ⟨S128x2048, .bf16⟩
  | .local _ .vmem, ⟨29, _⟩ => ⟨S128x5632, .bf16⟩
  | .local _ .vmem, ⟨30, _⟩ => ⟨S128x5632, .bf16⟩
  | .local _ .vmem, ⟨31, _⟩ => ⟨S128x5632, .bf16⟩
  | .local _ .vmem, ⟨32, _⟩ => ⟨S128x5632, .bf16⟩
  | .local _ .vmem, ⟨33, _⟩ => ⟨S352x2048, .bf16⟩
  | .local _ .vmem, ⟨34, _⟩ => ⟨S352x2048, .bf16⟩
  | .local _ .vmem, ⟨35, _⟩ => ⟨S2x16x128x256, .f32⟩
  | .local _ .vmem, ⟨36, _⟩ => ⟨S4x128x256, .f32⟩
  | .local _ .smem, ⟨0, _⟩ => ⟨S1x16, .f32⟩
  | .local _ .smem, ⟨1, _⟩ => ⟨S16x32, .f32⟩
  | _, _ => ⟨S8192x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1_0 : Ref sig .tc := ⟨.hbm, 13, rfl⟩
abbrev main_v1_1 : Ref sig .tc := ⟨.hbm, 14, rfl⟩
abbrev main_v1_2 : Ref sig .tc := ⟨.hbm, 15, rfl⟩
abbrev main_v1_3 : Ref sig .tc := ⟨.hbm, 16, rfl⟩
abbrev main_v1_4 : Ref sig .tc := ⟨.hbm, 17, rfl⟩
abbrev main_v1_5 : Ref sig .tc := ⟨.hbm, 18, rfl⟩
abbrev main_v1_6 : Ref sig .tc := ⟨.hbm, 19, rfl⟩
abbrev main_v1_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_stg18_0 : Ref sig .tc := ⟨.vmem, 29, rfl⟩
abbrev cc0_stg18_1 : Ref sig .tc := ⟨.vmem, 30, rfl⟩
abbrev cc0_stg19_0 : Ref sig .tc := ⟨.vmem, 31, rfl⟩
abbrev cc0_stg19_1 : Ref sig .tc := ⟨.vmem, 32, rfl⟩
abbrev cc0_stg20_0 : Ref sig .tc := ⟨.vmem, 33, rfl⟩
abbrev cc0_stg20_1 : Ref sig .tc := ⟨.vmem, 34, rfl⟩
abbrev cc0_scratch0 : Ref sig .tc := ⟨.vmem, 35, rfl⟩
abbrev cc0_scratch1 : Ref sig .tc := ⟨.vmem, 36, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31
abbrev cc0_sem18_1 : DmaSem sig := 32
abbrev cc0_sem19_0 : DmaSem sig := 33
abbrev cc0_sem19_1 : DmaSem sig := 34
abbrev cc0_sem20_0 : DmaSem sig := 35
abbrev cc0_sem20_1 : DmaSem sig := 36

abbrev nD : Nat := 1
abbrev τ : Topo := Topo.v7x

variable {F : FTy → Type} [FloatOps F]

abbrev grid0 : Pipeline.Grid := ⟨2, ![2, 8], ![false, false]⟩

def k0_off1 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v512 : Index := Scalar.indexCast v50
  let c0_364 : Index := 0#32
  let c0_365 : Index := 0#32
  let c0_366 : Index := 0#32
  ![v512.toNat, 0, 0, 0]
def k0_off2 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v515 : Index := Scalar.indexCast v50
  let c2 : Index := 2#32
  let c0_367 : Index := 0#32
  let c0_368 : Index := 0#32
  ![v515.toNat, 2, 0, 0]
def k0_off3 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v518 : Index := Scalar.indexCast v50
  let c5 : Index := 5#32
  let c0_369 : Index := 0#32
  let c0_370 : Index := 0#32
  ![v518.toNat, 5, 0, 0]
def k0_off4 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v521 : Index := Scalar.indexCast v50
  let c7 : Index := 7#32
  let c0_371 : Index := 0#32
  let c0_372 : Index := 0#32
  ![v521.toNat, 7, 0, 0]
def k0_off5 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v524 : Index := Scalar.indexCast v50
  let c1 : Index := 1#32
  let c0_373 : Index := 0#32
  let c0_374 : Index := 0#32
  ![v524.toNat, 1, 0, 0]
def k0_off6 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v527 : Index := Scalar.indexCast v50
  let c3 : Index := 3#32
  let c0_375 : Index := 0#32
  let c0_376 : Index := 0#32
  ![v527.toNat, 3, 0, 0]
def k0_off7 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v530 : Index := Scalar.indexCast v50
  let c4 : Index := 4#32
  let c0_377 : Index := 0#32
  let c0_378 : Index := 0#32
  ![v530.toNat, 4, 0, 0]
def k0_off8 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v533 : Index := Scalar.indexCast v50
  let c6 : Index := 6#32
  let c0_379 : Index := 0#32
  let c0_380 : Index := 0#32
  ![v533.toNat, 6, 0, 0]
def k0_off9 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v536 : Index := Scalar.indexCast v50
  let c8 : Index := 8#32
  let c0_381 : Index := 0#32
  let c0_382 : Index := 0#32
  ![v536.toNat, 8, 0, 0]
def k0_off10 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v539 : Index := Scalar.indexCast v50
  let c10 : Index := 10#32
  let c0_383 : Index := 0#32
  let c0_384 : Index := 0#32
  ![v539.toNat, 10, 0, 0]
def k0_off11 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v542 : Index := Scalar.indexCast v50
  let c13 : Index := 13#32
  let c0_385 : Index := 0#32
  let c0_386 : Index := 0#32
  ![v542.toNat, 13, 0, 0]
def k0_off12 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v545 : Index := Scalar.indexCast v50
  let c15 : Index := 15#32
  let c0_387 : Index := 0#32
  let c0_388 : Index := 0#32
  ![v545.toNat, 15, 0, 0]
def k0_off13 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v548 : Index := Scalar.indexCast v50
  let c9 : Index := 9#32
  let c0_389 : Index := 0#32
  let c0_390 : Index := 0#32
  ![v548.toNat, 9, 0, 0]
def k0_off14 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v551 : Index := Scalar.indexCast v50
  let c11 : Index := 11#32
  let c0_391 : Index := 0#32
  let c0_392 : Index := 0#32
  ![v551.toNat, 11, 0, 0]
def k0_off15 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v554 : Index := Scalar.indexCast v50
  let c12 : Index := 12#32
  let c0_393 : Index := 0#32
  let c0_394 : Index := 0#32
  ![v554.toNat, 12, 0, 0]
def k0_off16 (i : grid0.Coords) : Fin 4 → Nat :=
  let arg1 : BitVec 32 := BitVec.ofNat 32 (i 1).val
  let c0_i32_41 : BitVec 32 := 0#32
  let v49 : BitVec 1 := Scalar.cmpi .eq arg1 c0_i32_41
  let v50 : BitVec 32 := Scalar.extui v49
  let v557 : Index := Scalar.indexCast v50
  let c14 : Index := 14#32
  let c0_395 : Index := 0#32
  let c0_396 : Index := 0#32
  ![v557.toNat, 14, 0, 0]
def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c512_i32 : BitVec 32 := 512#32
  let v2 : BitVec 32 := Scalar.muli v1 c512_i32
  let c4096_i32 : BitVec 32 := 4096#32
  let c0_i32 : BitVec 32 := 0#32
  ![v2.toNat, c4096_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c4_i32 : BitVec 32 := 4#32
  let v2 : BitVec 32 := Scalar.muli v1 c4_i32
  let c1_i32 : BitVec 32 := 1#32
  let v3 : BitVec 32 := Scalar.subi v2 c1_i32
  let c0_i32 : BitVec 32 := 0#32
  let v4 : BitVec 32 := Scalar.maxsi v3 c0_i32
  let c10_i32 : BitVec 32 := 10#32
  let c0_i32_0 : BitVec 32 := 0#32
  ![v4.toNat, c10_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_17 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_20 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x4736 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .smem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x5632 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S352x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S64x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x2048 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x5632 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S128x5632 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S352x2048 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x9216 : Shape := ⟨2, ![8192, 9216]⟩
abbrev S1x16 : Shape := ⟨2, ![1, 16]⟩
abbrev S32x16 : Shape := ⟨2, ![32, 16]⟩
abbrev S16x512 : Shape := ⟨2, ![16, 512]⟩
abbrev S1x512 : Shape := ⟨2, ![1, 512]⟩
abbrev S1x256 : Shape := ⟨2, ![1, 256]⟩
abbrev S1024x2048 : Shape := ⟨2, ![1024, 2048]⟩
abbrev S2048x2048 : Shape := ⟨2, ![2048, 2048]⟩
abbrev S2048x5632 : Shape := ⟨2, ![2048, 5632]⟩
abbrev S5632x2048 : Shape := ⟨2, ![5632, 2048]⟩
abbrev S8192x1024 : Shape := ⟨2, ![8192, 1024]⟩
abbrev S8192x256 : Shape := ⟨2, ![8192, 256]⟩
abbrev S2x4096x16x64 : Shape := ⟨4, ![2, 4096, 16, 64]⟩
abbrev S2x4096x4x64 : Shape := ⟨4, ![2, 4096, 4, 64]⟩
abbrev S16 : Shape := ⟨1, ![16]⟩
abbrev S_ : Shape := ⟨0, ![]⟩
abbrev S2x32x128x4x4x64 : Shape := ⟨6, ![2, 32, 128, 4, 4, 64]⟩
abbrev S2x4224x4x64 : Shape := ⟨4, ![2, 4224, 4, 64]⟩
abbrev S2x33x128x4x64 : Shape := ⟨5, ![2, 33, 128, 4, 64]⟩
abbrev S2x32x128x4x64 : Shape := ⟨5, ![2, 32, 128, 4, 64]⟩
abbrev S2x32x256x4x64 : Shape := ⟨5, ![2, 32, 256, 4, 64]⟩
abbrev S2x32x4x256x128x4 : Shape := ⟨6, ![2, 32, 4, 256, 128, 4]⟩
abbrev S2x32x4x4x128x256 : Shape := ⟨6, ![2, 32, 4, 4, 128, 256]⟩
abbrev S128 : Shape := ⟨1, ![128]⟩
abbrev S128x1 : Shape := ⟨2, ![128, 1]⟩
abbrev S256 : Shape := ⟨1, ![256]⟩
abbrev S128x256 : Shape := ⟨2, ![128, 256]⟩
abbrev S32 : Shape := ⟨1, ![32]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S128x256x1 : Shape := ⟨3, ![128, 256, 1]⟩
abbrev S128x256x16 : Shape := ⟨3, ![128, 256, 16]⟩
abbrev S16x128x256 : Shape := ⟨3, ![16, 128, 256]⟩
abbrev S4x4x128x256 : Shape := ⟨4, ![4, 4, 128, 256]⟩
abbrev S1x32x1x1x128x256 : Shape := ⟨6, ![1, 32, 1, 1, 128, 256]⟩
abbrev S1x1x4x4x128x256 : Shape := ⟨6, ![1, 1, 4, 4, 128, 256]⟩
abbrev S4x4 : Shape := ⟨2, ![4, 4]⟩
abbrev S1x1x4x4x1x1 : Shape := ⟨6, ![1, 1, 4, 4, 1, 1]⟩
abbrev S2x32x4x4x128 : Shape := ⟨5, ![2, 32, 4, 4, 128]⟩
abbrev S2x32x4x4x128x1 : Shape := ⟨6, ![2, 32, 4, 4, 128, 1]⟩
abbrev S2x32x4x64x4x128 : Shape := ⟨6, ![2, 32, 4, 64, 4, 128]⟩
abbrev S2x4096x1024 : Shape := ⟨3, ![2, 4096, 1024]⟩

abbrev nBuf : Space → Nat
  | .hbm => 150
  | .vmem => 0
  | .smem => 0
  | _ => 0

abbrev hbmTy0_0 (i : Nat) : BufTy := match i % 128 with
  | 0 => ⟨S8192x9216, .bf16⟩
  | 1 => ⟨S1x16, .f32⟩
  | 2 => ⟨S32x16, .f32⟩
  | 3 => ⟨S16x512, .f32⟩
  | 4 => ⟨S1x512, .f32⟩
  | 5 => ⟨S1x256, .f32⟩
  | 6 => ⟨S1024x2048, .f32⟩
  | 7 => ⟨S1024x2048, .f32⟩
  | 8 => ⟨S2048x2048, .f32⟩
  | 9 => ⟨S2048x5632, .f32⟩
  | 10 => ⟨S2048x5632, .f32⟩
  | 11 => ⟨S5632x2048, .f32⟩
  | 12 => ⟨S8192x1024, .bf16⟩
  | 13 => ⟨S8192x1024, .f32⟩
  | 14 => ⟨S8192x256, .bf16⟩
  | 15 => ⟨S8192x256, .f32⟩
  | 16 => ⟨S8192x256, .bf16⟩
  | 17 => ⟨S8192x256, .f32⟩
  | 18 => ⟨S2x4096x16x64, .f32⟩
  | 19 => ⟨S2x4096x4x64, .f32⟩
  | 20 => ⟨S2x4096x4x64, .f32⟩
  | 21 => ⟨S16, .f32⟩
  | 22 => ⟨S_, .f32⟩
  | 23 => ⟨S2x4096x16x64, .f32⟩
  | 24 => ⟨S2x4096x16x64, .f32⟩
  | 25 => ⟨S2x32x128x4x4x64, .f32⟩
  | 26 => ⟨S_, .i32⟩
  | 27 => ⟨S_, .f32⟩
  | 28 => ⟨S2x4224x4x64, .f32⟩
  | 29 => ⟨S2x33x128x4x64, .f32⟩
  | 30 => ⟨S_, .i32⟩
  | 31 => ⟨S_, .f32⟩
  | 32 => ⟨S2x4224x4x64, .f32⟩
  | 33 => ⟨S2x33x128x4x64, .f32⟩
  | 34 => ⟨S2x32x128x4x64, .f32⟩
  | 35 => ⟨S2x32x128x4x64, .f32⟩
  | 36 => ⟨S2x32x256x4x64, .f32⟩
  | 37 => ⟨S2x32x128x4x64, .f32⟩
  | 38 => ⟨S2x32x128x4x64, .f32⟩
  | 39 => ⟨S2x32x256x4x64, .f32⟩
  | 40 => ⟨S2x32x4x256x128x4, .f32⟩
  | 41 => ⟨S2x32x4x4x128x256, .f32⟩
  | 42 => ⟨S128, .i32⟩
  | 43 => ⟨S128x1, .i32⟩
  | 44 => ⟨S_, .i32⟩
  | 45 => ⟨S128x1, .i32⟩
  | 46 => ⟨S128x1, .i32⟩
  | 47 => ⟨S256, .i32⟩
  | 48 => ⟨S1x256, .i32⟩
  | 49 => ⟨S128x256, .i32⟩
  | 50 => ⟨S128x256, .i32⟩
  | 51 => ⟨S128x256, .i32⟩
  | 52 => ⟨S_, .i32⟩
  | 53 => ⟨S128x256, .i32⟩
  | 54 => ⟨S128x256, .i1⟩
  | 55 => ⟨S_, .i32⟩
  | 56 => ⟨S128x256, .i32⟩
  | 57 => ⟨S128x256, .i1⟩
  | 58 => ⟨S128x256, .i1⟩
  | 59 => ⟨S32, .i32⟩
  | 60 => ⟨S32x1x1, .i32⟩
  | 61 => ⟨S_, .i32⟩
  | 62 => ⟨S32x1x1, .i32⟩
  | 63 => ⟨S32x1x1, .i32⟩
  | 64 => ⟨S1x1x256, .i32⟩
  | 65 => ⟨S32x1x256, .i32⟩
  | 66 => ⟨S32x1x256, .i32⟩
  | 67 => ⟨S32x1x256, .i32⟩
  | 68 => ⟨S_, .i32⟩
  | 69 => ⟨S32x1x256, .i32⟩
  | 70 => ⟨S32x1x256, .i32⟩
  | 71 => ⟨S1x128x256, .i1⟩
  | 72 => ⟨S_, .i32⟩
  | 73 => ⟨S32x1x256, .i32⟩
  | 74 => ⟨S32x1x256, .i1⟩
  | 75 => ⟨S32x128x256, .i1⟩
  | 76 => ⟨S32x128x256, .i1⟩
  | 77 => ⟨S32x128x256, .i1⟩
  | 78 => ⟨S_, .i32⟩
  | 79 => ⟨S128x256, .i32⟩
  | 80 => ⟨S128x256, .i32⟩
  | 81 => ⟨S_, .i32⟩
  | 82 => ⟨S128x256, .i32⟩
  | 83 => ⟨S128x256, .i32⟩
  | 84 => ⟨S128x256, .f32⟩
  | 85 => ⟨S_, .f32⟩
  | 86 => ⟨S128x256, .f32⟩
  | 87 => ⟨S128x256, .f32⟩
  | 88 => ⟨S128x256, .f32⟩
  | 89 => ⟨S_, .f32⟩
  | 90 => ⟨S128x256, .f32⟩
  | 91 => ⟨S128x256, .f32⟩
  | 92 => ⟨S_, .f32⟩
  | 93 => ⟨S128x256, .f32⟩
  | 94 => ⟨S128x256, .f32⟩
  | 95 => ⟨S128x256, .i32⟩
  | 96 => ⟨S_, .i32⟩
  | 97 => ⟨S128x256, .i32⟩
  | 98 => ⟨S128x256, .i32⟩
  | 99 => ⟨S_, .i32⟩
  | 100 => ⟨S128x256, .i32⟩
  | 101 => ⟨S128x256, .i32⟩
  | 102 => ⟨S_, .i32⟩
  | 103 => ⟨S128x256, .i32⟩
  | 104 => ⟨S128x256, .i1⟩
  | 105 => ⟨S128x256, .i32⟩
  | 106 => ⟨S_, .i32⟩
  | 107 => ⟨S128x256, .i32⟩
  | 108 => ⟨S128x256, .i1⟩
  | 109 => ⟨S_, .i32⟩
  | 110 => ⟨S128x256, .i32⟩
  | 111 => ⟨S128x256, .i32⟩
  | 112 => ⟨S128x256, .i32⟩
  | 113 => ⟨S128x256x1, .i32⟩
  | 114 => ⟨S128x256x16, .f32⟩
  | 115 => ⟨S16x128x256, .f32⟩
  | 116 => ⟨S4x4x128x256, .f32⟩
  | 117 => ⟨S1x32x1x1x128x256, .i1⟩
  | 118 => ⟨S1x1x4x4x128x256, .f32⟩
  | 119 => ⟨S2x32x4x4x128x256, .f32⟩
  | 120 => ⟨S2x32x4x4x128x256, .f32⟩
  | 121 => ⟨S_, .f32⟩
  | 122 => ⟨S_, .f32⟩
  | 123 => ⟨S2x32x4x4x128x256, .i1⟩
  | 124 => ⟨S2x32x4x4x128x256, .f32⟩
  | 125 => ⟨S2x32x4x4x128x256, .f32⟩
  | 126 => ⟨S4x4, .f32⟩
  | 127 => ⟨S1x1x4x4x1x1, .f32⟩
  | _ => ⟨S8192x9216, .bf16⟩

abbrev hbmTy0_1 (i : Nat) : BufTy := match i % 128 with
  | 0 => ⟨S_, .f32⟩
  | 1 => ⟨S2x32x4x4x128, .f32⟩
  | 2 => ⟨S2x32x4x4x128x1, .f32⟩
  | 3 => ⟨S2x32x4x4x128x1, .f32⟩
  | 4 => ⟨S2x32x4x4x128x1, .f32⟩
  | 5 => ⟨S2x32x4x4x128x256, .f32⟩
  | 6 => ⟨S2x32x4x4x128x256, .f32⟩
  | 7 => ⟨S2x32x4x4x128x256, .f32⟩
  | 8 => ⟨S_, .f32⟩
  | 9 => ⟨S2x32x4x4x128, .f32⟩
  | 10 => ⟨S2x32x4x4x128x1, .f32⟩
  | 11 => ⟨S2x32x4x4x128x1, .f32⟩
  | 12 => ⟨S2x32x4x4x128x1, .f32⟩
  | 13 => ⟨S2x32x4x4x128x1, .f32⟩
  | 14 => ⟨S2x32x4x4x128x1, .f32⟩
  | 15 => ⟨S2x32x4x4x128x256, .f32⟩
  | 16 => ⟨S2x32x4x4x128x256, .f32⟩
  | 17 => ⟨S2x32x4x64x4x128, .f32⟩
  | 18 => ⟨S2x32x128x4x4x64, .f32⟩
  | 19 => ⟨S2x4096x1024, .f32⟩
  | 20 => ⟨S8192x1024, .f32⟩
  | 21 => ⟨S8192x1024, .bf16⟩
  | _ => ⟨S8192x9216, .bf16⟩

abbrev hbmTy (i : Nat) : BufTy := match i / 128 with
  | 0 => hbmTy0_0 i
  | 1 => hbmTy0_1 i
  | _ => ⟨S8192x9216, .bf16⟩

abbrev bufTy : (tb : Table) → Fin (tcTables nBuf tb) → BufTy
  | .hbm, ⟨i, _⟩ => hbmTy i
  | _, _ => ⟨S8192x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_call0_v0 : Ref sig .tc := ⟨.hbm, 27, rfl⟩
abbrev main_v13 : Ref sig .tc := ⟨.hbm, 28, rfl⟩
abbrev main_v14 : Ref sig .tc := ⟨.hbm, 29, rfl⟩
abbrev main_c_0 : Ref sig .tc := ⟨.hbm, 30, rfl⟩
abbrev main_call1_v0 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_2 : Ref sig .tc := ⟨.hbm, 52, rfl⟩
abbrev main_v34 : Ref sig .tc := ⟨.hbm, 53, rfl⟩
abbrev main_v35 : Ref sig .tc := ⟨.hbm, 54, rfl⟩
abbrev main_c_3 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_4 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_5 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_6 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_7 : Ref sig .tc := ⟨.hbm, 78, rfl⟩
abbrev main_v55 : Ref sig .tc := ⟨.hbm, 79, rfl⟩
abbrev main_v56 : Ref sig .tc := ⟨.hbm, 80, rfl⟩
abbrev main_c_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_cst_11 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_15 : Ref sig .tc := ⟨.hbm, 106, rfl⟩
abbrev main_v75 : Ref sig .tc := ⟨.hbm, 107, rfl⟩
abbrev main_v76 : Ref sig .tc := ⟨.hbm, 108, rfl⟩
abbrev main_c_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_17 : Ref sig .tc := ⟨.hbm, 121, rfl⟩
abbrev main_call3_v0 : Ref sig .tc := ⟨.hbm, 122, rfl⟩
abbrev main_call3_v1 : Ref sig .tc := ⟨.hbm, 123, rfl⟩
abbrev main_call3_v2 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_cst_18 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_19 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩

abbrev nD : Nat := 1
abbrev τ : Topo := Topo.v7x

variable {F : FTy → Type} [FloatOps F]
-- ==== Merge.lean ====
abbrev S8192x1024 : Shape := ⟨2, ![8192, 1024]⟩
abbrev S8192x9216 : Shape := ⟨2, ![8192, 9216]⟩
abbrev S8192x2048 : Shape := ⟨2, ![8192, 2048]⟩
abbrev S1024x2048 : Shape := ⟨2, ![1024, 2048]⟩
abbrev S2048x2048 : Shape := ⟨2, ![2048, 2048]⟩
abbrev S1x2048 : Shape := ⟨2, ![1, 2048]⟩
abbrev S512x1024 : Shape := ⟨2, ![512, 1024]⟩
abbrev S512x4096 : Shape := ⟨2, ![512, 4096]⟩
abbrev S512x2048 : Shape := ⟨2, ![512, 2048]⟩
abbrev S512 : Shape := ⟨1, ![512]⟩
abbrev S512x1 : Shape := ⟨2, ![512, 1]⟩

abbrev nBuf : Space → Nat
  | .hbm => 15
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x9216, .bf16⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S1x2048, .f32⟩
  | .hbm, ⟨8, _⟩ => ⟨S8192x1024, .bf16⟩
  | .hbm, ⟨9, _⟩ => ⟨S8192x1024, .bf16⟩
  | .hbm, ⟨10, _⟩ => ⟨S1024x2048, .bf16⟩
  | .hbm, ⟨11, _⟩ => ⟨S1024x2048, .bf16⟩
  | .hbm, ⟨12, _⟩ => ⟨S2048x2048, .bf16⟩
  | .hbm, ⟨13, _⟩ => ⟨S8192x2048, .f32⟩
  | .hbm, ⟨14, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x4096, .bf16⟩
  | .local _ .vmem, ⟨5, _⟩ => ⟨S512x4096, .bf16⟩
  | .local _ .vmem, ⟨6, _⟩ => ⟨S512x2048, .f32⟩
  | .local _ .vmem, ⟨7, _⟩ => ⟨S512x2048, .f32⟩
  | .local _ .vmem, ⟨8, _⟩ => ⟨S1024x2048, .bf16⟩
  | .local _ .vmem, ⟨9, _⟩ => ⟨S1024x2048, .bf16⟩
  | .local _ .vmem, ⟨10, _⟩ => ⟨S2048x2048, .bf16⟩
  | .local _ .vmem, ⟨11, _⟩ => ⟨S1x2048, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== MergeReferenceIdeal.lean ====
abbrev S8192x1024 : Shape := ⟨2, ![8192, 1024]⟩
abbrev S8192x9216 : Shape := ⟨2, ![8192, 9216]⟩
abbrev S8192x2048 : Shape := ⟨2, ![8192, 2048]⟩
abbrev S1024x2048 : Shape := ⟨2, ![1024, 2048]⟩
abbrev S2048x2048 : Shape := ⟨2, ![2048, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 51
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x9216, .bf16⟩
  | .hbm, ⟨3, _⟩ => ⟨S8192x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S1x2048, .f32⟩
  | .hbm, ⟨8, _⟩ => ⟨S8192x2048, .bf16⟩
  | .hbm, ⟨9, _⟩ => ⟨S8192x2048, .f32⟩
  | .hbm, ⟨10, _⟩ => ⟨S8192x2048, .bf16⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S_, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S8192x1, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Ffn.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S2048x256 : Shape := ⟨2, ![2048, 256]⟩
abbrev S1024x256 : Shape := ⟨2, ![1024, 256]⟩
abbrev S256x2048 : Shape := ⟨2, ![256, 2048]⟩
abbrev S128x2048 : Shape := ⟨2, ![128, 2048]⟩
abbrev S128 : Shape := ⟨1, ![128]⟩
abbrev S128x1 : Shape := ⟨2, ![128, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8192x2048, .bf16⟩
  | .hbm, ⟨7, _⟩ => ⟨S2048x5632, .bf16⟩
  | .hbm, ⟨8, _⟩ => ⟨S2048x5632, .bf16⟩
  | .hbm, ⟨9, _⟩ => ⟨S5632x2048, .bf16⟩
  | .hbm, ⟨10, _⟩ => ⟨S1x2048, .f32⟩
  | .hbm, ⟨11, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .f32⟩
  | .local _ .vmem, ⟨3, _⟩ => ⟨S1024x2048, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1024x2048, .f32⟩
  | .local _ .vmem, ⟨12, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c10_i32 : BitVec 32 := 10#32
  let v39 : BitVec 1 := Scalar.cmpi .eq arg1 c10_i32
  let v40 : BitVec 32 := Scalar.extui v39
  let c0_i32_27 : BitVec 32 := 0#32
  let v41 : BitVec 1 := Scalar.cmpi .ne v40 c0_i32_27
  v41

@[reducible] def k0_t1_loop : Scf.Loop 32 :=
  let c0_i32_30 : BitVec 32 := 0#32
  let c8_i32 : BitVec 32 := 8#32
  let v44 : BitVec 32 := Scalar.addi c0_i32_30 c8_i32
  let c1_i32 : BitVec 32 := 1#32
  ⟨c0_i32_30, v44, c1_i32⟩
def k0_mult1 (k0_t1 : Fin k0_t1_loop.trips) : BitVec 32 :=
  let c0_i32_30 : BitVec 32 := 0#32
  let c1_i32 : BitVec 32 := 1#32
  let arg9 : BitVec 32 := Scf.iv c0_i32_30 c1_i32 k0_t1
  let c128_i32 : BitVec 32 := 128#32
  let v45 : BitVec 32 := Scalar.muli arg9 c128_i32
  v45
def k0_off1 (k0_t1 : Fin k0_t1_loop.trips) : Fin 2 → Nat :=
  let c0_i32_30 : BitVec 32 := 0#32
  let c1_i32 : BitVec 32 := 1#32
  let arg9 : BitVec 32 := Scf.iv c0_i32_30 c1_i32 k0_t1
  let c128_i32 : BitVec 32 := 128#32
  let v45 : BitVec 32 := Scalar.muli arg9 c128_i32
  let v46 : BitVec 32 := v45
  let v47 : Index := Scalar.indexCast v46
  let c0_32 : Index := 0#32
  ![v47.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnReferenceIdeal.lean ====
abbrev S8192x2048 : Shape := ⟨2, ![8192, 2048]⟩
abbrev S2048x5632 : Shape := ⟨2, ![2048, 5632]⟩
abbrev S5632x2048 : Shape := ⟨2, ![5632, 2048]⟩
abbrev S2048 : Shape := ⟨1, ![2048]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x5632, .f32⟩
  | .hbm, ⟨3, _⟩ => ⟨S2048x5632, .f32⟩
  | .hbm, ⟨4, _⟩ => ⟨S5632x2048, .f32⟩
  | .hbm, ⟨5, _⟩ => ⟨S2048, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S8192x5632, .f32⟩
  | .hbm, ⟨16, _⟩ => ⟨S8192x5632, .f32⟩
  | .hbm, ⟨17, _⟩ => ⟨S8192x5632, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x2048, .f32⟩
  | .hbm, ⟨32, _⟩ => ⟨S8192x2048, .f32⟩
  | .hbm, ⟨33, _⟩ => ⟨S1x2048, .f32⟩
  | .hbm, ⟨34, _⟩ => ⟨S8192x2048, .f32⟩
  | .hbm, ⟨35, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩

abbrev nD : Nat := 1
abbrev τ : Topo := Topo.v7x

variable {F : FTy → Type} [FloatOps F]
-- ==== Tail.lean ====
abbrev S8192x2048 : Shape := ⟨2, ![8192, 2048]⟩
abbrev S1x2048 : Shape := ⟨2, ![1, 2048]⟩
abbrev S9216x2048 : Shape := ⟨2, ![9216, 2048]⟩
abbrev S8192x9216 : Shape := ⟨2, ![8192, 9216]⟩
abbrev S1024x2048 : Shape := ⟨2, ![1024, 2048]⟩
abbrev S1792x2048 : Shape := ⟨2, ![1792, 2048]⟩
abbrev S1024x1792 : Shape := ⟨2, ![1024, 1792]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S9216x2048, .bf16⟩
  | .hbm, ⟨3, _⟩ => ⟨S8192x9216, .bf16⟩
  | .hbm, ⟨4, _⟩ => ⟨S8192x9216, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1792x2048, .bf16⟩
  | .local _ .vmem, ⟨4, _⟩ => ⟨S1792x2048, .bf16⟩
  | .local _ .vmem, ⟨5, _⟩ => ⟨S1024x1792, .bf16⟩
  | .local _ .vmem, ⟨6, _⟩ => ⟨S1024x1792, .bf16⟩
  | .local _ .vmem, ⟨7, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![7, 5], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_8 : BitVec 32 := 0#32
  let c2_i32 : BitVec 32 := 2#32
  let v9 : BitVec 32 := Scalar.addi c0_i32_8 c2_i32
  let c1_i32 : BitVec 32 := 1#32
  ⟨c0_i32_8, v9, c1_i32⟩
def k0_mult1 (k0_t1 : Fin k0_t1_loop.trips) : BitVec 32 :=
  let c0_i32_8 : BitVec 32 := 0#32
  let c1_i32 : BitVec 32 := 1#32
  let arg8 : BitVec 32 := Scf.iv c0_i32_8 c1_i32 k0_t1
  let c512_i32 : BitVec 32 := 512#32
  let v10 : BitVec 32 := Scalar.muli arg8 c512_i32
  v10
def k0_off1 (k0_t1 : Fin k0_t1_loop.trips) : Fin 2 → Nat :=
  let c0_i32_8 : BitVec 32 := 0#32
  let c1_i32 : BitVec 32 := 1#32
  let arg8 : BitVec 32 := Scf.iv c0_i32_8 c1_i32 k0_t1
  let c512_i32 : BitVec 32 := 512#32
  let v10 : BitVec 32 := Scalar.muli arg8 c512_i32
  let v11 : BitVec 32 := v10
  let v12 : Index := Scalar.indexCast v11
  let c0_10 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c0_i32 : BitVec 32 := 0#32
  ![v0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1792x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== TailReferenceIdeal.lean ====
abbrev S8192x2048 : Shape := ⟨2, ![8192, 2048]⟩
abbrev S1x2048 : Shape := ⟨2, ![1, 2048]⟩
abbrev S9216x2048 : Shape := ⟨2, ![9216, 2048]⟩
abbrev S8192x9216 : Shape := ⟨2, ![8192, 9216]⟩
abbrev S7168x2048 : Shape := ⟨2, ![7168, 2048]⟩
abbrev S_ : Shape := ⟨0, ![]⟩
abbrev S7168 : Shape := ⟨1, ![7168]⟩
abbrev S7168x1 : Shape := ⟨2, ![7168, 1]⟩
abbrev S8960x2048 : Shape := ⟨2, ![8960, 2048]⟩
abbrev S2048x8960 : Shape := ⟨2, ![2048, 8960]⟩
abbrev S7168x8960 : Shape := ⟨2, ![7168, 8960]⟩
abbrev S1024x9216 : Shape := ⟨2, ![1024, 9216]⟩
abbrev S7168x256 : Shape := ⟨2, ![7168, 256]⟩
abbrev S7168x9216 : Shape := ⟨2, ![7168, 9216]⟩

abbrev nBuf : Space → Nat
  | .hbm => 29
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S9216x2048, .bf16⟩
  | .hbm, ⟨3, _⟩ => ⟨S8192x9216, .bf16⟩
  | .hbm, ⟨4, _⟩ => ⟨S7168x2048, .f32⟩
  | .hbm, ⟨5, _⟩ => ⟨S7168x2048, .f32⟩
  | .hbm, ⟨6, _⟩ => ⟨S_, .f32⟩
  | .hbm, ⟨7, _⟩ => ⟨S7168, .f32⟩
  | .hbm, ⟨8, _⟩ => ⟨S7168x1, .f32⟩
  | .hbm, ⟨9, _⟩ => ⟨S_, .f32⟩
  | .hbm, ⟨10, _⟩ => ⟨S7168x1, .f32⟩
  | .hbm, ⟨11, _⟩ => ⟨S7168x1, .f32⟩
  | .hbm, ⟨12, _⟩ => ⟨S_, .f32⟩
  | .hbm, ⟨13, _⟩ => ⟨S7168x1, .f32⟩
  | .hbm, ⟨14, _⟩ => ⟨S7168x1, .f32⟩
  | .hbm, ⟨15, _⟩ => ⟨S7168x1, .f32⟩
  | .hbm, ⟨16, _⟩ => ⟨S7168x2048, .f32⟩
  | .hbm, ⟨17, _⟩ => ⟨S7168x2048, .f32⟩
  | .hbm, ⟨18, _⟩ => ⟨S7168x2048, .f32⟩
  | .hbm, ⟨19, _⟩ => ⟨S7168x2048, .f32⟩
  | .hbm, ⟨20, _⟩ => ⟨S8960x2048, .bf16⟩
  | .hbm, ⟨21, _⟩ => ⟨S8960x2048, .f32⟩
  | .hbm, ⟨22, _⟩ => ⟨S2048x8960, .f32⟩
  | .hbm, ⟨23, _⟩ => ⟨S7168x8960, .f32⟩
  | .hbm, ⟨24, _⟩ => ⟨S7168x8960, .bf16⟩
  | .hbm, ⟨25, _⟩ => ⟨S1024x9216, .bf16⟩
  | .hbm, ⟨26, _⟩ => ⟨S7168x256, .bf16⟩
  | .hbm, ⟨27, _⟩ => ⟨S7168x9216, .bf16⟩
  | .hbm, ⟨28, _⟩ => ⟨S8192x9216, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.FfnBody.lean ====
/- The feed-forward call at any float values `F`: what one grid point leaves in the result's staging block, as a
   function of the point's input blocks and of what the block held before (`stepVal`); the body's triple at both kinds
   of point (a row block's last point normalises the block row by row, in a loop); the block after every point
   (`blockAt`); and the call's run with its result array named by them (`run_main`). -/
module

public import proofs.«01_k».proof.Proof.Gen.FfnIdeal.Frame
public import proofs.«01_k».proof.Proof.Gen.FfnIdeal.Skeleton
public import Idealize.ShloMosaic.Lib.Claim
public import Idealize.ShloMosaic.Lib.Exec
public import Idealize.ShloMosaic.Lib.WritesUnit
public import Idealize.ShloMosaic.Lib.ValueIdxCore
public import Idealize.ShloMosaic.Lib.Pipeline.Value
public import Idealize.ShloMosaic.Lib.Pipeline.ValueKit.Tiles

@[expose] public section

set_option maxRecDepth 16384

noncomputable section

namespace Cert.FfnIdeal.Hand

open Cert.FfnIdeal Cert.FfnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Idealize.ShloMosaic.ValueIdx (ix2)

variable {F : FTy → Type} [FloatOps F]

local notation "𝕄" => MT nD τ sig Unit (Elt F) ℕ (UR sig nD τ) ℕ

/-! ## What a point leaves -/

theorem zeros : (![0, 0] : Fin 2 → Nat) = fun _ => 0 := funext fun a => by fin_cases a <;> rfl

/-- Rows `[128·q, 128·q + 128)` of a block (row numbers wrap past the end, which no use below reaches). -/
def rowsOf (d : Vec F S1024x2048 .f32) (q : ℕ) : Vec F S128x2048 .f32 :=
  fun j => d (ix2 (n0 := 1024) (n1 := 2048) ⟨(128 * q + (j 0).val) % 1024, Nat.mod_lt _ (by decide)⟩ (j 1))

/-- The block with its first `128·k` rows normalised, 128 rows at a time, under the gain `g`. -/
def normTo (g : Vec F S1x2048 .f32) (d : Vec F S1024x2048 .f32) (k : ℕ) : Vec F S1024x2048 .f32 := fun y =>
  if (y 0).val < 128 * k then
    k0_pay2 g (rowsOf d ((y 0).val / 128)) (ix2 (n0 := 128) (n1 := 2048) ⟨(y 0).val % 128, Nat.mod_lt _ (by decide)⟩ (y 1))
  else d y

/-- The block after the point's two additions: `o` (or the residual block `x1` where the point is its row block's
    first) plus the products of the two halves of the hidden columns. -/
def accVal (i : grid0.Coords) (x0 : Vec F S1024x2048 .bf16) (x1 : Vec F S1024x2048 .f32) (x2 x3 : Vec F S2048x512 .bf16)
    (x4 : Vec F S512x2048 .bf16) (o : Vec F S1024x2048 .f32) : Vec F S1024x2048 .f32 :=
  k0_pay1
    (k0_pay5 x0 (View.ld x2 (Rect.unit (s := S2048x512) ![0, 256] S2048x256.size inb_S2048x512_S2048x256_0_256))
      (View.ld x3 (Rect.unit (s := S2048x512) ![0, 256] S2048x256.size inb_S2048x512_S2048x256_0_256)))
    (k0_pay4 i x0 (View.ld x2 (Rect.unit (s := S2048x512) ![0, 0] S2048x256.size inb_S2048x512_S2048x256_0_0))
      (View.ld x3 (Rect.unit (s := S2048x512) ![0, 0] S2048x256.size inb_S2048x512_S2048x256_0_0)) x1 o
      (View.ld x4 (Rect.unit (s := S512x2048) ![0, 0] S256x2048.size inb_S512x2048_S256x2048_0_0)))
    (View.ld x4 (Rect.unit (s := S512x2048) ![256, 0] S256x2048.size inb_S512x2048_S256x2048_256_0))

/-- The body normalises at this point: the last hidden block. -/
abbrev lastHidden (i : grid0.Coords) : Prop := k0_cond1 i = 1#1

/-- It is the point's hidden-block coordinate being ten. -/
theorem lastHidden_iff : ∀ t : Fin cfg0.N, lastHidden (grid0.coords t) ↔ t.val % 11 = 10 :=
  (fun t => by
    have ht : t.val < 88 := Nat.lt_of_lt_of_eq t.isLt N_0
    have e0 : (grid0.coords t 0).val = t.val / 11 % 8 := Pipeline.Grid.coords_val t 0 (by decide) rfl
    have e1 : (grid0.coords t 1).val = t.val / 1 % 11 := Pipeline.Grid.coords_val t 1 (by decide) rfl
    simp only [lastHidden, k0_cond1, e0, e1]
    word_cmp : ∀ t : Fin grid0.N, lastHidden (grid0.coords t) ↔ t.val % 11 = 10)

open Classical in
/-- What the body leaves in the result's block, the block holding `o` before. -/
def stepVal (i : grid0.Coords) (x0 : Vec F S1024x2048 .bf16) (x1 : Vec F S1024x2048 .f32) (x2 x3 : Vec F S2048x512 .bf16)
    (x4 : Vec F S512x2048 .bf16) (x5 : Vec F S1x2048 .f32) (o : Vec F S1024x2048 .f32) : Vec F S1024x2048 .f32 :=
  if lastHidden i then normTo x5 (accVal i x0 x1 x2 x3 x4 o) 8 else accVal i x0 x1 x2 x3 x4 o

/-! ## Reading a buffer back after its stores -/

/-- A last store over the whole buffer leaves its payload. -/
theorem read_whole {s : Shape} {e : EltTy} {κ : Kind} {sp : Space} (v : View sig κ sp s e) (f : v.ty.Contents (Elt F))
    {off : Fin s.rank → Nat} (h : off = fun _ => 0) (inb : ∀ a, off a + s.size a ≤ s.size a) (w : s.Idx → Elt F e)
    (L : List (View.Piece (Elt F) s e)) :
    v.read (Elt F) (v.writes (Elt F) f ((⟨Rect.unit off s.size inb, w⟩ : View.Piece (Elt F) s e) :: L)) = w := by
  funext y
  exact View.read_writes_cons_unit_of_mem v f inb w L y y h (fun a => (Nat.zero_add _).symm)

/-- Normalising the `k`-th 128 rows of a block whose earlier rows are normalised: one more group of rows is. -/
theorem norm_step (g : Vec F S1x2048 .f32) (d : Vec F S1024x2048 .f32) (arg8 : Memref sig .tc .vmem S1024x2048 .f32)
    (harg8 : arg8.IsWhole) (k : ℕ) (hk : k < 8) {off : Fin 2 → Nat} (hoff : off = ![128 * k, 0])
    (inb : ∀ a, off a + S128x2048.size a ≤ S1024x2048.size a) :
    arg8.view.writes (Elt F) (harg8.unread (normTo g d k))
        [⟨Rect.unit (s := S1024x2048) off S128x2048.size inb, k0_pay2 g (arg8.view.readAt (Elt F)
          (Rect.unit (s := S1024x2048) off S128x2048.size inb).toLoadRect (harg8.unread (normTo g d k)))⟩]
      = harg8.unread (normTo g d (k + 1)) := by
  subst hoff
  refine harg8.eq_unread ?_
  have hrows : arg8.view.readAt (Elt F) (Rect.unit (s := S1024x2048) ![128 * k, 0] S128x2048.size inb).toLoadRect
      (harg8.unread (normTo g d k)) = rowsOf d k := by
    rw [View.readAt_eq_ld, harg8.read_unread]
    funext j
    have h0 : (j 0).val < 128 := (j 0).isLt
    rw [View.ld_unit_apply_of _ _ _ _ j (ix2 (n0 := 1024) (n1 := 2048) ⟨(128 * k + (j 0).val) % 1024, Nat.mod_lt _ (by decide)⟩ (j 1))]
    · unfold normTo rowsOf
      rw [if_neg]
      show ¬((128 * k + (j 0).val) % 1024 < 128 * k)
      omega
    · intro a
      match a with
      | ⟨0, _⟩ => show (128 * k + (j 0).val) % 1024 = 128 * k + (j 0).val; omega
      | ⟨1, _⟩ => show (j 1).val = 0 + (j 1).val; omega
  rw [hrows]
  funext y
  have hy : (y 0).val < 1024 := (y 0).isLt
  rw [View.read_writes_cons_rows arg8.view _ inb _ [] y (o := 128 * k) (W := 128) rfl rfl rfl]
  by_cases h : 128 * k ≤ (y 0).val ∧ (y 0).val < 128 * k + 128
  · rw [dif_pos h]
    unfold normTo
    rw [if_pos (by omega), show (y 0).val / 128 = k by omega]
    congr 1
    funext a
    apply Fin.ext
    rw [Rect.unitLocal_val]
    match a with
    | ⟨0, _⟩ => show (y 0).val - 128 * k = (y 0).val % 128; omega
    | ⟨1, _⟩ => show (y 1).val - 0 = (y 1).val; omega
  · rw [dif_neg h, View.writes_nil, harg8.read_unread]
    unfold normTo
    by_cases h2 : (y 0).val < 128 * k
    · rw [if_pos h2, if_pos (by omega)]
    · rw [if_neg h2, if_neg (by omega)]

/-! ## The normalising loop -/

section Loop

variable (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole) (k0_h1 : k0_cond1 i = 1#1) (v35 : Vec F S1x2048 .f32)

/-- Before trip `k` the block is the one at the loop's start with its first `128·k` rows normalised. -/
abbrev normInv (d : Vec F S1024x2048 .f32) (k : ℕ) : sProp 𝕄 :=
  iprop(arg8.view.loc (c : Thread nD τ) ↦[arg8.view.set]{fullShare} harg8.unread (normTo v35 d k))

/-- One trip normalises the next 128 rows. -/
theorem norm_trip (E : Set ℕ) (d : Vec F S1024x2048 .f32) (k : Fin k0_t1_loop.trips) :
    normInv c arg8 harg8 v35 d k.val
      ⊢ wp frame (wpE (defs₀ (F := F)) Variants.none (c : Thread nD τ) none) E
        (k0_t1_body (F := F) i arg2 harg2 arg3 harg3 arg4 harg4 arg5 harg5 arg6 harg6 arg7 harg7 arg8 harg8 k0_h1 v35 k PUnit.unit)
        (fun _ => normInv c arg8 harg8 v35 d (k.val + 1)) := by
  have hk : k.val < 8 := Nat.lt_of_lt_of_le k.isLt k0_t1_abs.2.1
  unfold k0_t1_body normInv
  rw [← norm_step v35 d arg8 harg8 k.val hk (k0_off1_eq k) (k0_off1_inb i k k0_h1)]
  iintro H
  sl_exec
  sl_step
  iexact H

/-- The buffer before trip `k`, the loop entered at `f`. -/
def loopBuf (f : BufTy.Contents (Elt F) arg8.view.ty) : ℕ → BufTy.Contents (Elt F) arg8.view.ty
  | 0 => f
  | k + 1 => harg8.unread (normTo v35 (arg8.view.read (Elt F) f) (k + 1))

theorem loopBuf_eq (f : BufTy.Contents (Elt F) arg8.view.ty) (k : ℕ) :
    loopBuf arg8 harg8 v35 f k = harg8.unread (normTo v35 (arg8.view.read (Elt F) f) k) := by
  cases k with
  | zero =>
    refine harg8.eq_unread ?_
    show arg8.view.read (Elt F) f = _
    funext y
    unfold normTo
    rw [if_neg (by omega)]
  | succ k => rfl

set_option warn.classDefReducibility false in
/-- The loop by its invariant. -/
@[sl_loop] def normLoop (E : Set ℕ) (f : BufTy.Contents (Elt F) arg8.view.ty) :
    Idealize.ShloMosaic.LoopInv (M := 𝕄) Idealize.ShloMosaic.frame (wpE (defs₀ (F := F)) Variants.none (c : Thread nD τ) none) E
      k0_t1_loop.lb k0_t1_loop.ub k0_t1_loop.st (k0_t1_ok i k0_h1) ()
      (k0_t1_body (F := F) i arg2 harg2 arg3 harg3 arg4 harg4 arg5 harg5 arg6 harg6 arg7 harg7 arg8 harg8 k0_h1 v35) where
  inv k _ := iprop(∃ f', (arg8.view.loc (c : Thread nD τ) ↦[arg8.view.set]{fullShare} f')
    ∗ ⌜f' = loopBuf arg8 harg8 v35 f k⌝)
  step k acc := by
    rw [loopBuf_eq, loopBuf_eq]
    iintro ⟨%f', H, %h⟩
    subst h
    iapply (wp_wand_r Idealize.ShloMosaic.frame (wpE (defs₀ (F := F)) Variants.none (c : Thread nD τ) none) E)
    isplitl [H]
    · iapply (norm_trip c i arg2 harg2 arg3 harg3 arg4 harg4 arg5 harg5 arg6 harg6 arg7 harg7 arg8 harg8 k0_h1 v35 E _ k)
      iexact H
    · iintro %_ H
      iexists _; isplitl [H]; · iexact H
      ipureintro; rfl

end Loop

/-! ## The body -/

section Body

variable (c : Dev nD) (i : grid0.Coords) (arg2 : Memref sig .tc .vmem S1024x2048 .bf16) (harg2 : arg2.IsWhole) (arg3 : Memref sig .tc .vmem S1024x2048 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S512x2048 .bf16) (harg6 : arg6.IsWhole) (arg7 : Memref sig .tc .vmem S1x2048 .f32) (harg7 : arg7.IsWhole) (arg8 : Memref sig .tc .vmem S1024x2048 .f32) (harg8 : arg8.IsWhole)
  (x0 : Vec F S1024x2048 .bf16) (x1 : Vec F S1024x2048 .f32) (x2 : Vec F S2048x512 .bf16) (x3 : Vec F S2048x512 .bf16) (x4 : Vec F S512x2048 .bf16) (x5 : Vec F S1x2048 .f32) (o : Vec F S1024x2048 .f32)

/-- The inputs' staging buffers at their contents. -/
abbrev inputs : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ owns (c : Thread nD τ) arg7 fullShare x5)

set_option maxHeartbeats 1000000 in
/-- The body at a point that does not normalise. -/
theorem body_add (hc : ¬lastHidden i) (E : Set ℕ) (K : PUnit → sProp 𝕄) :
    iprop(inputs c arg2 arg3 arg4 arg5 arg6 arg7 x0 x1 x2 x3 x4 x5 ∗ owns (c : Thread nD τ) arg8 fullShare o
        ∗ (iprop(inputs c arg2 arg3 arg4 arg5 arg6 arg7 x0 x1 x2 x3 x4 x5
            ∗ owns (c : Thread nD τ) arg8 fullShare (accVal i x0 x1 x2 x3 x4 o)) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  simp only [k0_part1_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  iexists _; isplitr; swap; · iexact H6
  ipureintro
  rw [read_whole _ _ zeros]
  sl_unfold_words
  unfold accVal
  simp only [View.readAt_eq_ld, harg2.read_unread, harg3.read_unread, harg4.read_unread, harg5.read_unread, harg6.read_unread,
    harg8.read_unread, View.ld_unit_zero (S := S1024x2048) zeros, View.readCov_unit_zero (S := S1024x2048) _ zeros]

set_option maxHeartbeats 1000000 in
/-- The body at a point that normalises. -/
theorem body_norm (hc : lastHidden i) (E : Set ℕ) (K : PUnit → sProp 𝕄) :
    iprop(inputs c arg2 arg3 arg4 arg5 arg6 arg7 x0 x1 x2 x3 x4 x5 ∗ owns (c : Thread nD τ) arg8 fullShare o
        ∗ (iprop(inputs c arg2 arg3 arg4 arg5 arg6 arg7 x0 x1 x2 x3 x4 x5
            ∗ owns (c : Thread nD τ) arg8 fullShare (normTo x5 (accVal i x0 x1 x2 x3 x4 o) 8)) -∗ K ⟨⟩))
      ⊢ wp frame (wpE (defs₀ (F := F)) Variants.none c none) E (cc0_ffn i arg2 harg2 arg3 harg3 arg4 harg4 arg5 harg5 arg6 harg6 arg7 harg7 arg8 harg8) K := by
  simp only [cc0_ffn_eq_skeleton]; unfold cc0_ffn_skel
  simp only [k0_part1_eq_skeleton]
  unfold inputs owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩⟩, ⟨%f6, %hf6, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc)
  sl_step
  iapply Hk
  isplitl [H0 H1 H2 H3 H4 H5]
  · isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; isplitr; · ipureintro; exact harg7.read_unread _
    iexact H5
  iexists _; isplitr; swap; · iexact H6
  ipureintro
  rw [loopBuf_eq, harg8.read_unread, View.readAt_eq_ld, harg7.read_unread, View.ld_unit_zero (S := S1x2048) zeros,
    show Scf.trips k0_t1_loop.lb k0_t1_loop.ub k0_t1_loop.st = 8 by decide +kernel]
  refine congrArg (fun d => normTo x5 d 8) ?_
  refine (read_whole arg8.view _ zeros _ _ _).trans ?_
  sl_unfold_words
  unfold accVal
  simp only [View.readAt_eq_ld, harg2.read_unread, harg3.read_unread, harg4.read_unread, harg5.read_unread, harg6.read_unread,
    harg8.read_unread, View.ld_unit_zero (S := S1024x2048) zeros, View.readCov_unit_zero (S := S1024x2048) _ zeros]

/-- The body at any point leaves `stepVal` of what the block held. -/
theorem body_step (E : Set ℕ) (K : PUnit → sProp 𝕄) :
    iprop(inputs c arg2 arg3 arg4 arg5 arg6 arg7 x0 x1 x2 x3 x4 x5 ∗ owns (c : Thread nD τ) arg8 fullShare o
        ∗ (iprop(inputs c arg2 arg3 arg4 arg5 arg6 arg7 x0 x1 x2 x3 x4 x5
            ∗ owns (c : Thread nD τ) arg8 fullShare (stepVal i x0 x1 x2 x3 x4 x5 o)) -∗ K ⟨⟩))
      ⊢ wp frame (wpE (defs₀ (F := F)) Variants.none c none) E (cc0_ffn i arg2 harg2 arg3 harg3 arg4 harg4 arg5 harg5 arg6 harg6 arg7 harg7 arg8 harg8) K := by
  unfold stepVal
  by_cases hc : lastHidden i
  · rw [if_pos hc]; exact body_norm c i _ _ _ _ _ _ _ _ _ _ _ _ _ _ x0 x1 x2 x3 x4 x5 o hc E K
  · rw [if_neg hc]; exact body_add c i _ _ _ _ _ _ _ _ _ _ _ _ _ _ x0 x1 x2 x3 x4 x5 o hc E K

end Body

/-! ## The first point of a row block forgets what the block held -/

theorem firstWord (t : Fin cfg0.N) :
    Scalar.cmpi .eq (BitVec.ofNat 32 (grid0.coords t 1).val) 0#32 = if t.val % 11 = 0 then 1#1 else 0#1 := by
  have e1 : (grid0.coords t 1).val = t.val / 1 % 11 := Pipeline.Grid.coords_val t 1 (by decide) rfl
  have h : t.val % 11 < 11 := Nat.mod_lt _ (by decide)
  rw [e1, Nat.div_one]
  generalize t.val % 11 = n at h ⊢
  interval_cases n <;> rfl

/-- The base the point adds to: the residual block at a row block's first point, the block as it was elsewhere. -/
def baseVal (t : Fin cfg0.N) (x1 o : Vec F S1024x2048 .f32) : Vec F S1024x2048 .f32 := if t.val % 11 = 0 then x1 else o

theorem base_eq (t : Fin cfg0.N) (x1 o : Vec F S1024x2048 .f32) :
    Scalar.select (Scalar.cmpi .eq (BitVec.ofNat 32 (grid0.coords t 1).val) 0#32) x1 o = baseVal t x1 o := by
  rw [firstWord]
  unfold baseVal
  by_cases h : t.val % 11 = 0
  · rw [if_pos h, if_pos h]; rfl
  · rw [if_neg h, if_neg h]; rfl

theorem accVal_first (t : Fin cfg0.N) (ht : t.val % 11 = 0) (x0 : Vec F S1024x2048 .bf16) (x1 : Vec F S1024x2048 .f32)
    (x2 x3 : Vec F S2048x512 .bf16) (x4 : Vec F S512x2048 .bf16) (o o' : Vec F S1024x2048 .f32) :
    accVal (grid0.coords t) x0 x1 x2 x3 x4 o = accVal (grid0.coords t) x0 x1 x2 x3 x4 o' := by
  unfold accVal k0_pay4
  simp only [base_eq, baseVal, if_pos ht]

theorem stepVal_first (t : Fin cfg0.N) (ht : t.val % 11 = 0) (x0 : Vec F S1024x2048 .bf16) (x1 : Vec F S1024x2048 .f32)
    (x2 x3 : Vec F S2048x512 .bf16) (x4 : Vec F S512x2048 .bf16) (x5 : Vec F S1x2048 .f32) (o o' : Vec F S1024x2048 .f32) :
    stepVal (grid0.coords t) x0 x1 x2 x3 x4 x5 o = stepVal (grid0.coords t) x0 x1 x2 x3 x4 x5 o' := by
  unfold stepVal; rw [accVal_first t ht x0 x1 x2 x3 x4 o o']

/-! ## The block after every point, and the call's run -/

variable (m : (ℓ : Loc nD τ sig) → Buf (Elt F) ℓ) (ρ : Dev nD → PrngReg)

/-- The point's step on its own input blocks. -/
def stepAt (c : Dev nD) (t : Fin cfg0.N) (o : Vec F S1024x2048 .f32) : Vec F S1024x2048 .f32 :=
  stepVal (grid0.coords t) (iblk m c 0 t) (iblk m c 1 t) (iblk m c 2 t) (iblk m c 3 t) (iblk m c 4 t) (iblk m c 5 t) o

/-- The result's staging block after point `n`. -/
def blockAt (c : Dev nD) : (n : ℕ) → n < cfg0.N → Vec F S1024x2048 .f32
  | 0, h => stepAt m c ⟨0, h⟩ (iblk m c 1 ⟨0, h⟩)
  | n + 1, h => stepAt m c ⟨n + 1, h⟩ (blockAt c n (Nat.lt_of_succ_lt h))

/-- The pipeline's proof data: inputs in place, the result's block as `blockAt` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockAt m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = blockAt m c t.val t.isLt := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- Whatever the result's block holds when the body starts, the point's step leaves `blockAt`: at a row block's first
    point it is read by nothing, elsewhere it is the point before's. -/
theorem step_before (c : Dev nD) (t : Fin cfg0.N) (d) :
    stepAt m c t ((dats m 0 c).before 6 t d) = blockAt m c t.val t.isLt := by
  obtain ⟨n, hn⟩ := t
  cases n with
  | zero => exact stepVal_first ⟨0, hn⟩ rfl _ _ _ _ _ _ _ _
  | succ n =>
    by_cases h : (n + 1) % 11 = 0
    · exact stepVal_first ⟨n + 1, hn⟩ h _ _ _ _ _ _ _ _
    · rw [(dats m 0 c).before_out_kept 6 rfl ⟨n + 1, hn⟩ (Nat.succ_ne_zero n)
        (by
          rw [Bool.eq_false_iff]
          intro hf
          have h10 := (flush0_6 _).mp hf
          simp only [Nat.add_sub_cancel] at h10
          omega) (fun _ => rfl) (fun _ _ => rfl) d, after_6]
      rfl

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at every point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  rw [← step_before m c t d6]
  iapply (body_step c (grid0.coords t) _ _ _ _ _ _ _ _ _ _ _ _ _ _ (iblk m c 0 t) (iblk m c 1 t) (iblk m c 2 t) (iblk m c 3 t) (iblk m c 4 t) (iblk m c 5 t) _ Set.univ _)
  unfold inputs
  isplitl [H0 H1 H2 H3 H4 H5]
  · isplitl [H0]; · iexact H0
    isplitl [H1]; · iexact H1
    isplitl [H2]; · iexact H2
    isplitl [H3]; · iexact H3
    isplitl [H4]; · iexact H4
    iexact H5
  isplitl [H6]; · iexact H6
  iintro ⟨⟨H0, H1, H2, H3, H4, H5⟩, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The call's run: the arrays end as the proof data says, every semaphore at zero. -/
theorem run_main_quiescent : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The frame, at any float values: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.FfnIdeal.Hand

end
-- ==== Proof.FfnValue.lean ====
/- The feed-forward call at exact arithmetic: the block after every point is a partial sum over the hidden columns
   (`blockAt_apply`), so the result array is the layer's feed-forward and norm (`final`), which is what the reference's
   run ends with (`reference_run`); from these the claim `algebraic`. -/
module

public import proofs.«01_k».proof.Proof.FfnBody
public import proofs.«01_k».proof.Proof.Gen.FfnReferenceIdeal.Run
public import Idealize.ShloMosaic.Lib.Pointwise
public import Idealize.ShloMosaic.Lib.IdealHost

@[expose] public section

set_option maxRecDepth 16384

noncomputable section

namespace Cert.FfnIdeal.Hand

open Cert.FfnIdeal Cert.FfnIdeal.Gen
open Idealize.ShloMosaic Idealize.ShloMosaic.TcCoe
open Idealize.SL.Sem
open Idealize.ShloMosaic.Pipeline (Dat Cfg Window cellOf)

/-! ## The mathematics -/

section Math

variable (z : S8192x2048.Idx → EReal) (h : S8192x2048.Idx → EReal) (wg wu : S2048x5632.Idx → EReal) (wd : S5632x2048.Idx → EReal)
  (g : S2048.Idx → EReal)

/-- The hidden activation: `silu(z·wg) · (z·wu)` at row `r`, hidden column `k`. -/
def hidden (r : Fin 8192) (k : Fin 5632) : EReal :=
  (∑ q : Fin 2048, z (ix2 r q) * wg (ix2 q k)) * Ideal.logistic (∑ q : Fin 2048, z (ix2 r q) * wg (ix2 q k))
    * ∑ q : Fin 2048, z (ix2 r q) * wu (ix2 q k)

/-- Hidden column `k`'s addend to entry `(r, n)`. -/
def addend (r : Fin 8192) (n : Fin 2048) (k : ℕ) : EReal :=
  hidden z wg wu r ⟨k % 5632, Nat.mod_lt _ (by decide)⟩ * wd (ix2 ⟨k % 5632, Nat.mod_lt _ (by decide)⟩ n)

/-- Entry `(r, n)` after the first `K` hidden columns. -/
def partialSum (r : Fin 8192) (n : Fin 2048) (K : ℕ) : EReal := h (ix2 r n) + ∑ k ∈ Finset.range K, addend z wg wu wd r n k

/-- The residual plus the feed-forward. -/
def feedForward (r : Fin 8192) (n : Fin 2048) : EReal := h (ix2 r n) + ∑ k : Fin 5632, hidden z wg wu r k * wd (ix2 k n)

/-- A row under root-mean-square normalisation and gain. -/
def normedRow (row : Fin 2048 → EReal) (n : Fin 2048) : EReal :=
  row n * Ideal.rsqrt (Ideal.div (∑ x : Fin 2048, row x * row x) (Ideal.ofBits FTy.f32 1157627904#32) + Ideal.ofBits FTy.f32 897988541#32)
    * g (ix1 n)

theorem partialSum_all (r : Fin 8192) (n : Fin 2048) : partialSum z h wg wu wd r n 5632 = feedForward z h wg wu wd r n := by
  unfold partialSum feedForward
  rw [Finset.sum_range]
  refine congrArg _ (Finset.sum_congr rfl fun k _ => ?_)
  have hk : (⟨k.val % 5632, Nat.mod_lt _ (by decide)⟩ : Fin 5632) = k := Fin.ext (Nat.mod_eq_of_lt k.isLt)
  unfold addend
  rw [hk]

/-- One point's two groups of 256 hidden columns extend the partial sum by 512. -/
theorem partialSum_step (r : Fin 8192) (n : Fin 2048) (K : ℕ) (x : EReal) (hx : x = partialSum z h wg wu wd r n K) :
    x + ∑ k : Fin 256, addend z wg wu wd r n (K + k.val) + ∑ k : Fin 256, addend z wg wu wd r n (K + (256 + k.val))
      = partialSum z h wg wu wd r n (K + 512) := by
  subst hx
  unfold partialSum
  rw [show K + 512 = (K + 256) + 256 from rfl, Finset.sum_range_add, Finset.sum_range_add, ← Finset.sum_range (fun k => addend z wg wu wd r n (K + k)),
    ← Finset.sum_range (fun k => addend z wg wu wd r n (K + (256 + k)))]
  simp only [add_assoc]

end Math

/-! ## The payloads at an index -/

/-- The normalising payload normalises its rows. -/
theorem norm_apply (g : Vec Ideal S1x2048 .f32) (d : Vec Ideal S128x2048 .f32) (p : Fin 128) (n : Fin 2048) :
    k0_pay2 g d (ix2 p n) = normedRow (fun j => g (ix2 0 (j 0))) (fun x => d (ix2 p x)) n := by
  unfold normedRow
  pointwise [k0_pay2]

/-- The point's accumulation at an index. -/
theorem accVal_apply (t : Fin cfg0.N) (x0 : Vec Ideal S1024x2048 .bf16) (x1 : Vec Ideal S1024x2048 .f32) (x2 x3 : Vec Ideal S2048x512 .bf16)
    (x4 : Vec Ideal S512x2048 .bf16) (o : Vec Ideal S1024x2048 .f32) (p : Fin 1024) (n : Fin 2048) :
    accVal (grid0.coords t) x0 x1 x2 x3 x4 o (ix2 p n) = (if t.val % 11 = 0 then x1 (ix2 p n) else o (ix2 p n))
      + ∑ x : Fin 256, ((∑ q : Fin 2048, x0 (ix2 p q) * x2 (ix2 q ⟨x.val, by omega⟩)) *
                Ideal.logistic (∑ q : Fin 2048, x0 (ix2 p q) * x2 (ix2 q ⟨x.val, by omega⟩)) *
              ∑ q : Fin 2048, x0 (ix2 p q) * x3 (ix2 q ⟨x.val, by omega⟩)) * x4 (ix2 ⟨x.val, by omega⟩ n)
      + ∑ x : Fin 256, ((∑ q : Fin 2048, x0 (ix2 p q) * x2 (ix2 q ⟨256 + x.val, by omega⟩)) *
                Ideal.logistic (∑ q : Fin 2048, x0 (ix2 p q) * x2 (ix2 q ⟨256 + x.val, by omega⟩)) *
              ∑ q : Fin 2048, x0 (ix2 p q) * x3 (ix2 q ⟨256 + x.val, by omega⟩)) * x4 (ix2 ⟨256 + x.val, by omega⟩ n) := by
  rw [show (if t.val % 11 = 0 then x1 (ix2 p n) else o (ix2 p n))
      = Scalar.select (Scalar.cmpi .eq (BitVec.ofNat 32 (grid0.coords t 1).val) 0#32) (x1 (ix2 p n)) (o (ix2 p n)) by
    rw [firstWord]
    by_cases h : t.val % 11 = 0
    · rw [if_pos h, if_pos h]; rfl
    · rw [if_neg h, if_neg h]; rfl]
  pointwise [accVal, k0_pay1, k0_pay3, k0_pay4, k0_pay5]

/-! ## The blocks a point reads -/

variable (m : (ℓ : Loc nD τ sig) → Buf (Elt Ideal) ℓ) (ρ : Dev nD → PrngReg)

/-- The host's reshape before the call: the gain as one row. -/
theorem gain_eq (c : Dev nD) : (V m c main_v4 : Vec Ideal S1x2048 .f32) = fun j => m ((c.tc : Thread nD τ).loc main_arg5) (ix1 (j 1)) := by
  funext j
  show (StableHlo.after hostOps0 (fun b => m (c, b)) main_v4 : Vec Ideal S1x2048 .f32) j = _
  simp only [hostOps0]
  after_results_simp
  idx_vars j
  pointwise

/-- The host's cast before the call, exact: the normed input. -/
theorem V_main_v0 (c : Dev nD) : (V m c main_v0 : Vec Ideal S8192x2048 .bf16) = m ((c.tc : Thread nD τ).loc main_arg0) := by
  show (StableHlo.after hostOps0 (fun b => m (c, b)) main_v0 : Vec Ideal S8192x2048 .bf16) = _
  simp only [hostOps0]
  after_results_simp
  rfl

/-- The host's cast before the call, exact: the gate weights. -/
theorem V_main_v1 (c : Dev nD) : (V m c main_v1 : Vec Ideal S2048x5632 .bf16) = m ((c.tc : Thread nD τ).loc main_arg2) := by
  show (StableHlo.after hostOps0 (fun b => m (c, b)) main_v1 : Vec Ideal S2048x5632 .bf16) = _
  simp only [hostOps0]
  after_results_simp
  rfl

/-- The host's cast before the call, exact: the up weights. -/
theorem V_main_v2 (c : Dev nD) : (V m c main_v2 : Vec Ideal S2048x5632 .bf16) = m ((c.tc : Thread nD τ).loc main_arg3) := by
  show (StableHlo.after hostOps0 (fun b => m (c, b)) main_v2 : Vec Ideal S2048x5632 .bf16) = _
  simp only [hostOps0]
  after_results_simp
  rfl

/-- The host's cast before the call, exact: the down weights. -/
theorem V_main_v3 (c : Dev nD) : (V m c main_v3 : Vec Ideal S5632x2048 .bf16) = m ((c.tc : Thread nD τ).loc main_arg4) := by
  show (StableHlo.after hostOps0 (fun b => m (c, b)) main_v3 : Vec Ideal S5632x2048 .bf16) = _
  simp only [hostOps0]
  after_results_simp
  rfl

/-- The point's block of the normed input: its row block. -/
theorem z_block (c : Dev nD) (t : Fin cfg0.N) (p : Fin 1024) (q : Fin 2048) :
    (iblk m c 0 t : Vec Ideal S1024x2048 .bf16) (ix2 p q)
      = m ((c.tc : Thread nD τ).loc main_arg0) (ix2 (n0 := 8192) (n1 := 2048) ⟨(1024 * (t.val / 11) + p.val) % 8192, Nat.mod_lt _ (by decide)⟩ q) := by
  have hi : win0_0.index t 0 = (t.val / 11) ∧ win0_0.index t 1 = 0 :=
    (by decide +kernel : ∀ t : Fin grid0.N, win0_0.index t 0 = (t.val / 11) ∧ win0_0.index t 1 = 0) t
  have ht : t.val < 88 := Nat.lt_of_lt_of_eq t.isLt N_0
  unfold iblk
  rw [View.read_apply]
  show (V m c main_v0 : Vec Ideal S8192x2048 .bf16) _ = m (c.tc.loc main_arg0) _
  rw [V_main_v0]
  refine congrArg (m (c.tc.loc main_arg0)) ?_
  funext a
  apply Fin.ext
  match a with
  | ⟨0, _⟩ => show win0_0.index t 0 * 1024 + 1 * p.val = (1024 * (t.val / 11) + p.val) % 8192; rw [hi.1]; omega
  | ⟨1, _⟩ => show win0_0.index t 1 * 2048 + 1 * q.val = q.val; rw [hi.2]; omega

/-- The point's block of the residual: its row block. -/
theorem h_block (c : Dev nD) (t : Fin cfg0.N) (p : Fin 1024) (q : Fin 2048) :
    (iblk m c 1 t : Vec Ideal S1024x2048 .f32) (ix2 p q)
      = m ((c.tc : Thread nD τ).loc main_arg1) (ix2 (n0 := 8192) (n1 := 2048) ⟨(1024 * (t.val / 11) + p.val) % 8192, Nat.mod_lt _ (by decide)⟩ q) := by
  have hi : win0_1.index t 0 = (t.val / 11) ∧ win0_1.index t 1 = 0 :=
    (by decide +kernel : ∀ t : Fin grid0.N, win0_1.index t 0 = (t.val / 11) ∧ win0_1.index t 1 = 0) t
  have ht : t.val < 88 := Nat.lt_of_lt_of_eq t.isLt N_0
  unfold iblk
  rw [View.read_apply]
  show V m c main_arg1 _ = m (c.tc.loc main_arg1) _
  rw [V_main_arg1]
  congr 1
  funext a
  apply Fin.ext
  match a with
  | ⟨0, _⟩ => show win0_1.index t 0 * 1024 + 1 * p.val = (1024 * (t.val / 11) + p.val) % 8192; rw [hi.1]; omega
  | ⟨1, _⟩ => show win0_1.index t 1 * 2048 + 1 * q.val = q.val; rw [hi.2]; omega

/-- The point's block of the gate weights: its hidden columns. -/
theorem wg_block (c : Dev nD) (t : Fin cfg0.N) (p : Fin 2048) (q : Fin 512) :
    (iblk m c 2 t : Vec Ideal S2048x512 .bf16) (ix2 p q)
      = m ((c.tc : Thread nD τ).loc main_arg2) (ix2 (n0 := 2048) (n1 := 5632) p ⟨(512 * (t.val % 11) + q.val) % 5632, Nat.mod_lt _ (by decide)⟩) := by
  have hi : win0_2.index t 0 = 0 ∧ win0_2.index t 1 = (t.val % 11) :=
    (by decide +kernel : ∀ t : Fin grid0.N, win0_2.index t 0 = 0 ∧ win0_2.index t 1 = (t.val % 11)) t
  have ht : t.val < 88 := Nat.lt_of_lt_of_eq t.isLt N_0
  unfold iblk
  rw [View.read_apply]
  show (V m c main_v1 : Vec Ideal S2048x5632 .bf16) _ = m (c.tc.loc main_arg2) _
  rw [V_main_v1]
  refine congrArg (m (c.tc.loc main_arg2)) ?_
  funext a
  apply Fin.ext
  match a with
  | ⟨0, _⟩ => show win0_2.index t 0 * 2048 + 1 * p.val = p.val; rw [hi.1]; omega
  | ⟨1, _⟩ => show win0_2.index t 1 * 512 + 1 * q.val = (512 * (t.val % 11) + q.val) % 5632; rw [hi.2]; omega

/-- The point's block of the up weights: its hidden columns. -/
theorem wu_block (c : Dev nD) (t : Fin cfg0.N) (p : Fin 2048) (q : Fin 512) :
    (iblk m c 3 t : Vec Ideal S2048x512 .bf16) (ix2 p q)
      = m ((c.tc : Thread nD τ).loc main_arg3) (ix2 (n0 := 2048) (n1 := 5632) p ⟨(512 * (t.val % 11) + q.val) % 5632, Nat.mod_lt _ (by decide)⟩) := by
  have hi : win0_3.index t 0 = 0 ∧ win0_3.index t 1 = (t.val % 11) :=
    (by decide +kernel : ∀ t : Fin grid0.N, win0_3.index t 0 = 0 ∧ win0_3.index t 1 = (t.val % 11)) t
  have ht : t.val < 88 := Nat.lt_of_lt_of_eq t.isLt N_0
  unfold iblk
  rw [View.read_apply]
  show (V m c main_v2 : Vec Ideal S2048x5632 .bf16) _ = m (c.tc.loc main_arg3) _
  rw [V_main_v2]
  refine congrArg (m (c.tc.loc main_arg3)) ?_
  funext a
  apply Fin.ext
  match a with
  | ⟨0, _⟩ => show win0_3.index t 0 * 2048 + 1 * p.val = p.val; rw [hi.1]; omega
  | ⟨1, _⟩ => show win0_3.index t 1 * 512 + 1 * q.val = (512 * (t.val % 11) + q.val) % 5632; rw [hi.2]; omega

/-- The point's block of the down weights: its hidden rows. -/
theorem wd_block (c : Dev nD) (t : Fin cfg0.N) (p : Fin 512) (q : Fin 2048) :
    (iblk m c 4 t : Vec Ideal S512x2048 .bf16) (ix2 p q)
      = m ((c.tc : Thread nD τ).loc main_arg4) (ix2 (n0 := 5632) (n1 := 2048) ⟨(512 * (t.val % 11) + p.val) % 5632, Nat.mod_lt _ (by decide)⟩ q) := by
  have hi : win0_4.index t 0 = (t.val % 11) ∧ win0_4.index t 1 = 0 :=
    (by decide +kernel : ∀ t : Fin grid0.N, win0_4.index t 0 = (t.val % 11) ∧ win0_4.index t 1 = 0) t
  have ht : t.val < 88 := Nat.lt_of_lt_of_eq t.isLt N_0
  unfold iblk
  rw [View.read_apply]
  show (V m c main_v3 : Vec Ideal S5632x2048 .bf16) _ = m (c.tc.loc main_arg4) _
  rw [V_main_v3]
  refine congrArg (m (c.tc.loc main_arg4)) ?_
  funext a
  apply Fin.ext
  match a with
  | ⟨0, _⟩ => show win0_4.index t 0 * 512 + 1 * p.val = (512 * (t.val % 11) + p.val) % 5632; rw [hi.1]; omega
  | ⟨1, _⟩ => show win0_4.index t 1 * 2048 + 1 * q.val = q.val; rw [hi.2]; omega

/-- The point's block of the gain: all of it. -/
theorem g_block (c : Dev nD) (t : Fin cfg0.N) (q : Fin 2048) :
    (iblk m c 5 t : Vec Ideal S1x2048 .f32) (ix2 0 q) = m ((c.tc : Thread nD τ).loc main_arg5) (ix1 q) := by
  have hi : win0_5.index t 0 = 0 ∧ win0_5.index t 1 = 0 :=
    (by decide +kernel : ∀ t : Fin grid0.N, win0_5.index t 0 = 0 ∧ win0_5.index t 1 = 0) t
  unfold iblk
  rw [View.read_apply]
  show (V m c main_v4 : Vec Ideal S1x2048 .f32) _ = m (c.tc.loc main_arg5) _
  rw [gain_eq]
  refine congrArg (m (c.tc.loc main_arg5)) ?_
  funext a
  apply Fin.ext
  match a with
  | ⟨0, _⟩ => show win0_5.index t 1 * 2048 + 1 * q.val = q.val; rw [hi.2]; omega

/-! ## The block after every point, and the result array -/

/-- The call's result: the residual plus the feed-forward, each row normalised. -/
def result (z h : S8192x2048.Idx → EReal) (wg wu : S2048x5632.Idx → EReal) (wd : S5632x2048.Idx → EReal) (g : S2048.Idx → EReal) : S8192x2048.Idx → EReal := fun j => normedRow g (feedForward z h wg wu wd (j 0)) (j 1)

/-- The arguments as launched. -/
abbrev argAt (c : Dev nD) (b : Ref sig .tc) := m ((c.tc : Thread nD τ).loc b)

/-- Row `p` of row block `b`. -/
def rowAt (b : ℕ) (p : Fin 1024) : Fin 8192 := ⟨(1024 * b + p.val) % 8192, Nat.mod_lt _ (by decide)⟩

/-- Where a point finds the partial sum of the hidden columns before its own, its accumulation leaves it 512 further. -/
theorem accVal_block (c : Dev nD) (t : Fin cfg0.N) (o : Vec Ideal S1024x2048 .f32) (p : Fin 1024) (n : Fin 2048)
    (ho : t.val % 11 ≠ 0 → o (ix2 p n) = partialSum (argAt m c main_arg0) (argAt m c main_arg1) (argAt m c main_arg2) (argAt m c main_arg3)
      (argAt m c main_arg4) (rowAt (t.val / 11) p) n (512 * (t.val % 11))) :
    accVal (grid0.coords t) (iblk m c 0 t) (iblk m c 1 t) (iblk m c 2 t) (iblk m c 3 t) (iblk m c 4 t) o (ix2 p n)
      = partialSum (argAt m c main_arg0) (argAt m c main_arg1) (argAt m c main_arg2) (argAt m c main_arg3)
          (argAt m c main_arg4) (rowAt (t.val / 11) p) n (512 * (t.val % 11) + 512) := by
  rw [accVal_apply]
  simp only [z_block, h_block, wg_block, wu_block, wd_block]
  refine partialSum_step _ _ _ _ _ _ _ _ _ ?_
  by_cases h : t.val % 11 = 0
  · rw [if_pos h, h]
    unfold partialSum
    rw [Nat.mul_zero, Finset.range_zero, Finset.sum_empty, add_zero]
  · rw [if_neg h]
    exact ho h

/-- A block's row under the whole normalisation. -/
theorem normTo_apply (g : Vec Ideal S1x2048 .f32) (d : Vec Ideal S1024x2048 .f32) (p : Fin 1024) (n : Fin 2048) :
    normTo g d 8 (ix2 p n) = normedRow (fun j => g (ix2 0 (j 0))) (fun x => d (ix2 p x)) n := by
  have hp := p.isLt
  unfold normTo
  rw [if_pos (show ((ix2 p n) 0).val < 128 * 8 from hp)]
  refine (norm_apply g _ _ _).trans ?_
  refine congrArg (fun row => normedRow _ row n) (funext fun x => ?_)
  unfold rowsOf
  refine congrArg (fun r => d (ix2 r x)) (Fin.ext ?_)
  show (128 * (p.val / 128) + p.val % 128) % 1024 = p.val
  omega

/-- The block after point `n`: the partial sum, and at a row block's last point that sum normalised. -/
theorem blockAt_apply (c : Dev nD) : ∀ (n : ℕ) (hn : n < cfg0.N) (p : Fin 1024) (q : Fin 2048),
    (n % 11 ≠ 10 → blockAt m c n hn (ix2 p q) = partialSum (argAt m c main_arg0) (argAt m c main_arg1) (argAt m c main_arg2)
        (argAt m c main_arg3) (argAt m c main_arg4) (rowAt (n / 11) p) q (512 * (n % 11) + 512))
    ∧ (n % 11 = 10 → blockAt m c n hn (ix2 p q) = result (argAt m c main_arg0) (argAt m c main_arg1) (argAt m c main_arg2)
        (argAt m c main_arg3) (argAt m c main_arg4) (argAt m c main_arg5) (ix2 (rowAt (n / 11) p) q)) := by
  have step : ∀ (t : Fin cfg0.N) (o : Vec Ideal S1024x2048 .f32) (p : Fin 1024) (q : Fin 2048),
      (t.val % 11 ≠ 0 → ∀ q, o (ix2 p q) = partialSum (argAt m c main_arg0) (argAt m c main_arg1) (argAt m c main_arg2) (argAt m c main_arg3)
        (argAt m c main_arg4) (rowAt (t.val / 11) p) q (512 * (t.val % 11))) →
      (t.val % 11 ≠ 10 → stepAt m c t o (ix2 p q) = partialSum (argAt m c main_arg0) (argAt m c main_arg1) (argAt m c main_arg2)
          (argAt m c main_arg3) (argAt m c main_arg4) (rowAt (t.val / 11) p) q (512 * (t.val % 11) + 512))
      ∧ (t.val % 11 = 10 → stepAt m c t o (ix2 p q) = result (argAt m c main_arg0) (argAt m c main_arg1) (argAt m c main_arg2)
          (argAt m c main_arg3) (argAt m c main_arg4) (argAt m c main_arg5) (ix2 (rowAt (t.val / 11) p) q)) := by
    intro t o p q ho
    unfold stepAt stepVal
    constructor
    · intro h
      rw [if_neg (fun hc => h ((lastHidden_iff t).mp hc))]
      exact accVal_block m c t o p q fun h0 => ho h0 q
    · intro h
      rw [if_pos ((lastHidden_iff t).mpr h), normTo_apply]
      unfold result
      have hrow : (fun x => accVal (grid0.coords t) (iblk m c 0 t) (iblk m c 1 t) (iblk m c 2 t) (iblk m c 3 t) (iblk m c 4 t) o (ix2 p x))
          = feedForward (argAt m c main_arg0) (argAt m c main_arg1) (argAt m c main_arg2) (argAt m c main_arg3) (argAt m c main_arg4)
            (rowAt (t.val / 11) p) := funext fun x => by
        rw [accVal_block m c t o p x fun h0 => ho h0 x, h]
        exact partialSum_all _ _ _ _ _ _ _
      have hg : (fun j : S2048.Idx => (iblk m c 5 t : Vec Ideal S1x2048 .f32) (ix2 0 (j 0))) = argAt m c main_arg5 := funext fun j => by
        idx_vars j
        exact g_block m c t _
      rw [hrow, hg]
      rfl
  intro n
  induction n with
  | zero => exact fun hn p q => step ⟨0, hn⟩ _ p q fun h => absurd rfl h
  | succ n ih =>
    intro hn p q
    refine step ⟨n + 1, hn⟩ _ p q fun h0 x => ?_
    have h0' : (n + 1) % 11 ≠ 0 := h0
    rw [(ih (Nat.lt_of_succ_lt hn) p x).1 (by omega)]
    show partialSum _ _ _ _ _ (rowAt (n / 11) p) x (512 * (n % 11) + 512)
      = partialSum _ _ _ _ _ (rowAt ((n + 1) / 11) p) x (512 * ((n + 1) % 11))
    rw [show (n + 1) / 11 = n / 11 by omega, show 512 * ((n + 1) % 11) = 512 * (n % 11) + 512 by omega]

/-- The call's result over the arguments as launched. -/
abbrev resultAt (c : Dev nD) : Buf (Elt Ideal) ((c.tc : Thread nD τ).loc main_v5) :=
  result (argAt m c main_arg0) (argAt m c main_arg1) (argAt m c main_arg2) (argAt m c main_arg3) (argAt m c main_arg4) (argAt m c main_arg5)

theorem out_index (t : Fin cfg0.N) : win0_6.index t 0 = t.val / 11 ∧ win0_6.index t 1 = 0 :=
  (by decide +kernel : ∀ t : Fin grid0.N, win0_6.index t 0 = t.val / 11 ∧ win0_6.index t 1 = 0) t

/-- Every write-back writes its block of the result. -/
theorem flushed_eq (c : Dev nD) (t : Fin cfg0.N) (hf : (cfg0.win 6).flush t = true) :
    (dats m 0 c).flushed 6 t = ((cfg0.win 6).blk t).view.read (Elt Ideal) (resultAt m c) := by
  have h10 := (flush0_6 t).mp hf
  have ht : t.val < 88 := Nat.lt_of_lt_of_eq t.isLt N_0
  have hi := out_index t
  show (cfg0.win 6).cut (grid0.coords t) ((dats m 0 c).after 6 t) = _
  rw [after_6]
  funext j
  rw [View.read_apply]
  show (blockAt m c t.val t.isLt : Vec Ideal S1024x2048 .f32) j = resultAt m c _
  have hj0 : (j 0).val < 1024 := (j 0).isLt
  have hj1 : (j 1).val < 2048 := (j 1).isLt
  have hj : (j : S1024x2048.Idx) = ix2 (n0 := 1024) (n1 := 2048) ⟨(j 0).val, hj0⟩ ⟨(j 1).val, hj1⟩ := by
    funext a
    match a with
    | ⟨0, _⟩ => rfl
    | ⟨1, _⟩ => rfl
  refine (congrArg (blockAt m c t.val t.isLt) hj).trans (((blockAt_apply m c t.val t.isLt _ _).2 h10).trans ?_)
  unfold resultAt
  congr 1
  funext a
  apply Fin.ext
  match a with
  | ⟨0, _⟩ => show (1024 * (t.val / 11) + (j 0).val) % 8192 = win0_6.index t 0 * 1024 + 1 * (j 0).val; rw [hi.1]; omega
  | ⟨1, _⟩ => show (j 1).val = win0_6.index t 1 * 2048 + 1 * (j 1).val; rw [hi.2]; omega

/-- The result array ends at the result: the eight write-backs cover it. -/
theorem final (c : Dev nD) : (dats m 0 c).arrAt 6 cfg0.N = resultAt m c :=
  (dats m 0 c).arrAt_eq_of_cover 6 (resultAt m c) (flushed_eq m c) fun i => by
    have h0 : (i 0 : Nat) < 8192 := (i 0).isLt
    have h1 : (i 1 : Nat) < 2048 := (i 1).isLt
    have hb : 11 * ((i 0 : Nat) / 1024) + 10 < cfg0.N := by rw [show cfg0.N = 88 from N_0]; omega
    refine ⟨⟨11 * ((i 0 : Nat) / 1024) + 10, hb⟩, (flush0_6 _).mpr (by show (11 * ((i 0 : Nat) / 1024) + 10) % 11 = 10; omega), ?_⟩
    have hi := out_index ⟨11 * ((i 0 : Nat) / 1024) + 10, hb⟩
    generalize hT : (⟨11 * ((i 0 : Nat) / 1024) + 10, hb⟩ : Fin cfg0.N) = T at hi ⊢
    have hv : T.val = 11 * ((i 0 : Nat) / 1024) + 10 := by rw [← hT]
    show i ∈ ((View.whole main_v5).slice (win0_6.rect T)).set
    rw [View.set_slice_whole, Rect.mem_set_unit]
    intro a
    match a with
    | ⟨0, _⟩ =>
      show win0_6.index T 0 * 1024 ≤ (i 0 : Nat) ∧ (i 0 : Nat) < win0_6.index T 0 * 1024 + 1024
      rw [hi.1]; omega
    | ⟨1, _⟩ =>
      show win0_6.index T 1 * 2048 ≤ (i 1 : Nat) ∧ (i 1 : Nat) < win0_6.index T 1 * 2048 + 2048
      rw [hi.2]; omega

/-- The call's run at exact arithmetic: its result array ends at the result, the arguments unchanged. -/
theorem run : θ_run defs (onTc (τ := τ) (main (F := Ideal))) ⟨m, fun _ => 0, ρ⟩ fun r => ∀ c : Dev nD,
      r.2.mem ((c.tc : Thread nD τ).loc main_v5) = resultAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 6).trans (final m c), h.2 c⟩)
    (θ_run_and (run_main m ρ) (frame_of m ρ (dats m) (A_eq m) (run_main m ρ)))

end Cert.FfnIdeal.Hand

/-! ## The reference's run, and the claim -/

namespace Cert.FfnReferenceIdeal.Hand

open Cert.FfnReferenceIdeal
open Idealize.ShloMosaic Idealize.ShloMosaic.TcCoe
open Idealize.SL.Sem

variable (m : (ℓ : Loc nD τ sig) → Buf (Elt Ideal) ℓ) (ρ : Dev nD → PrngReg)

/-- The reference's run at exact arithmetic ends at the same result of its own arguments. -/
theorem reference_run : θ_run defs (onTc (τ := τ) (main (F := Ideal))) ⟨m, fun _ => 0, ρ⟩ fun r => ∀ c : Dev nD,
      r.2.mem ((c.tc : Thread nD τ).loc main_v18) = Cert.FfnIdeal.Hand.result (m ((c.tc : Thread nD τ).loc main_arg0))
        (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run _ _ _).mono (fun r h c => ⟨(h c).1.trans ?_, (h c).2⟩) (Cert.FfnReferenceIdeal.Value.run (F := Ideal) m ρ)
  funext j
  idx_vars j
  unfold Cert.FfnIdeal.Hand.result Cert.FfnIdeal.Hand.normedRow Cert.FfnIdeal.Hand.feedForward Cert.FfnIdeal.Hand.hidden
  pointwise
  rfl

end Cert.FfnReferenceIdeal.Hand

end
-- ==== Proof.MergeValue.lean ====
/- The merge call at exact arithmetic: what a point leaves in its two blocks (`out_h`, `out_z`), the arrays the call ends
   with (`final_h`, `final_z`), and the reference's run ending with the same (`reference_run`). -/
module

public import proofs.«01_k».proof.Proof.Gen.MergeIdeal.Value
public import proofs.«01_k».proof.Proof.Gen.MergeReferenceIdeal.Run
public import proofs.«01_k».proof.Proof.FfnValue
public import Idealize.ShloMosaic.Lib.Pointwise
public import Idealize.ShloMosaic.Lib.IdealHost

@[expose] public section

set_option maxRecDepth 16384

noncomputable section

namespace Cert.MergeIdeal.Hand

open Cert.MergeIdeal Cert.MergeIdeal.Gen
open Idealize.ShloMosaic Idealize.ShloMosaic.TcCoe
open Idealize.SL.Sem
open Idealize.ShloMosaic.Pipeline (Dat Cfg Window cellOf)

/-! ## The mathematics -/

section Math

variable (a b : S8192x1024.Idx → EReal) (proj : S8192x9216.Idx → EReal) (x : S8192x2048.Idx → EReal) (wa wb : S1024x2048.Idx → EReal)
  (wo : S2048x2048.Idx → EReal) (g : S1x2048.Idx → EReal)

/-- The two mixers' outputs, projected, gated and added, at row `r`, column `k`. -/
def merged (r : Fin 8192) (k : Fin 2048) : EReal :=
  Ideal.logistic (proj (ix2 r ⟨k.val, by omega⟩)) * (∑ q : Fin 1024, a (ix2 r q) * wa (ix2 q k))
    + Ideal.logistic (proj (ix2 r ⟨2048 + k.val, by omega⟩)) * (∑ q : Fin 1024, b (ix2 r q) * wb (ix2 q k))

/-- The residual stream after the merge. -/
def hid (r : Fin 8192) (n : Fin 2048) : EReal := x (ix2 r n) + ∑ k : Fin 2048, merged a b proj wa wb r k * wo (ix2 k n)

/-- A row under root-mean-square normalisation and gain. -/
def normedRow (row : Fin 2048 → EReal) (n : Fin 2048) : EReal :=
  row n * Ideal.rsqrt (Ideal.div (∑ y : Fin 2048, row y * row y) (Ideal.ofBits FTy.f32 1157627904#32) + Ideal.ofBits FTy.f32 897988541#32)
    * g (ix2 0 n)

/-- The call's first result: the residual stream. -/
def resultH : S8192x2048.Idx → EReal := fun j => hid a b proj x wa wb wo (j 0) (j 1)

/-- The call's second result: its rows normalised. -/
def resultZ : S8192x2048.Idx → EReal := fun j => normedRow g (hid a b proj x wa wb wo (j 0)) (j 1)

end Math

/-! ## What a point leaves in its blocks -/

/-- A point's row of the residual stream from the blocks it reads. -/
def blockHid (x0 x1 : S512x1024.Idx → EReal) (x2 : S512x4096.Idx → EReal) (x3 : S512x2048.Idx → EReal) (x4 x5 : S1024x2048.Idx → EReal)
    (x6 : S2048x2048.Idx → EReal) (p : Fin 512) (n : Fin 2048) : EReal :=
  x3 (ix2 p n) + ∑ k : Fin 2048, (Ideal.logistic (x2 (ix2 p ⟨k.val, by omega⟩)) * (∑ q : Fin 1024, x0 (ix2 p q) * x4 (ix2 q k))
    + Ideal.logistic (x2 (ix2 p ⟨2048 + k.val, by omega⟩)) * (∑ q : Fin 1024, x1 (ix2 p q) * x5 (ix2 q k))) * x6 (ix2 k n)

theorem pay2_apply (x0 x1 : Vec Ideal S512x1024 .bf16) (x2 : Vec Ideal S512x4096 .bf16) (x3 : Vec Ideal S512x2048 .f32)
    (x4 x5 : Vec Ideal S1024x2048 .bf16) (x6 : Vec Ideal S2048x2048 .bf16) (p : Fin 512) (n : Fin 2048) :
    k0_pay2 x0 x4 x1 x5 (View.ld x2 (Rect.unit (s := S512x4096) ![0, 0] S512x2048.size inb_S512x4096_S512x2048_0_0))
      (View.ld x2 (Rect.unit (s := S512x4096) ![0, 2048] S512x2048.size inb_S512x4096_S512x2048_0_2048)) x3 x6 (ix2 p n)
      = blockHid x0 x1 x2 x3 x4 x5 x6 p n := by
  unfold blockHid
  pointwise [k0_pay2]

theorem pay1_apply (d : Vec Ideal S512x2048 .f32) (g : Vec Ideal S1x2048 .f32) (s : Vec Ideal S512x1 .f32) (e : Ideal .f32) (p : Fin 512) (n : Fin 2048) :
    k0_pay1 d g s e (ix2 p n) = d (ix2 p n) * Ideal.rsqrt (s (ix2 p 0) + e) * g (ix2 0 n) := by
  pointwise [k0_pay1]

theorem pay3_apply (x0 x1 : Vec Ideal S512x1024 .bf16) (x2 x2' : Vec Ideal S512x2048 .bf16) (x3 : Vec Ideal S512x2048 .f32)
    (x4 x5 : Vec Ideal S1024x2048 .bf16) (x6 : Vec Ideal S2048x2048 .bf16) (p : Fin 512) :
    k0_pay3 x0 x4 x1 x5 x2 x2' x3 x6 (ix2 p 0) = Ideal.div (∑ y : Fin 2048, k0_pay2 x0 x4 x1 x5 x2 x2' x3 x6 (ix2 p y)
      * k0_pay2 x0 x4 x1 x5 x2 x2' x3 x6 (ix2 p y)) (Ideal.ofBits FTy.f32 1157627904#32) := by
  unfold k0_pay3
  generalize k0_pay2 x0 x4 x1 x5 x2 x2' x3 x6 = d
  pointwise

theorem zeros2 : (![0, 0] : Fin 2 → Nat) = fun _ => 0 := funext fun a => by
  match a with
  | ⟨0, _⟩ => rfl
  | ⟨1, _⟩ => rfl

section Outs

variable (c : Dev nD) (i : grid0.Coords)
  (arg1 : Memref sig .tc .vmem S512x1024 .bf16) (harg1 : arg1.IsWhole) (arg2 : Memref sig .tc .vmem S512x1024 .bf16) (harg2 : arg2.IsWhole)
  (arg3 : Memref sig .tc .vmem S512x4096 .bf16) (harg3 : arg3.IsWhole) (arg4 : Memref sig .tc .vmem S512x2048 .f32) (harg4 : arg4.IsWhole)
  (arg5 : Memref sig .tc .vmem S1024x2048 .bf16) (harg5 : arg5.IsWhole) (arg6 : Memref sig .tc .vmem S1024x2048 .bf16) (harg6 : arg6.IsWhole)
  (arg7 : Memref sig .tc .vmem S2048x2048 .bf16) (harg7 : arg7.IsWhole) (arg8 : Memref sig .tc .vmem S1x2048 .f32) (harg8 : arg8.IsWhole)
  (arg9 : Memref sig .tc .vmem S512x2048 .f32) (harg9 : arg9.IsWhole) (arg10 : Memref sig .tc .vmem S512x2048 .bf16) (harg10 : arg10.IsWhole)
  (x0 x1 : Vec Ideal S512x1024 .bf16) (x2 : Vec Ideal S512x4096 .bf16) (x3 : Vec Ideal S512x2048 .f32)
  (x4 x5 : Vec Ideal S1024x2048 .bf16) (x6 : Vec Ideal S2048x2048 .bf16) (x7 : Vec Ideal S1x2048 .f32) (p : Fin 512) (n : Fin 2048)

/-- The point's block of the residual stream. -/
theorem out_h :
    out0_A_8 c i arg1 harg1 arg2 harg2 arg3 harg3 arg4 harg4 arg5 harg5 arg6 harg6 arg7 harg7 arg8 harg8 arg9 harg9 arg10 harg10
      x0 x1 x2 x3 x4 x5 x6 x7 (ix2 p n) = blockHid x0 x1 x2 x3 x4 x5 x6 p n := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  rw [View.canon_unit_zero zeros2]
  simp only [View.readAt_eq_ld, harg1.read_unread, harg2.read_unread, harg3.read_unread, harg4.read_unread, harg5.read_unread,
    harg6.read_unread, harg7.read_unread, harg8.read_unread,
    View.ld_unit_zero (S := S512x1024) zeros2, View.ld_unit_zero (S := S512x2048) zeros2, View.ld_unit_zero (S := S1024x2048) zeros2, View.ld_unit_zero (S := S2048x2048) zeros2, View.ld_unit_zero (S := S1x2048) zeros2]
  exact pay2_apply x0 x1 x2 x3 x4 x5 x6 p n

/-- The point's block of its normalisation. -/
theorem out_z :
    out0_A_9 c i arg1 harg1 arg2 harg2 arg3 harg3 arg4 harg4 arg5 harg5 arg6 harg6 arg7 harg7 arg8 harg8 arg9 harg9 arg10 harg10
      x0 x1 x2 x3 x4 x5 x6 x7 (ix2 p n) = normedRow x7 (blockHid x0 x1 x2 x3 x4 x5 x6 p) n := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero zeros2]
  simp only [View.readAt_eq_ld, harg1.read_unread, harg2.read_unread, harg3.read_unread, harg4.read_unread, harg5.read_unread,
    harg6.read_unread, harg7.read_unread, harg8.read_unread,
    View.ld_unit_zero (S := S512x1024) zeros2, View.ld_unit_zero (S := S512x2048) zeros2, View.ld_unit_zero (S := S1024x2048) zeros2, View.ld_unit_zero (S := S2048x2048) zeros2, View.ld_unit_zero (S := S1x2048) zeros2]
  refine (pay1_apply _ _ _ _ _ _).trans ?_
  rw [pay3_apply]
  exact congrArg (fun row => normedRow x7 row n) (funext fun y => pay2_apply x0 x1 x2 x3 x4 x5 x6 p y)

end Outs

/-! ## The blocks a point reads -/

variable (m : (ℓ : Loc nD τ sig) → Buf (Elt Ideal) ℓ) (ρ : Dev nD → PrngReg)

/-- The host's cast before the call, exact: the attention output. -/
theorem V_main_v0 (c : Dev nD) : (V m c main_v0 : Vec Ideal S8192x1024 .bf16) = m ((c.tc : Thread nD τ).loc main_arg0) := by
  show (StableHlo.after hostOps0 (fun b => m (c, b)) main_v0 : Vec Ideal S8192x1024 .bf16) = _
  simp only [hostOps0]
  after_results_simp
  rfl

/-- The host's cast before the call, exact: the recurrence output. -/
theorem V_main_v1 (c : Dev nD) : (V m c main_v1 : Vec Ideal S8192x1024 .bf16) = m ((c.tc : Thread nD τ).loc main_arg1) := by
  show (StableHlo.after hostOps0 (fun b => m (c, b)) main_v1 : Vec Ideal S8192x1024 .bf16) = _
  simp only [hostOps0]
  after_results_simp
  rfl

/-- The host's cast before the call, exact: the first projection. -/
theorem V_main_v2 (c : Dev nD) : (V m c main_v2 : Vec Ideal S1024x2048 .bf16) = m ((c.tc : Thread nD τ).loc main_arg4) := by
  show (StableHlo.after hostOps0 (fun b => m (c, b)) main_v2 : Vec Ideal S1024x2048 .bf16) = _
  simp only [hostOps0]
  after_results_simp
  rfl

/-- The host's cast before the call, exact: the second projection. -/
theorem V_main_v3 (c : Dev nD) : (V m c main_v3 : Vec Ideal S1024x2048 .bf16) = m ((c.tc : Thread nD τ).loc main_arg5) := by
  show (StableHlo.after hostOps0 (fun b => m (c, b)) main_v3 : Vec Ideal S1024x2048 .bf16) = _
  simp only [hostOps0]
  after_results_simp
  rfl

/-- The host's cast before the call, exact: the output projection. -/
theorem V_main_v4 (c : Dev nD) : (V m c main_v4 : Vec Ideal S2048x2048 .bf16) = m ((c.tc : Thread nD τ).loc main_arg6) := by
  show (StableHlo.after hostOps0 (fun b => m (c, b)) main_v4 : Vec Ideal S2048x2048 .bf16) = _
  simp only [hostOps0]
  after_results_simp
  rfl

/-- The point's block of the attention output: its rows. -/
theorem a_block (c : Dev nD) (t : Fin cfg0.N) (p : Fin 512) (q : Fin 1024) :
    (iblk m c 0 t : Vec Ideal S512x1024 .bf16) (ix2 p q)
      = m ((c.tc : Thread nD τ).loc main_arg0) (ix2 (n0 := 8192) (n1 := 1024) ⟨(512 * t.val + p.val) % 8192, Nat.mod_lt _ (by decide)⟩ q) := by
  have hi : win0_0.index t 0 = t.val ∧ win0_0.index t 1 = 0 :=
    (by decide +kernel : ∀ t : Fin grid0.N, win0_0.index t 0 = t.val ∧ win0_0.index t 1 = 0) t
  have ht : t.val < 16 := Nat.lt_of_lt_of_eq t.isLt N_0
  unfold iblk
  rw [View.read_apply]
  show (V m c main_v0 : Vec Ideal S8192x1024 .bf16) _ = m (c.tc.loc main_arg0) _
  rw [V_main_v0]
  refine congrArg (m (c.tc.loc main_arg0)) ?_
  funext a
  apply Fin.ext
  match a with
  | ⟨0, _⟩ => show win0_0.index t 0 * 512 + 1 * p.val = (512 * t.val + p.val) % 8192; rw [hi.1]; omega
  | ⟨1, _⟩ => show win0_0.index t 1 * 1024 + 1 * q.val = q.val; rw [hi.2]; omega

/-- The point's block of the recurrence output: its rows. -/
theorem b_block (c : Dev nD) (t : Fin cfg0.N) (p : Fin 512) (q : Fin 1024) :
    (iblk m c 1 t : Vec Ideal S512x1024 .bf16) (ix2 p q)
      = m ((c.tc : Thread nD τ).loc main_arg1) (ix2 (n0 := 8192) (n1 := 1024) ⟨(512 * t.val + p.val) % 8192, Nat.mod_lt _ (by decide)⟩ q) := by
  have hi : win0_1.index t 0 = t.val ∧ win0_1.index t 1 = 0 :=
    (by decide +kernel : ∀ t : Fin grid0.N, win0_1.index t 0 = t.val ∧ win0_1.index t 1 = 0) t
  have ht : t.val < 16 := Nat.lt_of_lt_of_eq t.isLt N_0
  unfold iblk
  rw [View.read_apply]
  show (V m c main_v1 : Vec Ideal S8192x1024 .bf16) _ = m (c.tc.loc main_arg1) _
  rw [V_main_v1]
  refine congrArg (m (c.tc.loc main_arg1)) ?_
  funext a
  apply Fin.ext
  match a with
  | ⟨0, _⟩ => show win0_1.index t 0 * 512 + 1 * p.val = (512 * t.val + p.val) % 8192; rw [hi.1]; omega
  | ⟨1, _⟩ => show win0_1.index t 1 * 1024 + 1 * q.val = q.val; rw [hi.2]; omega

/-- The point's block of the gates: the first 4096 columns of its rows of the projection. -/
theorem gates_block (c : Dev nD) (t : Fin cfg0.N) (p : Fin 512) (q : Fin 4096) :
    (X0_2 m c t : Vec Ideal S512x4096 .bf16) (ix2 p q)
      = m ((c.tc : Thread nD τ).loc main_arg2) (ix2 (n0 := 8192) (n1 := 9216) ⟨(512 * t.val + p.val) % 8192, Nat.mod_lt _ (by decide)⟩ ⟨q.val, by omega⟩) := by
  have hi : win0_2.index t 0 = t.val ∧ win0_2.index t 1 = 0 :=
    (by decide +kernel : ∀ t : Fin grid0.N, win0_2.index t 0 = t.val ∧ win0_2.index t 1 = 0) t
  have ht : t.val < 16 := Nat.lt_of_lt_of_eq t.isLt N_0
  unfold X0_2 Pipeline.Window.fill
  rw [dif_pos (moved0_2 t _)]
  unfold iblk
  rw [View.read_apply]
  show (V m c main_arg2 : Vec Ideal S8192x9216 .bf16) _ = m (c.tc.loc main_arg2) _
  rw [V_main_arg2]
  refine congrArg (m (c.tc.loc main_arg2)) ?_
  funext a
  apply Fin.ext
  match a with
  | ⟨0, _⟩ => show win0_2.index t 0 * 512 + 1 * p.val = (512 * t.val + p.val) % 8192; rw [hi.1]; omega
  | ⟨1, _⟩ => show win0_2.index t 1 * 4096 + 1 * q.val = q.val; rw [hi.2]; omega

/-- The point's block of the residual stream: its rows. -/
theorem x_block (c : Dev nD) (t : Fin cfg0.N) (p : Fin 512) (q : Fin 2048) :
    (iblk m c 3 t : Vec Ideal S512x2048 .f32) (ix2 p q)
      = m ((c.tc : Thread nD τ).loc main_arg3) (ix2 (n0 := 8192) (n1 := 2048) ⟨(512 * t.val + p.val) % 8192, Nat.mod_lt _ (by decide)⟩ q) := by
  have hi : win0_3.index t 0 = t.val ∧ win0_3.index t 1 = 0 :=
    (by decide +kernel : ∀ t : Fin grid0.N, win0_3.index t 0 = t.val ∧ win0_3.index t 1 = 0) t
  have ht : t.val < 16 := Nat.lt_of_lt_of_eq t.isLt N_0
  unfold iblk
  rw [View.read_apply]
  show (V m c main_arg3 : Vec Ideal S8192x2048 .f32) _ = m (c.tc.loc main_arg3) _
  rw [V_main_arg3]
  refine congrArg (m (c.tc.loc main_arg3)) ?_
  funext a
  apply Fin.ext
  match a with
  | ⟨0, _⟩ => show win0_3.index t 0 * 512 + 1 * p.val = (512 * t.val + p.val) % 8192; rw [hi.1]; omega
  | ⟨1, _⟩ => show win0_3.index t 1 * 2048 + 1 * q.val = q.val; rw [hi.2]; omega

/-- The point's block of the first projection: all of it. -/
theorem wa_block (c : Dev nD) (t : Fin cfg0.N) (p : Fin 1024) (q : Fin 2048) :
    (iblk m c 4 t : Vec Ideal S1024x2048 .bf16) (ix2 p q)
      = m ((c.tc : Thread nD τ).loc main_arg4) (ix2 (n0 := 1024) (n1 := 2048) p q) := by
  have hi : win0_4.index t 0 = 0 ∧ win0_4.index t 1 = 0 :=
    (by decide +kernel : ∀ t : Fin grid0.N, win0_4.index t 0 = 0 ∧ win0_4.index t 1 = 0) t
  have ht : t.val < 16 := Nat.lt_of_lt_of_eq t.isLt N_0
  unfold iblk
  rw [View.read_apply]
  show (V m c main_v2 : Vec Ideal S1024x2048 .bf16) _ = m (c.tc.loc main_arg4) _
  rw [V_main_v2]
  refine congrArg (m (c.tc.loc main_arg4)) ?_
  funext a
  apply Fin.ext
  match a with
  | ⟨0, _⟩ => show win0_4.index t 0 * 1024 + 1 * p.val = p.val; rw [hi.1]; omega
  | ⟨1, _⟩ => show win0_4.index t 1 * 2048 + 1 * q.val = q.val; rw [hi.2]; omega

/-- The point's block of the second projection: all of it. -/
theorem wb_block (c : Dev nD) (t : Fin cfg0.N) (p : Fin 1024) (q : Fin 2048) :
    (iblk m c 5 t : Vec Ideal S1024x2048 .bf16) (ix2 p q)
      = m ((c.tc : Thread nD τ).loc main_arg5) (ix2 (n0 := 1024) (n1 := 2048) p q) := by
  have hi : win0_5.index t 0 = 0 ∧ win0_5.index t 1 = 0 :=
    (by decide +kernel : ∀ t : Fin grid0.N, win0_5.index t 0 = 0 ∧ win0_5.index t 1 = 0) t
  have ht : t.val < 16 := Nat.lt_of_lt_of_eq t.isLt N_0
  unfold iblk
  rw [View.read_apply]
  show (V m c main_v3 : Vec Ideal S1024x2048 .bf16) _ = m (c.tc.loc main_arg5) _
  rw [V_main_v3]
  refine congrArg (m (c.tc.loc main_arg5)) ?_
  funext a
  apply Fin.ext
  match a with
  | ⟨0, _⟩ => show win0_5.index t 0 * 1024 + 1 * p.val = p.val; rw [hi.1]; omega
  | ⟨1, _⟩ => show win0_5.index t 1 * 2048 + 1 * q.val = q.val; rw [hi.2]; omega

/-- The point's block of the output projection: all of it. -/
theorem wo_block (c : Dev nD) (t : Fin cfg0.N) (p : Fin 2048) (q : Fin 2048) :
    (iblk m c 6 t : Vec Ideal S2048x2048 .bf16) (ix2 p q)
      = m ((c.tc : Thread nD τ).loc main_arg6) (ix2 (n0 := 2048) (n1 := 2048) p q) := by
  have hi : win0_6.index t 0 = 0 ∧ win0_6.index t 1 = 0 :=
    (by decide +kernel : ∀ t : Fin grid0.N, win0_6.index t 0 = 0 ∧ win0_6.index t 1 = 0) t
  have ht : t.val < 16 := Nat.lt_of_lt_of_eq t.isLt N_0
  unfold iblk
  rw [View.read_apply]
  show (V m c main_v4 : Vec Ideal S2048x2048 .bf16) _ = m (c.tc.loc main_arg6) _
  rw [V_main_v4]
  refine congrArg (m (c.tc.loc main_arg6)) ?_
  funext a
  apply Fin.ext
  match a with
  | ⟨0, _⟩ => show win0_6.index t 0 * 2048 + 1 * p.val = p.val; rw [hi.1]; omega
  | ⟨1, _⟩ => show win0_6.index t 1 * 2048 + 1 * q.val = q.val; rw [hi.2]; omega

/-- The point's block of the gain: all of it. -/
theorem g_block (c : Dev nD) (t : Fin cfg0.N) (p : Fin 1) (q : Fin 2048) :
    (iblk m c 7 t : Vec Ideal S1x2048 .f32) (ix2 p q)
      = m ((c.tc : Thread nD τ).loc main_arg7) (ix2 (n0 := 1) (n1 := 2048) p q) := by
  have hi : win0_7.index t 0 = 0 ∧ win0_7.index t 1 = 0 :=
    (by decide +kernel : ∀ t : Fin grid0.N, win0_7.index t 0 = 0 ∧ win0_7.index t 1 = 0) t
  have ht : t.val < 16 := Nat.lt_of_lt_of_eq t.isLt N_0
  unfold iblk
  rw [View.read_apply]
  show (V m c main_arg7 : Vec Ideal S1x2048 .f32) _ = m (c.tc.loc main_arg7) _
  rw [V_main_arg7]
  refine congrArg (m (c.tc.loc main_arg7)) ?_
  funext a
  apply Fin.ext
  match a with
  | ⟨0, _⟩ => show win0_7.index t 0 * 1 + 1 * p.val = p.val; rw [hi.1]; omega
  | ⟨1, _⟩ => show win0_7.index t 1 * 2048 + 1 * q.val = q.val; rw [hi.2]; omega

/-! ## The result arrays -/

/-- The arguments as launched. -/
abbrev argAt (c : Dev nD) (b : Ref sig .tc) := m ((c.tc : Thread nD τ).loc b)

/-- A row of the point's block, in the array. -/
def rowAt (t : ℕ) (p : Fin 512) : Fin 8192 := ⟨(512 * t + p.val) % 8192, Nat.mod_lt _ (by decide)⟩

theorem blockHid_apply (c : Dev nD) (t : Fin cfg0.N) (p : Fin 512) (n : Fin 2048) :
    blockHid (iblk m c 0 t) (iblk m c 1 t) (X0_2 m c t) (iblk m c 3 t) (iblk m c 4 t) (iblk m c 5 t) (iblk m c 6 t) p n
      = hid (argAt m c main_arg0) (argAt m c main_arg1) (argAt m c main_arg2) (argAt m c main_arg3) (argAt m c main_arg4)
          (argAt m c main_arg5) (argAt m c main_arg6) (rowAt t.val p) n := by
  unfold blockHid hid merged
  simp only [a_block, b_block, gates_block, x_block, wa_block, wb_block, wo_block]
  rfl

/-- The call's first result over the arguments as launched. -/
abbrev resultHAt (c : Dev nD) : Buf (Elt Ideal) ((c.tc : Thread nD τ).loc main_v5_0) :=
  resultH (argAt m c main_arg0) (argAt m c main_arg1) (argAt m c main_arg2) (argAt m c main_arg3) (argAt m c main_arg4)
    (argAt m c main_arg5) (argAt m c main_arg6)

/-- The call's second result over the arguments as launched. -/
abbrev resultZAt (c : Dev nD) : Buf (Elt Ideal) ((c.tc : Thread nD τ).loc main_v5_1) :=
  resultZ (argAt m c main_arg0) (argAt m c main_arg1) (argAt m c main_arg2) (argAt m c main_arg3) (argAt m c main_arg4)
    (argAt m c main_arg5) (argAt m c main_arg6) (argAt m c main_arg7)

theorem out_indexH (t : Fin cfg0.N) : win0_8.index t 0 = t.val ∧ win0_8.index t 1 = 0 :=
  (by decide +kernel : ∀ t : Fin grid0.N, win0_8.index t 0 = t.val ∧ win0_8.index t 1 = 0) t

/-- Every write-back writes its block of the first result. -/
theorem flushedH_eq (c : Dev nD) (t : Fin cfg0.N) :
    (dats m 0 c).flushed 8 t = ((cfg0.win 8).blk t).view.read (Elt Ideal) (resultHAt m c) := by
  have ht : t.val < 16 := Nat.lt_of_lt_of_eq t.isLt N_0
  have hi := out_indexH t
  rw [Value.flushed8_A]
  funext j
  rw [View.read_apply]
  have hj0 : (j 0).val < 512 := (j 0).isLt
  have hj1 : (j 1).val < 2048 := (j 1).isLt
  have hj : (j : S512x2048.Idx) = ix2 (n0 := 512) (n1 := 2048) ⟨(j 0).val, hj0⟩ ⟨(j 1).val, hj1⟩ := by
    funext a
    match a with
    | ⟨0, _⟩ => rfl
    | ⟨1, _⟩ => rfl
  have hr : (((cfg0.win 8).blk t).view.emb j : S8192x2048.Idx) = ix2 (n0 := 8192) (n1 := 2048) (rowAt t.val ⟨(j 0).val, hj0⟩) ⟨(j 1).val, hj1⟩ := by
    funext a
    apply Fin.ext
    match a with
    | ⟨0, _⟩ => show win0_8.index t 0 * 512 + 1 * (j 0).val = (512 * t.val + (j 0).val) % 8192; rw [hi.1]; omega
    | ⟨1, _⟩ => show win0_8.index t 1 * 2048 + 1 * (j 1).val = (j 1).val; rw [hi.2]; omega
  refine Eq.trans ?_ (congrArg (resultHAt m c) hr).symm
  show out0_A_8 c (grid0.coords t) _ _ _ _ _ _ _ _ _ _ _ _ _ _ _ _ _ _ _ _ _ _ _ _ _ _ _ _ (j : S512x2048.Idx) = _
  refine Eq.trans (congrArg _ hj) ?_
  exact (out_h ..).trans (blockHid_apply m c t _ _)

/-- The first result array: the sixteen write-backs cover it. -/
theorem finalH (c : Dev nD) : (dats m 0 c).arrAt 8 cfg0.N = resultHAt m c :=
  (dats m 0 c).arrAt_eq_of_cover 8 (resultHAt m c) (fun t _ => flushedH_eq m c t) fun i => by
    have h0 : (i 0 : Nat) < 8192 := (i 0).isLt
    have h1 : (i 1 : Nat) < 2048 := (i 1).isLt
    have hb : (i 0 : Nat) / 512 < cfg0.N := by rw [show cfg0.N = 16 from N_0]; omega
    refine ⟨⟨(i 0 : Nat) / 512, hb⟩, (by decide +kernel : ∀ t : Fin grid0.N, win0_8.flush t = true) _, ?_⟩
    have hi := out_indexH ⟨(i 0 : Nat) / 512, hb⟩
    generalize hT : (⟨(i 0 : Nat) / 512, hb⟩ : Fin cfg0.N) = T at hi ⊢
    have hv : T.val = (i 0 : Nat) / 512 := by rw [← hT]
    show i ∈ ((View.whole main_v5_0).slice (win0_8.rect T)).set
    rw [View.set_slice_whole, Rect.mem_set_unit]
    intro a
    match a with
    | ⟨0, _⟩ =>
      show win0_8.index T 0 * 512 ≤ (i 0 : Nat) ∧ (i 0 : Nat) < win0_8.index T 0 * 512 + 512
      rw [hi.1]; omega
    | ⟨1, _⟩ =>
      show win0_8.index T 1 * 2048 ≤ (i 1 : Nat) ∧ (i 1 : Nat) < win0_8.index T 1 * 2048 + 2048
      rw [hi.2]; omega

theorem out_indexZ (t : Fin cfg0.N) : win0_9.index t 0 = t.val ∧ win0_9.index t 1 = 0 :=
  (by decide +kernel : ∀ t : Fin grid0.N, win0_9.index t 0 = t.val ∧ win0_9.index t 1 = 0) t

/-- Every write-back writes its block of the second result. -/
theorem flushedZ_eq (c : Dev nD) (t : Fin cfg0.N) :
    (dats m 0 c).flushed 9 t = ((cfg0.win 9).blk t).view.read (Elt Ideal) (resultZAt m c) := by
  have ht : t.val < 16 := Nat.lt_of_lt_of_eq t.isLt N_0
  have hi := out_indexZ t
  rw [Value.flushed9_A]
  funext j
  rw [View.read_apply]
  have hj0 : (j 0).val < 512 := (j 0).isLt
  have hj1 : (j 1).val < 2048 := (j 1).isLt
  have hj : (j : S512x2048.Idx) = ix2 (n0 := 512) (n1 := 2048) ⟨(j 0).val, hj0⟩ ⟨(j 1).val, hj1⟩ := by
    funext a
    match a with
    | ⟨0, _⟩ => rfl
    | ⟨1, _⟩ => rfl
  have hr : (((cfg0.win 9).blk t).view.emb j : S8192x2048.Idx) = ix2 (n0 := 8192) (n1 := 2048) (rowAt t.val ⟨(j 0).val, hj0⟩) ⟨(j 1).val, hj1⟩ := by
    funext a
    apply Fin.ext
    match a with
    | ⟨0, _⟩ => show win0_9.index t 0 * 512 + 1 * (j 0).val = (512 * t.val + (j 0).val) % 8192; rw [hi.1]; omega
    | ⟨1, _⟩ => show win0_9.index t 1 * 2048 + 1 * (j 1).val = (j 1).val; rw [hi.2]; omega
  refine Eq.trans ?_ (congrArg (resultZAt m c) hr).symm
  show out0_A_9 c (grid0.coords t) _ _ _ _ _ _ _ _ _ _ _ _ _ _ _ _ _ _ _ _ _ _ _ _ _ _ _ _ (j : S512x2048.Idx) = _
  refine Eq.trans (congrArg _ hj) ?_
  refine (out_z ..).trans ?_
  have hg : ∀ n : Fin 2048, (iblk m c 7 t : Vec Ideal S1x2048 .f32) (ix2 0 n) = argAt m c main_arg7 (ix2 0 n) := g_block m c t 0
  unfold normedRow
  simp only [blockHid_apply, hg]
  rfl

/-- The second result array: the sixteen write-backs cover it. -/
theorem finalZ (c : Dev nD) : (dats m 0 c).arrAt 9 cfg0.N = resultZAt m c :=
  (dats m 0 c).arrAt_eq_of_cover 9 (resultZAt m c) (fun t _ => flushedZ_eq m c t) fun i => by
    have h0 : (i 0 : Nat) < 8192 := (i 0).isLt
    have h1 : (i 1 : Nat) < 2048 := (i 1).isLt
    have hb : (i 0 : Nat) / 512 < cfg0.N := by rw [show cfg0.N = 16 from N_0]; omega
    refine ⟨⟨(i 0 : Nat) / 512, hb⟩, (by decide +kernel : ∀ t : Fin grid0.N, win0_9.flush t = true) _, ?_⟩
    have hi := out_indexZ ⟨(i 0 : Nat) / 512, hb⟩
    generalize hT : (⟨(i 0 : Nat) / 512, hb⟩ : Fin cfg0.N) = T at hi ⊢
    have hv : T.val = (i 0 : Nat) / 512 := by rw [← hT]
    show i ∈ ((View.whole main_v5_1).slice (win0_9.rect T)).set
    rw [View.set_slice_whole, Rect.mem_set_unit]
    intro a
    match a with
    | ⟨0, _⟩ =>
      show win0_9.index T 0 * 512 ≤ (i 0 : Nat) ∧ (i 0 : Nat) < win0_9.index T 0 * 512 + 512
      rw [hi.1]; omega
    | ⟨1, _⟩ =>
      show win0_9.index T 1 * 2048 ≤ (i 1 : Nat) ∧ (i 1 : Nat) < win0_9.index T 1 * 2048 + 2048
      rw [hi.2]; omega

/-- The call's run at exact arithmetic: its result arrays, the arguments unchanged. -/
theorem run : θ_run defs (onTc (τ := τ) (main (F := Ideal))) ⟨m, fun _ => 0, ρ⟩ fun r => ∀ c : Dev nD,
      r.2.mem ((c.tc : Thread nD τ).loc main_v5_0) = resultHAt m c
      ∧ r.2.mem ((c.tc : Thread nD τ).loc main_v5_1) = resultZAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (finalH m c), (h c).2.1.trans (finalZ m c), (h c).2.2⟩) (Value.run_blocks m ρ)

end Cert.MergeIdeal.Hand

/-! ## The reference's run -/

namespace Cert.MergeReferenceIdeal.Hand

open Cert.MergeReferenceIdeal
open Idealize.ShloMosaic Idealize.ShloMosaic.TcCoe
open Idealize.SL.Sem

variable (m : (ℓ : Loc nD τ sig) → Buf (Elt Ideal) ℓ) (ρ : Dev nD → PrngReg)

/-- The reference's run at exact arithmetic ends at the same results of its own arguments. -/
theorem reference_run : θ_run defs (onTc (τ := τ) (main (F := Ideal))) ⟨m, fun _ => 0, ρ⟩ fun r => ∀ c : Dev nD,
      r.2.mem ((c.tc : Thread nD τ).loc main_v22) = Cert.MergeIdeal.Hand.resultH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v35) = Cert.MergeIdeal.Hand.resultZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run _ _ _).mono (fun r h c => ⟨(h c).1.trans ?_, (h c).2.1.trans ?_, (h c).2.2⟩) (Cert.MergeReferenceIdeal.Value.run (F := Ideal) m ρ)
  · funext j
    idx_vars j
    unfold Cert.MergeIdeal.Hand.resultH Cert.MergeIdeal.Hand.hid Cert.MergeIdeal.Hand.merged
    pointwise
    rfl
  · funext j
    idx_vars j
    unfold Cert.MergeIdeal.Hand.resultZ Cert.MergeIdeal.Hand.normedRow Cert.MergeIdeal.Hand.hid Cert.MergeIdeal.Hand.merged
    pointwise [Cert.MergeReferenceIdeal.Value.res_main_v35]
    rfl

end Cert.MergeReferenceIdeal.Hand

end
-- ==== Proof.AttnBody.lean ====
/- The attention's sub-block: 128 query rows against the 256 key rows that end with them, as the kernel writes it. `subOut`
   names one tile of 128 columns (two heads) of its result, and each of the 32 tiles a point stores is `subOut` of the point's
   blocks (`tile_*`), by unfolding. -/
module

public import proofs.«01_k».proof.Proof.MergeValue
public import proofs.«01_k».proof.Proof.Gen.KernelIdeal.Frame
public import Idealize.ShloMosaic.Lib.Pointwise

@[expose] public section

set_option maxRecDepth 16384

noncomputable section

namespace Cert.KernelIdeal.Hand

open Cert.KernelIdeal Cert.KernelIdeal.Gen Idealize.ShloMosaic Idealize.ShloMosaic.TcCoe Idealize.SL.Sem

variable {F : FTy → Type} [FloatOps F]

/-- The lanes 0..127. -/
def lanes : IVec S1x128 32 := iota .tc S1x128 32 [1] iota_S1x128_d1_w32

/-- The scores of four query tiles whose kept lanes are low, low, high, high. -/
def stackA (k : FVec F S256x128 .bf16) (q0 q1 q2 q3 : Vec F S128x128 .bf16) : FVec F S512x256 .f32 :=
  k0_pay218 (k0_pay201 lanes) (k0_pay202 lanes) k q0 q1 q2 q3

/-- The scores of four query tiles whose kept lanes are high, high, low, low. -/
def stackB (k : FVec F S256x128 .bf16) (q0 q1 q2 q3 : Vec F S128x128 .bf16) : FVec F S512x256 .f32 :=
  k0_pay222 (k0_pay201 lanes) (k0_pay202 lanes) k q0 q1 q2 q3

/-- The unnormalised weights `exp (s + bias - max)` of the sub-block's sixteen heads. -/
def weights (q : Fin 8 → Vec F S128x128 .bf16) (kp kc : Vec F S128x256 .bf16) (b : Fin 16 → Vec F S1x1x128x256 .f32) :
    FVec F S2048x256 .bf16 :=
  k0_pay297 (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7)))
    (k0_pay287 (b 0)) (k0_pay287 (b 2)) (k0_pay287 (b 5)) (k0_pay287 (b 7)) (k0_pay287 (b 1)) (k0_pay287 (b 3))
    (k0_pay287 (b 4)) (k0_pay287 (b 6)) (k0_pay287 (b 8)) (k0_pay287 (b 10)) (b 13) (b 15) (b 9) (b 11) (b 12) (b 14)

/-- The four stacks of results, normalised. -/
def res0 (q : Fin 8 → Vec F S128x128 .bf16) (kp kc vp vc : Vec F S128x256 .bf16) (b : Fin 16 → Vec F S1x1x128x256 .f32) :
    FVec F S512x128 .f32 := k0_pay339 (k0_pay210 k0_pay204 k0_pay205 vp vc) (weights q kp kc b)
def res1 (q : Fin 8 → Vec F S128x128 .bf16) (kp kc vp vc : Vec F S128x256 .bf16) (b : Fin 16 → Vec F S1x1x128x256 .f32) :
    FVec F S512x128 .f32 := k0_pay340 (k0_pay211 k0_pay204 k0_pay205 vp vc) (weights q kp kc b)
def res2 (q : Fin 8 → Vec F S128x128 .bf16) (kp kc vp vc : Vec F S128x256 .bf16) (b : Fin 16 → Vec F S1x1x128x256 .f32) :
    FVec F S512x128 .f32 := k0_pay341 (k0_pay216 k0_pay204 k0_pay205 vp vc) (weights q kp kc b)
def res3 (q : Fin 8 → Vec F S128x128 .bf16) (kp kc vp vc : Vec F S128x256 .bf16) (b : Fin 16 → Vec F S1x1x128x256 .f32) :
    FVec F S512x128 .f32 := k0_pay346 (k0_pay217 k0_pay204 k0_pay205 vp vc) (weights q kp kc b)

/-- Tile `j` of the sub-block's result: its low lanes are head `2 j`, its high lanes head `2 j + 1`. -/
def subOut (j : Fin 8) (q : Fin 8 → Vec F S128x128 .bf16) (kp kc vp vc : Vec F S128x256 .bf16)
    (b : Fin 16 → Vec F S1x1x128x256 .f32) : FVec F S128x128 .bf16 :=
  match j with
  | 0 => truncf .bf16 (select k0_pay203 (extractStridedSlice S128x128 ![0, 0] (res0 q kp kc vp vc b) slices_S512x128_o0_0_S128x128)
      (extractStridedSlice S128x128 ![0, 0] (res1 q kp kc vp vc b) slices_S512x128_o0_0_S128x128)) bitsLt_bf16_f32
  | 1 => truncf .bf16 (select k0_pay203 (extractStridedSlice S128x128 ![128, 0] (res0 q kp kc vp vc b) slices_S512x128_o128_0_S128x128)
      (extractStridedSlice S128x128 ![128, 0] (res1 q kp kc vp vc b) slices_S512x128_o128_0_S128x128)) bitsLt_bf16_f32
  | 2 => truncf .bf16 (select k0_pay203 (extractStridedSlice S128x128 ![256, 0] (res1 q kp kc vp vc b) slices_S512x128_o256_0_S128x128)
      (extractStridedSlice S128x128 ![256, 0] (res0 q kp kc vp vc b) slices_S512x128_o256_0_S128x128)) bitsLt_bf16_f32
  | 3 => truncf .bf16 (select k0_pay203 (extractStridedSlice S128x128 ![384, 0] (res1 q kp kc vp vc b) slices_S512x128_o384_0_S128x128)
      (extractStridedSlice S128x128 ![384, 0] (res0 q kp kc vp vc b) slices_S512x128_o384_0_S128x128)) bitsLt_bf16_f32
  | 4 => truncf .bf16 (select k0_pay203 (extractStridedSlice S128x128 ![0, 0] (res2 q kp kc vp vc b) slices_S512x128_o0_0_S128x128)
      (extractStridedSlice S128x128 ![0, 0] (res3 q kp kc vp vc b) slices_S512x128_o0_0_S128x128)) bitsLt_bf16_f32
  | 5 => truncf .bf16 (select k0_pay203 (extractStridedSlice S128x128 ![128, 0] (res2 q kp kc vp vc b) slices_S512x128_o128_0_S128x128)
      (extractStridedSlice S128x128 ![128, 0] (res3 q kp kc vp vc b) slices_S512x128_o128_0_S128x128)) bitsLt_bf16_f32
  | 6 => truncf .bf16 (select k0_pay203 (extractStridedSlice S128x128 ![256, 0] (res3 q kp kc vp vc b) slices_S512x128_o256_0_S128x128)
      (extractStridedSlice S128x128 ![256, 0] (res2 q kp kc vp vc b) slices_S512x128_o256_0_S128x128)) bitsLt_bf16_f32
  | 7 => truncf .bf16 (select k0_pay203 (extractStridedSlice S128x128 ![384, 0] (res3 q kp kc vp vc b) slices_S512x128_o384_0_S128x128)
      (extractStridedSlice S128x128 ![384, 0] (res2 q kp kc vp vc b) slices_S512x128_o384_0_S128x128)) bitsLt_bf16_f32

/-! ### A point's blocks -/

/-- What a load of `r` reads in a buffer's contents. -/
abbrev loadOf {s : Shape} {e : EltTy} (X : Vec F s e) (r : LoadRect s) : r.shape.Idx → Elt F e := fun x => X (r.idx x)

/-- Query tile `j` of sub-block `s`. -/
def qTile (X : Vec F S512x4736 .bf16) (s : Fin 4) (j : Fin 8) : Vec F S128x128 .bf16 := loadOf X
  ((Rect.unit (s := S512x4736) ![0, 0] S512x1024.size (by decide)).withinL
    (Rect.unit (s := S512x1024) ![128 * s.val, 128 * j.val] S128x128.size (by revert s j; decide)).toLoadRect (by decide))

/-- The keys of sub-block `s`'s own rows, -/
def kTile (X : Vec F S512x4736 .bf16) (s : Fin 4) : Vec F S128x256 .bf16 := loadOf X
  ((Rect.unit (s := S512x4736) ![0, 1024] S512x256.size (by decide)).withinL
    (Rect.unit (s := S512x256) ![128 * s.val, 0] S128x256.size (by revert s; decide)).toLoadRect (by decide))

/-- and its values. -/
def vTile (X : Vec F S512x4736 .bf16) (s : Fin 4) : Vec F S128x256 .bf16 := loadOf X
  ((Rect.unit (s := S512x4736) ![0, 1280] S512x256.size (by decide)).withinL
    (Rect.unit (s := S512x256) ![128 * s.val, 0] S128x256.size (by revert s; decide)).toLoadRect (by decide))

/-- The keys of the 128 rows before the block, -/
def kPrev (X : Vec F S128x512 .bf16) : Vec F S128x256 .bf16 := loadOf X (Rect.unit (s := S128x512) ![0, 0] S128x256.size (by decide)).toLoadRect

/-- and their values. -/
def vPrev (X : Vec F S128x512 .bf16) : Vec F S128x256 .bf16 := loadOf X (Rect.unit (s := S128x512) ![0, 256] S128x256.size (by decide)).toLoadRect

/-- Whether the point is a batch's first. -/
def first (i : grid0.Coords) : BitVec 32 := Scalar.indexCast (Scalar.extui (Scalar.cmpi CmpIPredicate.eq (BitVec.ofNat 32 (i 1).val) 0#32))

/-- The table's row `g` of biases of a head, -/
def biasAt (X : Vec F S2x16x128x256 .f32) (g : Fin 2) (h : Fin 16) : Vec F S1x1x128x256 .f32 := loadOf X
  (Rect.unit (s := S2x16x128x256) ![g.val, h.val, 0, 0] S1x1x128x256.size (by revert g h; decide)).toLoadRect

theorem first_lt (i : grid0.Coords) (h : Fin 16) : ∀ a, (![(first i).toNat, h.val, 0, 0] : Fin 4 → ℕ) a + S1x1x128x256.size a ≤ S2x16x128x256.size a := by
  have e : (first i).toNat ≤ 1 := by
    unfold first
    generalize Scalar.cmpi CmpIPredicate.eq (BitVec.ofNat 32 (i 1).val) 0#32 = w
    revert w; decide
  intro a
  fin_cases a
  · show (first i).toNat + 1 ≤ 2; omega
  · show h.val + 1 ≤ 16; omega
  · exact le_refl _
  · exact le_refl _

/-- and the row a point's first sub-block takes, the second one when the point is a batch's first. -/
def biasFirst (i : grid0.Coords) (X : Vec F S2x16x128x256 .f32) (h : Fin 16) : Vec F S1x1x128x256 .f32 := loadOf X
  (Rect.unit (s := S2x16x128x256) ![(first i).toNat, h.val, 0, 0] S1x1x128x256.size (first_lt i h)).toLoadRect

/-! ### The tiles a point stores -/

variable [Named F] (c : Dev nD) (i : grid0.Coords) (arg2 : Memref sig .tc .vmem S512x4736 .bf16) (harg2 : arg2.IsWhole)
  (arg3 : Memref sig .tc .vmem S128x512 .bf16) (harg3 : arg3.IsWhole)
  (arg4 : Memref sig .tc .smem S1x16 .f32) (harg4 : arg4.IsWhole) (arg5 : Memref sig .tc .smem S16x32 .f32) (harg5 : arg5.IsWhole)
  (arg23 : Memref sig .tc .vmem S2x16x128x256 .f32) (harg23 : arg23.IsWhole)
  (x0 : Vec F S512x4736 .bf16) (x1 : Vec F S128x512 .bf16) (x2 : Vec F S1x16 .f32) (x3 : Vec F S16x32 .f32)
  (xs0 : Vec F S2x16x128x256 .f32)
theorem tile_A00 : kernelRun0_A.sl.v728 c i arg2 harg2 arg3 harg3 arg4 harg4 arg5 harg5 arg23 x0 x1 x2 x3
    = subOut 0 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (arg23.view.writes (Elt F) arg23.view.junk (kernelRun0_A.sl.HS0_32 c arg4 harg4 arg5 harg5 x2 x3)))) := rfl
theorem tile_A01 : kernelRun0_A.sl.v731 c i arg2 harg2 arg3 harg3 arg4 harg4 arg5 harg5 arg23 x0 x1 x2 x3
    = subOut 1 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (arg23.view.writes (Elt F) arg23.view.junk (kernelRun0_A.sl.HS0_32 c arg4 harg4 arg5 harg5 x2 x3)))) := rfl
theorem tile_A02 : kernelRun0_A.sl.v734 c i arg2 harg2 arg3 harg3 arg4 harg4 arg5 harg5 arg23 x0 x1 x2 x3
    = subOut 2 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (arg23.view.writes (Elt F) arg23.view.junk (kernelRun0_A.sl.HS0_32 c arg4 harg4 arg5 harg5 x2 x3)))) := rfl
theorem tile_A03 : kernelRun0_A.sl.v737 c i arg2 harg2 arg3 harg3 arg4 harg4 arg5 harg5 arg23 x0 x1 x2 x3
    = subOut 3 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (arg23.view.writes (Elt F) arg23.view.junk (kernelRun0_A.sl.HS0_32 c arg4 harg4 arg5 harg5 x2 x3)))) := rfl
theorem tile_A04 : kernelRun0_A.sl.v740 c i arg2 harg2 arg3 harg3 arg4 harg4 arg5 harg5 arg23 x0 x1 x2 x3
    = subOut 4 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (arg23.view.writes (Elt F) arg23.view.junk (kernelRun0_A.sl.HS0_32 c arg4 harg4 arg5 harg5 x2 x3)))) := rfl
theorem tile_A05 : kernelRun0_A.sl.v743 c i arg2 harg2 arg3 harg3 arg4 harg4 arg5 harg5 arg23 x0 x1 x2 x3
    = subOut 5 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (arg23.view.writes (Elt F) arg23.view.junk (kernelRun0_A.sl.HS0_32 c arg4 harg4 arg5 harg5 x2 x3)))) := rfl
theorem tile_A06 : kernelRun0_A.sl.v746 c i arg2 harg2 arg3 harg3 arg4 harg4 arg5 harg5 arg23 x0 x1 x2 x3
    = subOut 6 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (arg23.view.writes (Elt F) arg23.view.junk (kernelRun0_A.sl.HS0_32 c arg4 harg4 arg5 harg5 x2 x3)))) := rfl
theorem tile_A07 : kernelRun0_A.sl.v749 c i arg2 harg2 arg3 harg3 arg4 harg4 arg5 harg5 arg23 x0 x1 x2 x3
    = subOut 7 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (arg23.view.writes (Elt F) arg23.view.junk (kernelRun0_A.sl.HS0_32 c arg4 harg4 arg5 harg5 x2 x3)))) := rfl
theorem tile_A10 : kernelRun0_A.sl.v788 c arg2 harg2 arg4 harg4 arg5 harg5 arg23 x0 x2 x3
    = subOut 0 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (arg23.view.writes (Elt F) arg23.view.junk (kernelRun0_A.sl.HS0_32 c arg4 harg4 arg5 harg5 x2 x3))) 0) := rfl
theorem tile_A11 : kernelRun0_A.sl.v791 c arg2 harg2 arg4 harg4 arg5 harg5 arg23 x0 x2 x3
    = subOut 1 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (arg23.view.writes (Elt F) arg23.view.junk (kernelRun0_A.sl.HS0_32 c arg4 harg4 arg5 harg5 x2 x3))) 0) := rfl
theorem tile_A12 : kernelRun0_A.sl.v794 c arg2 harg2 arg4 harg4 arg5 harg5 arg23 x0 x2 x3
    = subOut 2 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (arg23.view.writes (Elt F) arg23.view.junk (kernelRun0_A.sl.HS0_32 c arg4 harg4 arg5 harg5 x2 x3))) 0) := rfl
theorem tile_A13 : kernelRun0_A.sl.v797 c arg2 harg2 arg4 harg4 arg5 harg5 arg23 x0 x2 x3
    = subOut 3 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (arg23.view.writes (Elt F) arg23.view.junk (kernelRun0_A.sl.HS0_32 c arg4 harg4 arg5 harg5 x2 x3))) 0) := rfl
theorem tile_A14 : kernelRun0_A.sl.v800 c arg2 harg2 arg4 harg4 arg5 harg5 arg23 x0 x2 x3
    = subOut 4 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (arg23.view.writes (Elt F) arg23.view.junk (kernelRun0_A.sl.HS0_32 c arg4 harg4 arg5 harg5 x2 x3))) 0) := rfl
theorem tile_A15 : kernelRun0_A.sl.v803 c arg2 harg2 arg4 harg4 arg5 harg5 arg23 x0 x2 x3
    = subOut 5 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (arg23.view.writes (Elt F) arg23.view.junk (kernelRun0_A.sl.HS0_32 c arg4 harg4 arg5 harg5 x2 x3))) 0) := rfl
theorem tile_A16 : kernelRun0_A.sl.v806 c arg2 harg2 arg4 harg4 arg5 harg5 arg23 x0 x2 x3
    = subOut 6 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (arg23.view.writes (Elt F) arg23.view.junk (kernelRun0_A.sl.HS0_32 c arg4 harg4 arg5 harg5 x2 x3))) 0) := rfl
theorem tile_A17 : kernelRun0_A.sl.v809 c arg2 harg2 arg4 harg4 arg5 harg5 arg23 x0 x2 x3
    = subOut 7 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (arg23.view.writes (Elt F) arg23.view.junk (kernelRun0_A.sl.HS0_32 c arg4 harg4 arg5 harg5 x2 x3))) 0) := rfl
theorem tile_A20 : kernelRun0_A.sl.v848 c arg2 harg2 arg4 harg4 arg5 harg5 arg23 x0 x2 x3
    = subOut 0 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (arg23.view.writes (Elt F) arg23.view.junk (kernelRun0_A.sl.HS0_32 c arg4 harg4 arg5 harg5 x2 x3))) 0) := rfl
theorem tile_A21 : kernelRun0_A.sl.v851 c arg2 harg2 arg4 harg4 arg5 harg5 arg23 x0 x2 x3
    = subOut 1 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (arg23.view.writes (Elt F) arg23.view.junk (kernelRun0_A.sl.HS0_32 c arg4 harg4 arg5 harg5 x2 x3))) 0) := rfl
theorem tile_A22 : kernelRun0_A.sl.v854 c arg2 harg2 arg4 harg4 arg5 harg5 arg23 x0 x2 x3
    = subOut 2 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (arg23.view.writes (Elt F) arg23.view.junk (kernelRun0_A.sl.HS0_32 c arg4 harg4 arg5 harg5 x2 x3))) 0) := rfl
theorem tile_A23 : kernelRun0_A.sl.v857 c arg2 harg2 arg4 harg4 arg5 harg5 arg23 x0 x2 x3
    = subOut 3 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (arg23.view.writes (Elt F) arg23.view.junk (kernelRun0_A.sl.HS0_32 c arg4 harg4 arg5 harg5 x2 x3))) 0) := rfl
theorem tile_A24 : kernelRun0_A.sl.v860 c arg2 harg2 arg4 harg4 arg5 harg5 arg23 x0 x2 x3
    = subOut 4 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (arg23.view.writes (Elt F) arg23.view.junk (kernelRun0_A.sl.HS0_32 c arg4 harg4 arg5 harg5 x2 x3))) 0) := rfl
theorem tile_A25 : kernelRun0_A.sl.v863 c arg2 harg2 arg4 harg4 arg5 harg5 arg23 x0 x2 x3
    = subOut 5 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (arg23.view.writes (Elt F) arg23.view.junk (kernelRun0_A.sl.HS0_32 c arg4 harg4 arg5 harg5 x2 x3))) 0) := rfl
theorem tile_A26 : kernelRun0_A.sl.v866 c arg2 harg2 arg4 harg4 arg5 harg5 arg23 x0 x2 x3
    = subOut 6 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (arg23.view.writes (Elt F) arg23.view.junk (kernelRun0_A.sl.HS0_32 c arg4 harg4 arg5 harg5 x2 x3))) 0) := rfl
theorem tile_A27 : kernelRun0_A.sl.v869 c arg2 harg2 arg4 harg4 arg5 harg5 arg23 x0 x2 x3
    = subOut 7 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (arg23.view.writes (Elt F) arg23.view.junk (kernelRun0_A.sl.HS0_32 c arg4 harg4 arg5 harg5 x2 x3))) 0) := rfl
theorem tile_A30 : kernelRun0_A.sl.v908 c arg2 harg2 arg4 harg4 arg5 harg5 arg23 x0 x2 x3
    = subOut 0 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (arg23.view.writes (Elt F) arg23.view.junk (kernelRun0_A.sl.HS0_32 c arg4 harg4 arg5 harg5 x2 x3))) 0) := rfl
theorem tile_A31 : kernelRun0_A.sl.v911 c arg2 harg2 arg4 harg4 arg5 harg5 arg23 x0 x2 x3
    = subOut 1 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (arg23.view.writes (Elt F) arg23.view.junk (kernelRun0_A.sl.HS0_32 c arg4 harg4 arg5 harg5 x2 x3))) 0) := rfl
theorem tile_A32 : kernelRun0_A.sl.v914 c arg2 harg2 arg4 harg4 arg5 harg5 arg23 x0 x2 x3
    = subOut 2 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (arg23.view.writes (Elt F) arg23.view.junk (kernelRun0_A.sl.HS0_32 c arg4 harg4 arg5 harg5 x2 x3))) 0) := rfl
theorem tile_A33 : kernelRun0_A.sl.v917 c arg2 harg2 arg4 harg4 arg5 harg5 arg23 x0 x2 x3
    = subOut 3 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (arg23.view.writes (Elt F) arg23.view.junk (kernelRun0_A.sl.HS0_32 c arg4 harg4 arg5 harg5 x2 x3))) 0) := rfl
theorem tile_A34 : kernelRun0_A.sl.v920 c arg2 harg2 arg4 harg4 arg5 harg5 arg23 x0 x2 x3
    = subOut 4 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (arg23.view.writes (Elt F) arg23.view.junk (kernelRun0_A.sl.HS0_32 c arg4 harg4 arg5 harg5 x2 x3))) 0) := rfl
theorem tile_A35 : kernelRun0_A.sl.v923 c arg2 harg2 arg4 harg4 arg5 harg5 arg23 x0 x2 x3
    = subOut 5 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (arg23.view.writes (Elt F) arg23.view.junk (kernelRun0_A.sl.HS0_32 c arg4 harg4 arg5 harg5 x2 x3))) 0) := rfl
theorem tile_A36 : kernelRun0_A.sl.v926 c arg2 harg2 arg4 harg4 arg5 harg5 arg23 x0 x2 x3
    = subOut 6 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (arg23.view.writes (Elt F) arg23.view.junk (kernelRun0_A.sl.HS0_32 c arg4 harg4 arg5 harg5 x2 x3))) 0) := rfl
theorem tile_A37 : kernelRun0_A.sl.v929 c arg2 harg2 arg4 harg4 arg5 harg5 arg23 x0 x2 x3
    = subOut 7 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (arg23.view.writes (Elt F) arg23.view.junk (kernelRun0_A.sl.HS0_32 c arg4 harg4 arg5 harg5 x2 x3))) 0) := rfl
theorem tile_B00 : kernelRun0_B.sl.v728 c i arg2 harg2 arg3 harg3 arg23 harg23 x0 x1 xs0
    = subOut 0 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_B01 : kernelRun0_B.sl.v731 c i arg2 harg2 arg3 harg3 arg23 harg23 x0 x1 xs0
    = subOut 1 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_B02 : kernelRun0_B.sl.v734 c i arg2 harg2 arg3 harg3 arg23 harg23 x0 x1 xs0
    = subOut 2 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_B03 : kernelRun0_B.sl.v737 c i arg2 harg2 arg3 harg3 arg23 harg23 x0 x1 xs0
    = subOut 3 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_B04 : kernelRun0_B.sl.v740 c i arg2 harg2 arg3 harg3 arg23 harg23 x0 x1 xs0
    = subOut 4 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_B05 : kernelRun0_B.sl.v743 c i arg2 harg2 arg3 harg3 arg23 harg23 x0 x1 xs0
    = subOut 5 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_B06 : kernelRun0_B.sl.v746 c i arg2 harg2 arg3 harg3 arg23 harg23 x0 x1 xs0
    = subOut 6 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_B07 : kernelRun0_B.sl.v749 c i arg2 harg2 arg3 harg3 arg23 harg23 x0 x1 xs0
    = subOut 7 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_B10 : kernelRun0_B.sl.v788 c arg2 harg2 arg23 harg23 x0 xs0
    = subOut 0 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_B11 : kernelRun0_B.sl.v791 c arg2 harg2 arg23 harg23 x0 xs0
    = subOut 1 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_B12 : kernelRun0_B.sl.v794 c arg2 harg2 arg23 harg23 x0 xs0
    = subOut 2 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_B13 : kernelRun0_B.sl.v797 c arg2 harg2 arg23 harg23 x0 xs0
    = subOut 3 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_B14 : kernelRun0_B.sl.v800 c arg2 harg2 arg23 harg23 x0 xs0
    = subOut 4 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_B15 : kernelRun0_B.sl.v803 c arg2 harg2 arg23 harg23 x0 xs0
    = subOut 5 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_B16 : kernelRun0_B.sl.v806 c arg2 harg2 arg23 harg23 x0 xs0
    = subOut 6 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_B17 : kernelRun0_B.sl.v809 c arg2 harg2 arg23 harg23 x0 xs0
    = subOut 7 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_B20 : kernelRun0_B.sl.v848 c arg2 harg2 arg23 harg23 x0 xs0
    = subOut 0 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_B21 : kernelRun0_B.sl.v851 c arg2 harg2 arg23 harg23 x0 xs0
    = subOut 1 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_B22 : kernelRun0_B.sl.v854 c arg2 harg2 arg23 harg23 x0 xs0
    = subOut 2 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_B23 : kernelRun0_B.sl.v857 c arg2 harg2 arg23 harg23 x0 xs0
    = subOut 3 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_B24 : kernelRun0_B.sl.v860 c arg2 harg2 arg23 harg23 x0 xs0
    = subOut 4 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_B25 : kernelRun0_B.sl.v863 c arg2 harg2 arg23 harg23 x0 xs0
    = subOut 5 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_B26 : kernelRun0_B.sl.v866 c arg2 harg2 arg23 harg23 x0 xs0
    = subOut 6 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_B27 : kernelRun0_B.sl.v869 c arg2 harg2 arg23 harg23 x0 xs0
    = subOut 7 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_B30 : kernelRun0_B.sl.v908 c arg2 harg2 arg23 harg23 x0 xs0
    = subOut 0 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_B31 : kernelRun0_B.sl.v911 c arg2 harg2 arg23 harg23 x0 xs0
    = subOut 1 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_B32 : kernelRun0_B.sl.v914 c arg2 harg2 arg23 harg23 x0 xs0
    = subOut 2 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_B33 : kernelRun0_B.sl.v917 c arg2 harg2 arg23 harg23 x0 xs0
    = subOut 3 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_B34 : kernelRun0_B.sl.v920 c arg2 harg2 arg23 harg23 x0 xs0
    = subOut 4 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_B35 : kernelRun0_B.sl.v923 c arg2 harg2 arg23 harg23 x0 xs0
    = subOut 5 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_B36 : kernelRun0_B.sl.v926 c arg2 harg2 arg23 harg23 x0 xs0
    = subOut 6 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_B37 : kernelRun0_B.sl.v929 c arg2 harg2 arg23 harg23 x0 xs0
    = subOut 7 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_C00 : kernelRun0_C.sl.v728 c i arg2 harg2 arg3 harg3 arg23 harg23 x0 x1 xs0
    = subOut 0 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_C01 : kernelRun0_C.sl.v731 c i arg2 harg2 arg3 harg3 arg23 harg23 x0 x1 xs0
    = subOut 1 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_C02 : kernelRun0_C.sl.v734 c i arg2 harg2 arg3 harg3 arg23 harg23 x0 x1 xs0
    = subOut 2 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_C03 : kernelRun0_C.sl.v737 c i arg2 harg2 arg3 harg3 arg23 harg23 x0 x1 xs0
    = subOut 3 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_C04 : kernelRun0_C.sl.v740 c i arg2 harg2 arg3 harg3 arg23 harg23 x0 x1 xs0
    = subOut 4 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_C05 : kernelRun0_C.sl.v743 c i arg2 harg2 arg3 harg3 arg23 harg23 x0 x1 xs0
    = subOut 5 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_C06 : kernelRun0_C.sl.v746 c i arg2 harg2 arg3 harg3 arg23 harg23 x0 x1 xs0
    = subOut 6 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_C07 : kernelRun0_C.sl.v749 c i arg2 harg2 arg3 harg3 arg23 harg23 x0 x1 xs0
    = subOut 7 (qTile (arg2.view.read (Elt F) (harg2.unread x0)) 0) (kPrev (arg3.view.read (Elt F) (harg3.unread x1))) (kTile (arg2.view.read (Elt F) (harg2.unread x0)) 0) (vPrev (arg3.view.read (Elt F) (harg3.unread x1))) (vTile (arg2.view.read (Elt F) (harg2.unread x0)) 0) (biasFirst i (arg23.view.read (Elt F) (harg23.unread xs0))) := rfl
theorem tile_C10 : kernelRun0_C.sl.v788 c arg2 harg2 arg23 harg23 x0 xs0
    = subOut 0 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_C11 : kernelRun0_C.sl.v791 c arg2 harg2 arg23 harg23 x0 xs0
    = subOut 1 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_C12 : kernelRun0_C.sl.v794 c arg2 harg2 arg23 harg23 x0 xs0
    = subOut 2 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_C13 : kernelRun0_C.sl.v797 c arg2 harg2 arg23 harg23 x0 xs0
    = subOut 3 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_C14 : kernelRun0_C.sl.v800 c arg2 harg2 arg23 harg23 x0 xs0
    = subOut 4 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_C15 : kernelRun0_C.sl.v803 c arg2 harg2 arg23 harg23 x0 xs0
    = subOut 5 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_C16 : kernelRun0_C.sl.v806 c arg2 harg2 arg23 harg23 x0 xs0
    = subOut 6 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_C17 : kernelRun0_C.sl.v809 c arg2 harg2 arg23 harg23 x0 xs0
    = subOut 7 (qTile (arg2.view.read (Elt F) (harg2.unread x0)) 1) (kTile (arg2.view.read (Elt F) (harg2.unread x0)) 0) (kTile (arg2.view.read (Elt F) (harg2.unread x0)) 1) (vTile (arg2.view.read (Elt F) (harg2.unread x0)) 0) (vTile (arg2.view.read (Elt F) (harg2.unread x0)) 1) (biasAt (arg23.view.read (Elt F) (harg23.unread xs0)) 0) := rfl
theorem tile_C20 : kernelRun0_C.sl.v848 c arg2 harg2 arg23 harg23 x0 xs0
    = subOut 0 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_C21 : kernelRun0_C.sl.v851 c arg2 harg2 arg23 harg23 x0 xs0
    = subOut 1 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_C22 : kernelRun0_C.sl.v854 c arg2 harg2 arg23 harg23 x0 xs0
    = subOut 2 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_C23 : kernelRun0_C.sl.v857 c arg2 harg2 arg23 harg23 x0 xs0
    = subOut 3 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_C24 : kernelRun0_C.sl.v860 c arg2 harg2 arg23 harg23 x0 xs0
    = subOut 4 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_C25 : kernelRun0_C.sl.v863 c arg2 harg2 arg23 harg23 x0 xs0
    = subOut 5 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_C26 : kernelRun0_C.sl.v866 c arg2 harg2 arg23 harg23 x0 xs0
    = subOut 6 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_C27 : kernelRun0_C.sl.v869 c arg2 harg2 arg23 harg23 x0 xs0
    = subOut 7 (qTile (arg2.view.read (Elt F) (harg2.unread x0)) 2) (kTile (arg2.view.read (Elt F) (harg2.unread x0)) 1) (kTile (arg2.view.read (Elt F) (harg2.unread x0)) 2) (vTile (arg2.view.read (Elt F) (harg2.unread x0)) 1) (vTile (arg2.view.read (Elt F) (harg2.unread x0)) 2) (biasAt (arg23.view.read (Elt F) (harg23.unread xs0)) 0) := rfl
theorem tile_C30 : kernelRun0_C.sl.v908 c arg2 harg2 arg23 harg23 x0 xs0
    = subOut 0 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_C31 : kernelRun0_C.sl.v911 c arg2 harg2 arg23 harg23 x0 xs0
    = subOut 1 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_C32 : kernelRun0_C.sl.v914 c arg2 harg2 arg23 harg23 x0 xs0
    = subOut 2 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_C33 : kernelRun0_C.sl.v917 c arg2 harg2 arg23 harg23 x0 xs0
    = subOut 3 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_C34 : kernelRun0_C.sl.v920 c arg2 harg2 arg23 harg23 x0 xs0
    = subOut 4 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_C35 : kernelRun0_C.sl.v923 c arg2 harg2 arg23 harg23 x0 xs0
    = subOut 5 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_C36 : kernelRun0_C.sl.v926 c arg2 harg2 arg23 harg23 x0 xs0
    = subOut 6 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl
theorem tile_C37 : kernelRun0_C.sl.v929 c arg2 harg2 arg23 harg23 x0 xs0
    = subOut 7 (qTile (arg2.view.read (Elt F) (harg2.unread x0)) 3) (kTile (arg2.view.read (Elt F) (harg2.unread x0)) 2) (kTile (arg2.view.read (Elt F) (harg2.unread x0)) 3) (vTile (arg2.view.read (Elt F) (harg2.unread x0)) 2) (vTile (arg2.view.read (Elt F) (harg2.unread x0)) 3) (biasAt (arg23.view.read (Elt F) (harg23.unread xs0)) 0) := rfl

end Cert.KernelIdeal.Hand
-- ==== Proof.AttnRead.lean ====
/- The attention's sub-block read at a row and a lane, at exact arithmetic: `subOut` is a softmax over the 256 keys of the
   row's scores and biases, applied to the values. -/
module

public import proofs.«01_k».proof.Proof.AttnBody
public import Idealize.ShloMosaic.Lib.IdealHost

@[expose] public section

set_option maxRecDepth 16384
set_option maxHeartbeats 2000000

noncomputable section

namespace Cert.KernelIdeal.Hand

open Cert.KernelIdeal Cert.KernelIdeal.Gen Idealize.ShloMosaic Idealize.ShloMosaic.TcCoe Idealize.SL.Sem

/-! ### The rows as mathematics -/

/-- The maximum of a row of logits. -/
def rowMax (t : Fin 256 → EReal) : EReal := Finset.univ.fold max ⊥ t

/-- Softmax of the logits `t` applied to the values `v`, normalised after the sum. -/
def attnRow (t v : Fin 256 → EReal) : EReal :=
  Ideal.div (∑ s, Ideal.exp (t s + -rowMax t) * v s) (∑ s, Ideal.exp (t s + -rowMax t))

/-- Feature `x` of key/value head `k` in row `s` of two blocks one after the other, the first row taken as zero. -/
def kvAt (a b : Vec Ideal S128x256 .bf16) (k : Fin 4) (s : Fin 256) (x : Fin 64) : EReal :=
  if s.val = 0 then 0 else
    if h : s.val < 128 then a (ix2 ⟨s.val, h⟩ ⟨64 * k.val + x.val, by omega⟩)
    else b (ix2 ⟨s.val - 128, by omega⟩ ⟨64 * k.val + x.val, by omega⟩)

/-- The score scale, one eighth. -/
def eighth : EReal := Ideal.ofBits .f32 0x3E000000#32

/-- The score of query row `p`, half `o` of the tile `Q`, against key `s` of head `k`. -/
def scoreAt (Q : Vec Ideal S128x128 .bf16) (o : Fin 2) (kp kc : Vec Ideal S128x256 .bf16) (k : Fin 4) (p : Fin 128) (s : Fin 256) : EReal :=
  ∑ x : Fin 64, Q (ix2 p ⟨64 * o.val + x.val, by omega⟩) * eighth * kvAt kp kc k s x

/-- The logit: the score and the bias. -/
def logitAt (Q : Vec Ideal S128x128 .bf16) (o : Fin 2) (kp kc : Vec Ideal S128x256 .bf16) (k : Fin 4) (B : Vec Ideal S1x1x128x256 .f32)
    (p : Fin 128) (s : Fin 256) : EReal :=
  scoreAt Q o kp kc k p s + B (ix4 0 0 p s)

/-! ### Selections by lane and row -/

theorem lane_lt (x : Fin 128) : IntOp.cmpi CmpIPredicate.slt (BitVec.ofNat 32 x.val) 64#32 = if x.val < 64 then 1#1 else 0#1 := by
  revert x; decide

theorem row_eq (s : Fin 256) : IntOp.cmpi CmpIPredicate.eq (BitVec.ofNat 32 s.val) 0#32 = if s.val = 0 then 1#1 else 0#1 := by
  revert s; decide

theorem select_one {α : Type} (a b : α) : Scalar.select 1#1 a b = a := rfl
theorem select_zero {α : Type} (a b : α) : Scalar.select 0#1 a b = b := rfl

theorem sel_lane (x : Fin 128) (a b : EReal) :
    Scalar.select (IntOp.cmpi CmpIPredicate.slt (BitVec.ofNat 32 x.val) 64#32) a b = if x.val < 64 then a else b := by
  rw [lane_lt]; split <;> rfl

theorem sel_row (s : Fin 256) (a b : EReal) :
    Scalar.select (IntOp.cmpi CmpIPredicate.eq (BitVec.ofNat 32 s.val) 0#32) a b = if s.val = 0 then a else b := by
  rw [row_eq]; split <;> rfl

/-- A sum over 128 lanes in halves. -/
theorem sum_halves (f : Fin 128 → EReal) :
    ∑ x, f x = (∑ x : Fin 64, f ⟨x.val, by omega⟩) + ∑ x : Fin 64, f ⟨64 + x.val, by omega⟩ :=
  Fin.sum_univ_add (a := 64) (b := 64) f

theorem sum_low (f g : Fin 128 → EReal) :
    ∑ x : Fin 128, (if x.val < 64 then f x else 0) * g x = ∑ x : Fin 64, f ⟨x.val, by omega⟩ * g ⟨x.val, by omega⟩ := by
  rw [sum_halves]
  have h : ∑ x : Fin 64, (if (⟨64 + x.val, by omega⟩ : Fin 128).val < 64 then f ⟨64 + x.val, by omega⟩ else 0) * g ⟨64 + x.val, by omega⟩ = 0 :=
    Finset.sum_eq_zero fun x _ => by rw [if_neg (by show ¬ 64 + x.val < 64; omega), zero_mul]
  rw [h, add_zero]
  exact Finset.sum_congr rfl fun x _ => by rw [if_pos (show x.val < 64 from x.isLt)]

theorem sum_high (f g : Fin 128 → EReal) :
    ∑ x : Fin 128, (if x.val < 64 then 0 else f x) * g x = ∑ x : Fin 64, f ⟨64 + x.val, by omega⟩ * g ⟨64 + x.val, by omega⟩ := by
  rw [sum_halves]
  have h : ∑ x : Fin 64, (if (⟨x.val, by omega⟩ : Fin 128).val < 64 then 0 else f ⟨x.val, by omega⟩) * g ⟨x.val, by omega⟩ = 0 :=
    Finset.sum_eq_zero fun x _ => by rw [if_pos (show x.val < 64 from x.isLt), zero_mul]
  rw [h, zero_add]
  exact Finset.sum_congr rfl fun x _ => by rw [if_neg (by show ¬ 64 + x.val < 64; omega)]

/-! ### The key and value tiles -/

theorem k207_0 (a b : Vec Ideal S128x256 .bf16) (s : Fin 256) (x : Fin 64) :
    k0_pay207 (F := Ideal) k0_pay204 a b (ix2 s ⟨x.val, by omega⟩) = kvAt a b 0 s x := by
  pointwise [k0_pay207, k0_pay206, k0_pay204]
  rw [sel_row]
  unfold kvAt
  split
  · rfl
  · split <;> first | rfl | (congr 2; done) | (congr 2; apply Fin.ext; show _ = 64 * 0 + x.val; dsimp only; omega) | (congr 2; apply Fin.ext; show _ = 64 * 0 + x.val; omega)

theorem k207_1 (a b : Vec Ideal S128x256 .bf16) (s : Fin 256) (x : Fin 64) :
    k0_pay207 (F := Ideal) k0_pay204 a b (ix2 s ⟨64 + x.val, by omega⟩) = kvAt a b 1 s x := by
  pointwise [k0_pay207, k0_pay206, k0_pay204]
  rw [sel_row]
  unfold kvAt
  split
  · rfl
  · split <;> first | rfl | (congr 2; done) | (congr 2; apply Fin.ext; show _ = 64 * 1 + x.val; dsimp only; omega) | (congr 2; apply Fin.ext; show _ = 64 * 1 + x.val; omega)

theorem k208_0 (a b : Vec Ideal S128x256 .bf16) (s : Fin 256) (x : Fin 64) :
    k0_pay208 (F := Ideal) k0_pay204 a b (ix2 s ⟨x.val, by omega⟩) = kvAt a b 1 s x := by
  pointwise [k0_pay208, k0_pay206, k0_pay204]
  rw [sel_row]
  unfold kvAt
  split
  · rfl
  · split <;> first | rfl | (congr 2; done) | (congr 2; apply Fin.ext; show _ = 64 * 1 + x.val; dsimp only; omega) | (congr 2; apply Fin.ext; show _ = 64 * 1 + x.val; omega)

theorem k208_1 (a b : Vec Ideal S128x256 .bf16) (s : Fin 256) (x : Fin 64) :
    k0_pay208 (F := Ideal) k0_pay204 a b (ix2 s ⟨64 + x.val, by omega⟩) = kvAt a b 0 s x := by
  pointwise [k0_pay208, k0_pay206, k0_pay204]
  rw [sel_row]
  unfold kvAt
  split
  · rfl
  · split <;> first | rfl | (congr 2; done) | (congr 2; apply Fin.ext; show _ = 64 * 0 + x.val; dsimp only; omega) | (congr 2; apply Fin.ext; show _ = 64 * 0 + x.val; omega)

theorem k213_0 (a b : Vec Ideal S128x256 .bf16) (s : Fin 256) (x : Fin 64) :
    k0_pay213 (F := Ideal) k0_pay204 a b (ix2 s ⟨x.val, by omega⟩) = kvAt a b 2 s x := by
  pointwise [k0_pay213, k0_pay212, k0_pay204]
  rw [sel_row]
  unfold kvAt
  split
  · rfl
  · split <;> first | rfl | (congr 2; done) | (congr 2; apply Fin.ext; show _ = 64 * 2 + x.val; dsimp only; omega) | (congr 2; apply Fin.ext; show _ = 64 * 2 + x.val; omega)

theorem k213_1 (a b : Vec Ideal S128x256 .bf16) (s : Fin 256) (x : Fin 64) :
    k0_pay213 (F := Ideal) k0_pay204 a b (ix2 s ⟨64 + x.val, by omega⟩) = kvAt a b 3 s x := by
  pointwise [k0_pay213, k0_pay212, k0_pay204]
  rw [sel_row]
  unfold kvAt
  split
  · rfl
  · split <;> first | rfl | (congr 2; done) | (congr 2; apply Fin.ext; show _ = 64 * 3 + x.val; dsimp only; omega) | (congr 2; apply Fin.ext; show _ = 64 * 3 + x.val; omega)

theorem k214_0 (a b : Vec Ideal S128x256 .bf16) (s : Fin 256) (x : Fin 64) :
    k0_pay214 (F := Ideal) k0_pay204 a b (ix2 s ⟨x.val, by omega⟩) = kvAt a b 3 s x := by
  pointwise [k0_pay214, k0_pay212, k0_pay204]
  rw [sel_row]
  unfold kvAt
  split
  · rfl
  · split <;> first | rfl | (congr 2; done) | (congr 2; apply Fin.ext; show _ = 64 * 3 + x.val; dsimp only; omega) | (congr 2; apply Fin.ext; show _ = 64 * 3 + x.val; omega)

theorem k214_1 (a b : Vec Ideal S128x256 .bf16) (s : Fin 256) (x : Fin 64) :
    k0_pay214 (F := Ideal) k0_pay204 a b (ix2 s ⟨64 + x.val, by omega⟩) = kvAt a b 2 s x := by
  pointwise [k0_pay214, k0_pay212, k0_pay204]
  rw [sel_row]
  unfold kvAt
  split
  · rfl
  · split <;> first | rfl | (congr 2; done) | (congr 2; apply Fin.ext; show _ = 64 * 2 + x.val; dsimp only; omega) | (congr 2; apply Fin.ext; show _ = 64 * 2 + x.val; omega)

theorem v210_0 (a b : Vec Ideal S128x256 .bf16) (s : Fin 256) (x : Fin 64) :
    k0_pay210 (F := Ideal) k0_pay204 k0_pay205 a b (ix2 s ⟨x.val, by omega⟩) = kvAt a b 0 s x := by
  pointwise [k0_pay210, k0_pay209, k0_pay204, k0_pay205]
  have hx := x.isLt
  refine Eq.trans (dif_pos (by omega)) ?_
  rw [sel_row]
  unfold kvAt
  split
  · rfl
  · split <;> first | rfl | (congr 2; done) | (congr 2; apply Fin.ext; show _ = 64 * 0 + x.val; dsimp only; omega) | (congr 2; apply Fin.ext; show _ = 64 * 0 + x.val; omega)

theorem v210_1 (a b : Vec Ideal S128x256 .bf16) (s : Fin 256) (x : Fin 64) :
    k0_pay210 (F := Ideal) k0_pay204 k0_pay205 a b (ix2 s ⟨64 + x.val, by omega⟩) = kvAt a b 1 s x := by
  pointwise [k0_pay210, k0_pay209, k0_pay204, k0_pay205]
  have hx := x.isLt
  refine Eq.trans (dif_pos (by omega)) ?_
  rw [sel_row]
  unfold kvAt
  split
  · rfl
  · split <;> first | rfl | (congr 2; done) | (congr 2; apply Fin.ext; show _ = 64 * 1 + x.val; dsimp only; omega) | (congr 2; apply Fin.ext; show _ = 64 * 1 + x.val; omega)

theorem v210_one (a b : Vec Ideal S128x256 .bf16) (s : Fin 256) (l : Fin 128) :
    k0_pay210 (F := Ideal) k0_pay204 k0_pay205 a b (ix2 s ⟨128 + l.val, by omega⟩) = (1 : EReal) := by
  pointwise [k0_pay210, k0_pay209, k0_pay204, k0_pay205]

theorem v211_0 (a b : Vec Ideal S128x256 .bf16) (s : Fin 256) (x : Fin 64) :
    k0_pay211 (F := Ideal) k0_pay204 k0_pay205 a b (ix2 s ⟨x.val, by omega⟩) = kvAt a b 1 s x := by
  pointwise [k0_pay211, k0_pay209, k0_pay204, k0_pay205]
  have hx := x.isLt
  refine Eq.trans (dif_pos (by omega)) ?_
  rw [sel_row]
  unfold kvAt
  split
  · rfl
  · split <;> first | rfl | (congr 2; done) | (congr 2; apply Fin.ext; show _ = 64 * 1 + x.val; dsimp only; omega) | (congr 2; apply Fin.ext; show _ = 64 * 1 + x.val; omega)

theorem v211_1 (a b : Vec Ideal S128x256 .bf16) (s : Fin 256) (x : Fin 64) :
    k0_pay211 (F := Ideal) k0_pay204 k0_pay205 a b (ix2 s ⟨64 + x.val, by omega⟩) = kvAt a b 0 s x := by
  pointwise [k0_pay211, k0_pay209, k0_pay204, k0_pay205]
  have hx := x.isLt
  refine Eq.trans (dif_pos (by omega)) ?_
  rw [sel_row]
  unfold kvAt
  split
  · rfl
  · split <;> first | rfl | (congr 2; done) | (congr 2; apply Fin.ext; show _ = 64 * 0 + x.val; dsimp only; omega) | (congr 2; apply Fin.ext; show _ = 64 * 0 + x.val; omega)

theorem v211_one (a b : Vec Ideal S128x256 .bf16) (s : Fin 256) (l : Fin 128) :
    k0_pay211 (F := Ideal) k0_pay204 k0_pay205 a b (ix2 s ⟨128 + l.val, by omega⟩) = (1 : EReal) := by
  pointwise [k0_pay211, k0_pay209, k0_pay204, k0_pay205]

theorem v216_0 (a b : Vec Ideal S128x256 .bf16) (s : Fin 256) (x : Fin 64) :
    k0_pay216 (F := Ideal) k0_pay204 k0_pay205 a b (ix2 s ⟨x.val, by omega⟩) = kvAt a b 2 s x := by
  pointwise [k0_pay216, k0_pay215, k0_pay204, k0_pay205]
  have hx := x.isLt
  refine Eq.trans (dif_pos (by omega)) ?_
  rw [sel_row]
  unfold kvAt
  split
  · rfl
  · split <;> first | rfl | (congr 2; done) | (congr 2; apply Fin.ext; show _ = 64 * 2 + x.val; dsimp only; omega) | (congr 2; apply Fin.ext; show _ = 64 * 2 + x.val; omega)

theorem v216_1 (a b : Vec Ideal S128x256 .bf16) (s : Fin 256) (x : Fin 64) :
    k0_pay216 (F := Ideal) k0_pay204 k0_pay205 a b (ix2 s ⟨64 + x.val, by omega⟩) = kvAt a b 3 s x := by
  pointwise [k0_pay216, k0_pay215, k0_pay204, k0_pay205]
  have hx := x.isLt
  refine Eq.trans (dif_pos (by omega)) ?_
  rw [sel_row]
  unfold kvAt
  split
  · rfl
  · split <;> first | rfl | (congr 2; done) | (congr 2; apply Fin.ext; show _ = 64 * 3 + x.val; dsimp only; omega) | (congr 2; apply Fin.ext; show _ = 64 * 3 + x.val; omega)

theorem v216_one (a b : Vec Ideal S128x256 .bf16) (s : Fin 256) (l : Fin 128) :
    k0_pay216 (F := Ideal) k0_pay204 k0_pay205 a b (ix2 s ⟨128 + l.val, by omega⟩) = (1 : EReal) := by
  pointwise [k0_pay216, k0_pay215, k0_pay204, k0_pay205]

theorem v217_0 (a b : Vec Ideal S128x256 .bf16) (s : Fin 256) (x : Fin 64) :
    k0_pay217 (F := Ideal) k0_pay204 k0_pay205 a b (ix2 s ⟨x.val, by omega⟩) = kvAt a b 3 s x := by
  pointwise [k0_pay217, k0_pay215, k0_pay204, k0_pay205]
  have hx := x.isLt
  refine Eq.trans (dif_pos (by omega)) ?_
  rw [sel_row]
  unfold kvAt
  split
  · rfl
  · split <;> first | rfl | (congr 2; done) | (congr 2; apply Fin.ext; show _ = 64 * 3 + x.val; dsimp only; omega) | (congr 2; apply Fin.ext; show _ = 64 * 3 + x.val; omega)

theorem v217_1 (a b : Vec Ideal S128x256 .bf16) (s : Fin 256) (x : Fin 64) :
    k0_pay217 (F := Ideal) k0_pay204 k0_pay205 a b (ix2 s ⟨64 + x.val, by omega⟩) = kvAt a b 2 s x := by
  pointwise [k0_pay217, k0_pay215, k0_pay204, k0_pay205]
  have hx := x.isLt
  refine Eq.trans (dif_pos (by omega)) ?_
  rw [sel_row]
  unfold kvAt
  split
  · rfl
  · split <;> first | rfl | (congr 2; done) | (congr 2; apply Fin.ext; show _ = 64 * 2 + x.val; dsimp only; omega) | (congr 2; apply Fin.ext; show _ = 64 * 2 + x.val; omega)

theorem v217_one (a b : Vec Ideal S128x256 .bf16) (s : Fin 256) (l : Fin 128) :
    k0_pay217 (F := Ideal) k0_pay204 k0_pay205 a b (ix2 s ⟨128 + l.val, by omega⟩) = (1 : EReal) := by
  pointwise [k0_pay217, k0_pay215, k0_pay204, k0_pay205]

/-! ### The stacks of scores -/

theorem stackA_0 (k : FVec Ideal S256x128 .bf16) (q0 q1 q2 q3 : Vec Ideal S128x128 .bf16) (p : Fin 128) (s : Fin 256) :
    stackA k q0 q1 q2 q3 (ix2 ⟨0 + p.val, by omega⟩ s)
      = ∑ x : Fin 64, q0 (ix2 p ⟨x.val, by omega⟩) * eighth * k (ix2 s ⟨x.val, by omega⟩) := by
  have hp := p.isLt
  obtain ⟨R, hR⟩ : ∃ R : EReal, R = ∑ x : Fin 64, q0 (ix2 p ⟨x.val, by omega⟩) * eighth * k (ix2 s ⟨x.val, by omega⟩) := ⟨_, rfl⟩
  rw [← hR]
  pointwise [stackA, k0_pay218, k0_pay201, k0_pay202, lanes]
  refine Eq.trans (Finset.sum_congr rfl fun x _ => ?_) ((sum_low (fun x => q0 (ix2 p x) * eighth) (fun x => k (ix2 s x))).trans hR.symm)
  first
  | (rw [sel_lane]; split <;> first | rfl | exact (zero_mul _).symm)
  | (refine congrArg (· * k (ix2 s x)) ?_
     rw [dif_pos (by omega)]
     rw [sel_lane]
     have e : ∀ h, (⟨0 + p.val, h⟩ : Fin 128) = p := fun h => Fin.ext (by show 0 + p.val = p.val; omega)
     rw [e]
     rfl)

theorem stackA_1 (k : FVec Ideal S256x128 .bf16) (q0 q1 q2 q3 : Vec Ideal S128x128 .bf16) (p : Fin 128) (s : Fin 256) :
    stackA k q0 q1 q2 q3 (ix2 ⟨128 + p.val, by omega⟩ s)
      = ∑ x : Fin 64, q1 (ix2 p ⟨x.val, by omega⟩) * eighth * k (ix2 s ⟨x.val, by omega⟩) := by
  have hp := p.isLt
  obtain ⟨R, hR⟩ : ∃ R : EReal, R = ∑ x : Fin 64, q1 (ix2 p ⟨x.val, by omega⟩) * eighth * k (ix2 s ⟨x.val, by omega⟩) := ⟨_, rfl⟩
  rw [← hR]
  pointwise [stackA, k0_pay218, k0_pay201, k0_pay202, lanes]
  refine Eq.trans (Finset.sum_congr rfl fun x _ => ?_) ((sum_low (fun x => q1 (ix2 p x) * eighth) (fun x => k (ix2 s x))).trans hR.symm)
  first
  | (rw [sel_lane]; split <;> first | rfl | exact (zero_mul _).symm)
  | (refine congrArg (· * k (ix2 s x)) ?_
     rw [dif_neg (by omega)]
     rw [dif_pos (by omega)]
     rw [sel_lane]
     have e : ∀ h, (⟨128 + p.val - 128, h⟩ : Fin 128) = p := fun h => Fin.ext (by show 128 + p.val - 128 = p.val; omega)
     rw [e]
     rfl)

theorem stackA_2 (k : FVec Ideal S256x128 .bf16) (q0 q1 q2 q3 : Vec Ideal S128x128 .bf16) (p : Fin 128) (s : Fin 256) :
    stackA k q0 q1 q2 q3 (ix2 ⟨256 + p.val, by omega⟩ s)
      = ∑ x : Fin 64, q2 (ix2 p ⟨64 + x.val, by omega⟩) * eighth * k (ix2 s ⟨64 + x.val, by omega⟩) := by
  have hp := p.isLt
  obtain ⟨R, hR⟩ : ∃ R : EReal, R = ∑ x : Fin 64, q2 (ix2 p ⟨64 + x.val, by omega⟩) * eighth * k (ix2 s ⟨64 + x.val, by omega⟩) := ⟨_, rfl⟩
  rw [← hR]
  pointwise [stackA, k0_pay218, k0_pay201, k0_pay202, lanes]
  refine Eq.trans (Finset.sum_congr rfl fun x _ => ?_) ((sum_high (fun x => q2 (ix2 p x) * eighth) (fun x => k (ix2 s x))).trans hR.symm)
  first
  | (rw [sel_lane]; split <;> first | rfl | exact (zero_mul _).symm)
  | (refine congrArg (· * k (ix2 s x)) ?_
     rw [dif_neg (by omega)]
     rw [dif_neg (by omega)]
     rw [dif_pos (by omega)]
     rw [sel_lane]
     have e : ∀ h, (⟨256 + p.val - 128 - 128, h⟩ : Fin 128) = p := fun h => Fin.ext (by show 256 + p.val - 128 - 128 = p.val; omega)
     rw [e]
     rfl)

theorem stackA_3 (k : FVec Ideal S256x128 .bf16) (q0 q1 q2 q3 : Vec Ideal S128x128 .bf16) (p : Fin 128) (s : Fin 256) :
    stackA k q0 q1 q2 q3 (ix2 ⟨384 + p.val, by omega⟩ s)
      = ∑ x : Fin 64, q3 (ix2 p ⟨64 + x.val, by omega⟩) * eighth * k (ix2 s ⟨64 + x.val, by omega⟩) := by
  have hp := p.isLt
  obtain ⟨R, hR⟩ : ∃ R : EReal, R = ∑ x : Fin 64, q3 (ix2 p ⟨64 + x.val, by omega⟩) * eighth * k (ix2 s ⟨64 + x.val, by omega⟩) := ⟨_, rfl⟩
  rw [← hR]
  pointwise [stackA, k0_pay218, k0_pay201, k0_pay202, lanes]
  refine Eq.trans (Finset.sum_congr rfl fun x _ => ?_) ((sum_high (fun x => q3 (ix2 p x) * eighth) (fun x => k (ix2 s x))).trans hR.symm)
  first
  | (rw [sel_lane]; split <;> first | rfl | exact (zero_mul _).symm)
  | (refine congrArg (· * k (ix2 s x)) ?_
     rw [dif_neg (by omega)]
     rw [dif_neg (by omega)]
     rw [dif_neg (by omega)]
     rw [sel_lane]
     have e : ∀ h, (⟨384 + p.val - 128 - 128 - 128, h⟩ : Fin 128) = p := fun h => Fin.ext (by show 384 + p.val - 128 - 128 - 128 = p.val; omega)
     rw [e]
     rfl)

theorem stackB_0 (k : FVec Ideal S256x128 .bf16) (q0 q1 q2 q3 : Vec Ideal S128x128 .bf16) (p : Fin 128) (s : Fin 256) :
    stackB k q0 q1 q2 q3 (ix2 ⟨0 + p.val, by omega⟩ s)
      = ∑ x : Fin 64, q0 (ix2 p ⟨64 + x.val, by omega⟩) * eighth * k (ix2 s ⟨64 + x.val, by omega⟩) := by
  have hp := p.isLt
  obtain ⟨R, hR⟩ : ∃ R : EReal, R = ∑ x : Fin 64, q0 (ix2 p ⟨64 + x.val, by omega⟩) * eighth * k (ix2 s ⟨64 + x.val, by omega⟩) := ⟨_, rfl⟩
  rw [← hR]
  pointwise [stackB, k0_pay222, k0_pay201, k0_pay202, lanes]
  refine Eq.trans (Finset.sum_congr rfl fun x _ => ?_) ((sum_high (fun x => q0 (ix2 p x) * eighth) (fun x => k (ix2 s x))).trans hR.symm)
  first
  | (rw [sel_lane]; split <;> first | rfl | exact (zero_mul _).symm)
  | (refine congrArg (· * k (ix2 s x)) ?_
     rw [dif_pos (by omega)]
     rw [sel_lane]
     have e : ∀ h, (⟨0 + p.val, h⟩ : Fin 128) = p := fun h => Fin.ext (by show 0 + p.val = p.val; omega)
     rw [e]
     rfl)

theorem stackB_1 (k : FVec Ideal S256x128 .bf16) (q0 q1 q2 q3 : Vec Ideal S128x128 .bf16) (p : Fin 128) (s : Fin 256) :
    stackB k q0 q1 q2 q3 (ix2 ⟨128 + p.val, by omega⟩ s)
      = ∑ x : Fin 64, q1 (ix2 p ⟨64 + x.val, by omega⟩) * eighth * k (ix2 s ⟨64 + x.val, by omega⟩) := by
  have hp := p.isLt
  obtain ⟨R, hR⟩ : ∃ R : EReal, R = ∑ x : Fin 64, q1 (ix2 p ⟨64 + x.val, by omega⟩) * eighth * k (ix2 s ⟨64 + x.val, by omega⟩) := ⟨_, rfl⟩
  rw [← hR]
  pointwise [stackB, k0_pay222, k0_pay201, k0_pay202, lanes]
  refine Eq.trans (Finset.sum_congr rfl fun x _ => ?_) ((sum_high (fun x => q1 (ix2 p x) * eighth) (fun x => k (ix2 s x))).trans hR.symm)
  first
  | (rw [sel_lane]; split <;> first | rfl | exact (zero_mul _).symm)
  | (refine congrArg (· * k (ix2 s x)) ?_
     rw [dif_neg (by omega)]
     rw [dif_pos (by omega)]
     rw [sel_lane]
     have e : ∀ h, (⟨128 + p.val - 128, h⟩ : Fin 128) = p := fun h => Fin.ext (by show 128 + p.val - 128 = p.val; omega)
     rw [e]
     rfl)

theorem stackB_2 (k : FVec Ideal S256x128 .bf16) (q0 q1 q2 q3 : Vec Ideal S128x128 .bf16) (p : Fin 128) (s : Fin 256) :
    stackB k q0 q1 q2 q3 (ix2 ⟨256 + p.val, by omega⟩ s)
      = ∑ x : Fin 64, q2 (ix2 p ⟨x.val, by omega⟩) * eighth * k (ix2 s ⟨x.val, by omega⟩) := by
  have hp := p.isLt
  obtain ⟨R, hR⟩ : ∃ R : EReal, R = ∑ x : Fin 64, q2 (ix2 p ⟨x.val, by omega⟩) * eighth * k (ix2 s ⟨x.val, by omega⟩) := ⟨_, rfl⟩
  rw [← hR]
  pointwise [stackB, k0_pay222, k0_pay201, k0_pay202, lanes]
  refine Eq.trans (Finset.sum_congr rfl fun x _ => ?_) ((sum_low (fun x => q2 (ix2 p x) * eighth) (fun x => k (ix2 s x))).trans hR.symm)
  first
  | (rw [sel_lane]; split <;> first | rfl | exact (zero_mul _).symm)
  | (refine congrArg (· * k (ix2 s x)) ?_
     rw [dif_neg (by omega)]
     rw [dif_neg (by omega)]
     rw [dif_pos (by omega)]
     rw [sel_lane]
     have e : ∀ h, (⟨256 + p.val - 128 - 128, h⟩ : Fin 128) = p := fun h => Fin.ext (by show 256 + p.val - 128 - 128 = p.val; omega)
     rw [e]
     rfl)

theorem stackB_3 (k : FVec Ideal S256x128 .bf16) (q0 q1 q2 q3 : Vec Ideal S128x128 .bf16) (p : Fin 128) (s : Fin 256) :
    stackB k q0 q1 q2 q3 (ix2 ⟨384 + p.val, by omega⟩ s)
      = ∑ x : Fin 64, q3 (ix2 p ⟨x.val, by omega⟩) * eighth * k (ix2 s ⟨x.val, by omega⟩) := by
  have hp := p.isLt
  obtain ⟨R, hR⟩ : ∃ R : EReal, R = ∑ x : Fin 64, q3 (ix2 p ⟨x.val, by omega⟩) * eighth * k (ix2 s ⟨x.val, by omega⟩) := ⟨_, rfl⟩
  rw [← hR]
  pointwise [stackB, k0_pay222, k0_pay201, k0_pay202, lanes]
  refine Eq.trans (Finset.sum_congr rfl fun x _ => ?_) ((sum_low (fun x => q3 (ix2 p x) * eighth) (fun x => k (ix2 s x))).trans hR.symm)
  first
  | (rw [sel_lane]; split <;> first | rfl | exact (zero_mul _).symm)
  | (refine congrArg (· * k (ix2 s x)) ?_
     rw [dif_neg (by omega)]
     rw [dif_neg (by omega)]
     rw [dif_neg (by omega)]
     rw [sel_lane]
     have e : ∀ h, (⟨384 + p.val - 128 - 128 - 128, h⟩ : Fin 128) = p := fun h => Fin.ext (by show 384 + p.val - 128 - 128 - 128 = p.val; omega)
     rw [e]
     rfl)

/-! ### The logits and the weights -/

/-- The sixteen heads' biases in the order of the stacks, added to the scores. -/
def logits (S : FVec Ideal S2048x256 .f32) (b : Fin 16 → Vec Ideal S1x1x128x256 .f32) : FVec Ideal S2048x256 .f32 :=
  addf S (concatenate S2048x256 0 [⟨S128x256, shapeCast S128x256 (b 0) shapeCasts_S1x1x128x256_S128x256⟩, ⟨S128x256, shapeCast S128x256 (b 2) shapeCasts_S1x1x128x256_S128x256⟩, ⟨S128x256, shapeCast S128x256 (b 5) shapeCasts_S1x1x128x256_S128x256⟩, ⟨S128x256, shapeCast S128x256 (b 7) shapeCasts_S1x1x128x256_S128x256⟩, ⟨S128x256, shapeCast S128x256 (b 1) shapeCasts_S1x1x128x256_S128x256⟩, ⟨S128x256, shapeCast S128x256 (b 3) shapeCasts_S1x1x128x256_S128x256⟩, ⟨S128x256, shapeCast S128x256 (b 4) shapeCasts_S1x1x128x256_S128x256⟩, ⟨S128x256, shapeCast S128x256 (b 6) shapeCasts_S1x1x128x256_S128x256⟩, ⟨S128x256, shapeCast S128x256 (b 8) shapeCasts_S1x1x128x256_S128x256⟩, ⟨S128x256, shapeCast S128x256 (b 10) shapeCasts_S1x1x128x256_S128x256⟩, ⟨S128x256, shapeCast S128x256 (b 13) shapeCasts_S1x1x128x256_S128x256⟩, ⟨S128x256, shapeCast S128x256 (b 15) shapeCasts_S1x1x128x256_S128x256⟩, ⟨S128x256, shapeCast S128x256 (b 9) shapeCasts_S1x1x128x256_S128x256⟩, ⟨S128x256, shapeCast S128x256 (b 11) shapeCasts_S1x1x128x256_S128x256⟩, ⟨S128x256, shapeCast S128x256 (b 12) shapeCasts_S1x1x128x256_S128x256⟩, ⟨S128x256, shapeCast S128x256 (b 14) shapeCasts_S1x1x128x256_S128x256⟩]
    concatenates_S128x256_S128x256_S128x256_S128x256_S128x256_S128x256_S128x256_S128x256_S128x256_S128x256_S128x256_S128x256_S128x256_S128x256_S128x256_S128x256_S2048x256_d0)

/-- `exp (t - max t)` of each row. -/
def expRows (T : FVec Ideal S2048x256 .f32) : FVec Ideal S2048x256 .bf16 :=
  truncf .bf16 (exp (subf T (broadcastTo S2048x256 (shapeCast S2048x1
    (multiReduction .maximumf [1] S2048 T 0xFF800000#32 reduces_S2048x256_S2048 (.inl rfl) rfl) shapeCasts_S2048_S2048x1)
    broadcasts_S2048x1_S2048x256))) bitsLt_bf16_f32

theorem weights_eq (q : Fin 8 → Vec Ideal S128x128 .bf16) (kp kc : Vec Ideal S128x256 .bf16) (b : Fin 16 → Vec Ideal S1x1x128x256 .f32) :
    weights q kp kc b = expRows (logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b) := rfl

theorem expRows_apply (T : FVec Ideal S2048x256 .f32) (r : Fin 2048) (s : Fin 256) :
    expRows T (ix2 r s) = Ideal.exp (T (ix2 r s) + -rowMax fun s => T (ix2 r s)) := by
  pointwise [expRows]
  rfl

theorem logits_0 (S : FVec Ideal S2048x256 .f32) (b : Fin 16 → Vec Ideal S1x1x128x256 .f32) (p : Fin 128) (s : Fin 256) :
    logits S b (ix2 ⟨0 + p.val, by omega⟩ s) = S (ix2 ⟨0 + p.val, by omega⟩ s) + b 0 (ix4 0 0 p s) := by
  unfold logits
  refine congrArg (S (ix2 ⟨0 + p.val, by omega⟩ s) + ·) ?_
  refine Eq.trans (concatenate_apply_piece (t := S2048x256) 0 _ _ _ 0 ?_ S128x256 (shapeCast S128x256 (b 0) shapeCasts_S1x1x128x256_S128x256) ?_ rfl 0 ?_ (ix2 p s) (fun a ha => ?_) rfl) ?_
  · show 0 < 16; omega
  · rfl
  · rfl
  · match a with
    | 0 => exact absurd rfl ha
    | 1 => rfl
  · pointwise

theorem logits_1 (S : FVec Ideal S2048x256 .f32) (b : Fin 16 → Vec Ideal S1x1x128x256 .f32) (p : Fin 128) (s : Fin 256) :
    logits S b (ix2 ⟨128 + p.val, by omega⟩ s) = S (ix2 ⟨128 + p.val, by omega⟩ s) + b 2 (ix4 0 0 p s) := by
  unfold logits
  refine congrArg (S (ix2 ⟨128 + p.val, by omega⟩ s) + ·) ?_
  refine Eq.trans (concatenate_apply_piece (t := S2048x256) 0 _ _ _ 1 ?_ S128x256 (shapeCast S128x256 (b 2) shapeCasts_S1x1x128x256_S128x256) ?_ rfl 128 ?_ (ix2 p s) (fun a ha => ?_) rfl) ?_
  · show 1 < 16; omega
  · rfl
  · rfl
  · match a with
    | 0 => exact absurd rfl ha
    | 1 => rfl
  · pointwise

theorem logits_2 (S : FVec Ideal S2048x256 .f32) (b : Fin 16 → Vec Ideal S1x1x128x256 .f32) (p : Fin 128) (s : Fin 256) :
    logits S b (ix2 ⟨256 + p.val, by omega⟩ s) = S (ix2 ⟨256 + p.val, by omega⟩ s) + b 5 (ix4 0 0 p s) := by
  unfold logits
  refine congrArg (S (ix2 ⟨256 + p.val, by omega⟩ s) + ·) ?_
  refine Eq.trans (concatenate_apply_piece (t := S2048x256) 0 _ _ _ 2 ?_ S128x256 (shapeCast S128x256 (b 5) shapeCasts_S1x1x128x256_S128x256) ?_ rfl 256 ?_ (ix2 p s) (fun a ha => ?_) rfl) ?_
  · show 2 < 16; omega
  · rfl
  · rfl
  · match a with
    | 0 => exact absurd rfl ha
    | 1 => rfl
  · pointwise

theorem logits_3 (S : FVec Ideal S2048x256 .f32) (b : Fin 16 → Vec Ideal S1x1x128x256 .f32) (p : Fin 128) (s : Fin 256) :
    logits S b (ix2 ⟨384 + p.val, by omega⟩ s) = S (ix2 ⟨384 + p.val, by omega⟩ s) + b 7 (ix4 0 0 p s) := by
  unfold logits
  refine congrArg (S (ix2 ⟨384 + p.val, by omega⟩ s) + ·) ?_
  refine Eq.trans (concatenate_apply_piece (t := S2048x256) 0 _ _ _ 3 ?_ S128x256 (shapeCast S128x256 (b 7) shapeCasts_S1x1x128x256_S128x256) ?_ rfl 384 ?_ (ix2 p s) (fun a ha => ?_) rfl) ?_
  · show 3 < 16; omega
  · rfl
  · rfl
  · match a with
    | 0 => exact absurd rfl ha
    | 1 => rfl
  · pointwise

theorem logits_4 (S : FVec Ideal S2048x256 .f32) (b : Fin 16 → Vec Ideal S1x1x128x256 .f32) (p : Fin 128) (s : Fin 256) :
    logits S b (ix2 ⟨512 + p.val, by omega⟩ s) = S (ix2 ⟨512 + p.val, by omega⟩ s) + b 1 (ix4 0 0 p s) := by
  unfold logits
  refine congrArg (S (ix2 ⟨512 + p.val, by omega⟩ s) + ·) ?_
  refine Eq.trans (concatenate_apply_piece (t := S2048x256) 0 _ _ _ 4 ?_ S128x256 (shapeCast S128x256 (b 1) shapeCasts_S1x1x128x256_S128x256) ?_ rfl 512 ?_ (ix2 p s) (fun a ha => ?_) rfl) ?_
  · show 4 < 16; omega
  · rfl
  · rfl
  · match a with
    | 0 => exact absurd rfl ha
    | 1 => rfl
  · pointwise

theorem logits_5 (S : FVec Ideal S2048x256 .f32) (b : Fin 16 → Vec Ideal S1x1x128x256 .f32) (p : Fin 128) (s : Fin 256) :
    logits S b (ix2 ⟨640 + p.val, by omega⟩ s) = S (ix2 ⟨640 + p.val, by omega⟩ s) + b 3 (ix4 0 0 p s) := by
  unfold logits
  refine congrArg (S (ix2 ⟨640 + p.val, by omega⟩ s) + ·) ?_
  refine Eq.trans (concatenate_apply_piece (t := S2048x256) 0 _ _ _ 5 ?_ S128x256 (shapeCast S128x256 (b 3) shapeCasts_S1x1x128x256_S128x256) ?_ rfl 640 ?_ (ix2 p s) (fun a ha => ?_) rfl) ?_
  · show 5 < 16; omega
  · rfl
  · rfl
  · match a with
    | 0 => exact absurd rfl ha
    | 1 => rfl
  · pointwise

theorem logits_6 (S : FVec Ideal S2048x256 .f32) (b : Fin 16 → Vec Ideal S1x1x128x256 .f32) (p : Fin 128) (s : Fin 256) :
    logits S b (ix2 ⟨768 + p.val, by omega⟩ s) = S (ix2 ⟨768 + p.val, by omega⟩ s) + b 4 (ix4 0 0 p s) := by
  unfold logits
  refine congrArg (S (ix2 ⟨768 + p.val, by omega⟩ s) + ·) ?_
  refine Eq.trans (concatenate_apply_piece (t := S2048x256) 0 _ _ _ 6 ?_ S128x256 (shapeCast S128x256 (b 4) shapeCasts_S1x1x128x256_S128x256) ?_ rfl 768 ?_ (ix2 p s) (fun a ha => ?_) rfl) ?_
  · show 6 < 16; omega
  · rfl
  · rfl
  · match a with
    | 0 => exact absurd rfl ha
    | 1 => rfl
  · pointwise

theorem logits_7 (S : FVec Ideal S2048x256 .f32) (b : Fin 16 → Vec Ideal S1x1x128x256 .f32) (p : Fin 128) (s : Fin 256) :
    logits S b (ix2 ⟨896 + p.val, by omega⟩ s) = S (ix2 ⟨896 + p.val, by omega⟩ s) + b 6 (ix4 0 0 p s) := by
  unfold logits
  refine congrArg (S (ix2 ⟨896 + p.val, by omega⟩ s) + ·) ?_
  refine Eq.trans (concatenate_apply_piece (t := S2048x256) 0 _ _ _ 7 ?_ S128x256 (shapeCast S128x256 (b 6) shapeCasts_S1x1x128x256_S128x256) ?_ rfl 896 ?_ (ix2 p s) (fun a ha => ?_) rfl) ?_
  · show 7 < 16; omega
  · rfl
  · rfl
  · match a with
    | 0 => exact absurd rfl ha
    | 1 => rfl
  · pointwise

theorem logits_8 (S : FVec Ideal S2048x256 .f32) (b : Fin 16 → Vec Ideal S1x1x128x256 .f32) (p : Fin 128) (s : Fin 256) :
    logits S b (ix2 ⟨1024 + p.val, by omega⟩ s) = S (ix2 ⟨1024 + p.val, by omega⟩ s) + b 8 (ix4 0 0 p s) := by
  unfold logits
  refine congrArg (S (ix2 ⟨1024 + p.val, by omega⟩ s) + ·) ?_
  refine Eq.trans (concatenate_apply_piece (t := S2048x256) 0 _ _ _ 8 ?_ S128x256 (shapeCast S128x256 (b 8) shapeCasts_S1x1x128x256_S128x256) ?_ rfl 1024 ?_ (ix2 p s) (fun a ha => ?_) rfl) ?_
  · show 8 < 16; omega
  · rfl
  · rfl
  · match a with
    | 0 => exact absurd rfl ha
    | 1 => rfl
  · pointwise

theorem logits_9 (S : FVec Ideal S2048x256 .f32) (b : Fin 16 → Vec Ideal S1x1x128x256 .f32) (p : Fin 128) (s : Fin 256) :
    logits S b (ix2 ⟨1152 + p.val, by omega⟩ s) = S (ix2 ⟨1152 + p.val, by omega⟩ s) + b 10 (ix4 0 0 p s) := by
  unfold logits
  refine congrArg (S (ix2 ⟨1152 + p.val, by omega⟩ s) + ·) ?_
  refine Eq.trans (concatenate_apply_piece (t := S2048x256) 0 _ _ _ 9 ?_ S128x256 (shapeCast S128x256 (b 10) shapeCasts_S1x1x128x256_S128x256) ?_ rfl 1152 ?_ (ix2 p s) (fun a ha => ?_) rfl) ?_
  · show 9 < 16; omega
  · rfl
  · rfl
  · match a with
    | 0 => exact absurd rfl ha
    | 1 => rfl
  · pointwise

theorem logits_10 (S : FVec Ideal S2048x256 .f32) (b : Fin 16 → Vec Ideal S1x1x128x256 .f32) (p : Fin 128) (s : Fin 256) :
    logits S b (ix2 ⟨1280 + p.val, by omega⟩ s) = S (ix2 ⟨1280 + p.val, by omega⟩ s) + b 13 (ix4 0 0 p s) := by
  unfold logits
  refine congrArg (S (ix2 ⟨1280 + p.val, by omega⟩ s) + ·) ?_
  refine Eq.trans (concatenate_apply_piece (t := S2048x256) 0 _ _ _ 10 ?_ S128x256 (shapeCast S128x256 (b 13) shapeCasts_S1x1x128x256_S128x256) ?_ rfl 1280 ?_ (ix2 p s) (fun a ha => ?_) rfl) ?_
  · show 10 < 16; omega
  · rfl
  · rfl
  · match a with
    | 0 => exact absurd rfl ha
    | 1 => rfl
  · pointwise

theorem logits_11 (S : FVec Ideal S2048x256 .f32) (b : Fin 16 → Vec Ideal S1x1x128x256 .f32) (p : Fin 128) (s : Fin 256) :
    logits S b (ix2 ⟨1408 + p.val, by omega⟩ s) = S (ix2 ⟨1408 + p.val, by omega⟩ s) + b 15 (ix4 0 0 p s) := by
  unfold logits
  refine congrArg (S (ix2 ⟨1408 + p.val, by omega⟩ s) + ·) ?_
  refine Eq.trans (concatenate_apply_piece (t := S2048x256) 0 _ _ _ 11 ?_ S128x256 (shapeCast S128x256 (b 15) shapeCasts_S1x1x128x256_S128x256) ?_ rfl 1408 ?_ (ix2 p s) (fun a ha => ?_) rfl) ?_
  · show 11 < 16; omega
  · rfl
  · rfl
  · match a with
    | 0 => exact absurd rfl ha
    | 1 => rfl
  · pointwise

theorem logits_12 (S : FVec Ideal S2048x256 .f32) (b : Fin 16 → Vec Ideal S1x1x128x256 .f32) (p : Fin 128) (s : Fin 256) :
    logits S b (ix2 ⟨1536 + p.val, by omega⟩ s) = S (ix2 ⟨1536 + p.val, by omega⟩ s) + b 9 (ix4 0 0 p s) := by
  unfold logits
  refine congrArg (S (ix2 ⟨1536 + p.val, by omega⟩ s) + ·) ?_
  refine Eq.trans (concatenate_apply_piece (t := S2048x256) 0 _ _ _ 12 ?_ S128x256 (shapeCast S128x256 (b 9) shapeCasts_S1x1x128x256_S128x256) ?_ rfl 1536 ?_ (ix2 p s) (fun a ha => ?_) rfl) ?_
  · show 12 < 16; omega
  · rfl
  · rfl
  · match a with
    | 0 => exact absurd rfl ha
    | 1 => rfl
  · pointwise

theorem logits_13 (S : FVec Ideal S2048x256 .f32) (b : Fin 16 → Vec Ideal S1x1x128x256 .f32) (p : Fin 128) (s : Fin 256) :
    logits S b (ix2 ⟨1664 + p.val, by omega⟩ s) = S (ix2 ⟨1664 + p.val, by omega⟩ s) + b 11 (ix4 0 0 p s) := by
  unfold logits
  refine congrArg (S (ix2 ⟨1664 + p.val, by omega⟩ s) + ·) ?_
  refine Eq.trans (concatenate_apply_piece (t := S2048x256) 0 _ _ _ 13 ?_ S128x256 (shapeCast S128x256 (b 11) shapeCasts_S1x1x128x256_S128x256) ?_ rfl 1664 ?_ (ix2 p s) (fun a ha => ?_) rfl) ?_
  · show 13 < 16; omega
  · rfl
  · rfl
  · match a with
    | 0 => exact absurd rfl ha
    | 1 => rfl
  · pointwise

theorem logits_14 (S : FVec Ideal S2048x256 .f32) (b : Fin 16 → Vec Ideal S1x1x128x256 .f32) (p : Fin 128) (s : Fin 256) :
    logits S b (ix2 ⟨1792 + p.val, by omega⟩ s) = S (ix2 ⟨1792 + p.val, by omega⟩ s) + b 12 (ix4 0 0 p s) := by
  unfold logits
  refine congrArg (S (ix2 ⟨1792 + p.val, by omega⟩ s) + ·) ?_
  refine Eq.trans (concatenate_apply_piece (t := S2048x256) 0 _ _ _ 14 ?_ S128x256 (shapeCast S128x256 (b 12) shapeCasts_S1x1x128x256_S128x256) ?_ rfl 1792 ?_ (ix2 p s) (fun a ha => ?_) rfl) ?_
  · show 14 < 16; omega
  · rfl
  · rfl
  · match a with
    | 0 => exact absurd rfl ha
    | 1 => rfl
  · pointwise

theorem logits_15 (S : FVec Ideal S2048x256 .f32) (b : Fin 16 → Vec Ideal S1x1x128x256 .f32) (p : Fin 128) (s : Fin 256) :
    logits S b (ix2 ⟨1920 + p.val, by omega⟩ s) = S (ix2 ⟨1920 + p.val, by omega⟩ s) + b 14 (ix4 0 0 p s) := by
  unfold logits
  refine congrArg (S (ix2 ⟨1920 + p.val, by omega⟩ s) + ·) ?_
  refine Eq.trans (concatenate_apply_piece (t := S2048x256) 0 _ _ _ 15 ?_ S128x256 (shapeCast S128x256 (b 14) shapeCasts_S1x1x128x256_S128x256) ?_ rfl 1920 ?_ (ix2 p s) (fun a ha => ?_) rfl) ?_
  · show 15 < 16; omega
  · rfl
  · rfl
  · match a with
    | 0 => exact absurd rfl ha
    | 1 => rfl
  · pointwise

theorem weights_0 (q : Fin 8 → Vec Ideal S128x128 .bf16) (kp kc : Vec Ideal S128x256 .bf16) (b : Fin 16 → Vec Ideal S1x1x128x256 .f32)
    (p : Fin 128) (s : Fin 256) :
    weights q kp kc b (ix2 ⟨0 + p.val, by omega⟩ s)
      = Ideal.exp (logitAt (q 0) 0 kp kc 0 (b 0) p s + -rowMax (logitAt (q 0) 0 kp kc 0 (b 0) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨0 + p.val, by omega⟩ s)
      = logitAt (q 0) 0 kp kc 0 (b 0) p s := fun s => by
    rw [logits_0]
    refine congrArg (· + _) ?_
    have hp := p.isLt
    refine Eq.trans (b := stackA (k0_pay207 k0_pay204 kp kc) (q 0) (q 1) (q 2) (q 3) (ix2 ⟨0 + p.val, by omega⟩ s)) ?_ ?_
    · unfold k0_pay286
      refine concatenate_apply_piece (t := S2048x256) 0 _ _ _ 0 ?_ S512x256 _ ?_ rfl 0 ?_ (ix2 ⟨0 + p.val, by omega⟩ s) (fun a ha => ?_) ?_
      · show 0 < 4; omega
      · rfl
      · rfl
      · match a with
        | 0 => exact absurd rfl ha
        | 1 => rfl
      · show 0 + (0 + p.val) = 0 + p.val
        omega
    · rw [stackA_0]
      unfold scoreAt
      refine Finset.sum_congr rfl fun x _ => ?_
      rw [k207_0]
      have e0 : ∀ h h', (⟨x.val, h⟩ : Fin 128) = ⟨64 * 0 + x.val, h'⟩ := fun h h' => Fin.ext (by show x.val = 64 * 0 + x.val; omega)
      rw [e0]
      rfl
  rw [weights_eq, expRows_apply, e, show (fun s => logits _ b (ix2 ⟨0 + p.val, by omega⟩ s)) = logitAt (q 0) 0 kp kc 0 (b 0) p from funext e]

theorem weights_1 (q : Fin 8 → Vec Ideal S128x128 .bf16) (kp kc : Vec Ideal S128x256 .bf16) (b : Fin 16 → Vec Ideal S1x1x128x256 .f32)
    (p : Fin 128) (s : Fin 256) :
    weights q kp kc b (ix2 ⟨128 + p.val, by omega⟩ s)
      = Ideal.exp (logitAt (q 1) 0 kp kc 0 (b 2) p s + -rowMax (logitAt (q 1) 0 kp kc 0 (b 2) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨128 + p.val, by omega⟩ s)
      = logitAt (q 1) 0 kp kc 0 (b 2) p s := fun s => by
    rw [logits_1]
    refine congrArg (· + _) ?_
    have hp := p.isLt
    refine Eq.trans (b := stackA (k0_pay207 k0_pay204 kp kc) (q 0) (q 1) (q 2) (q 3) (ix2 ⟨128 + p.val, by omega⟩ s)) ?_ ?_
    · unfold k0_pay286
      refine concatenate_apply_piece (t := S2048x256) 0 _ _ _ 0 ?_ S512x256 _ ?_ rfl 0 ?_ (ix2 ⟨128 + p.val, by omega⟩ s) (fun a ha => ?_) ?_
      · show 0 < 4; omega
      · rfl
      · rfl
      · match a with
        | 0 => exact absurd rfl ha
        | 1 => rfl
      · show 0 + (128 + p.val) = 128 + p.val
        omega
    · rw [stackA_1]
      unfold scoreAt
      refine Finset.sum_congr rfl fun x _ => ?_
      rw [k207_0]
      have e0 : ∀ h h', (⟨x.val, h⟩ : Fin 128) = ⟨64 * 0 + x.val, h'⟩ := fun h h' => Fin.ext (by show x.val = 64 * 0 + x.val; omega)
      rw [e0]
      rfl
  rw [weights_eq, expRows_apply, e, show (fun s => logits _ b (ix2 ⟨128 + p.val, by omega⟩ s)) = logitAt (q 1) 0 kp kc 0 (b 2) p from funext e]

theorem weights_2 (q : Fin 8 → Vec Ideal S128x128 .bf16) (kp kc : Vec Ideal S128x256 .bf16) (b : Fin 16 → Vec Ideal S1x1x128x256 .f32)
    (p : Fin 128) (s : Fin 256) :
    weights q kp kc b (ix2 ⟨256 + p.val, by omega⟩ s)
      = Ideal.exp (logitAt (q 2) 1 kp kc 1 (b 5) p s + -rowMax (logitAt (q 2) 1 kp kc 1 (b 5) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨256 + p.val, by omega⟩ s)
      = logitAt (q 2) 1 kp kc 1 (b 5) p s := fun s => by
    rw [logits_2]
    refine congrArg (· + _) ?_
    have hp := p.isLt
    refine Eq.trans (b := stackA (k0_pay207 k0_pay204 kp kc) (q 0) (q 1) (q 2) (q 3) (ix2 ⟨256 + p.val, by omega⟩ s)) ?_ ?_
    · unfold k0_pay286
      refine concatenate_apply_piece (t := S2048x256) 0 _ _ _ 0 ?_ S512x256 _ ?_ rfl 0 ?_ (ix2 ⟨256 + p.val, by omega⟩ s) (fun a ha => ?_) ?_
      · show 0 < 4; omega
      · rfl
      · rfl
      · match a with
        | 0 => exact absurd rfl ha
        | 1 => rfl
      · show 0 + (256 + p.val) = 256 + p.val
        omega
    · rw [stackA_2]
      unfold scoreAt
      refine Finset.sum_congr rfl fun x _ => ?_
      rw [k207_1]

      rfl
  rw [weights_eq, expRows_apply, e, show (fun s => logits _ b (ix2 ⟨256 + p.val, by omega⟩ s)) = logitAt (q 2) 1 kp kc 1 (b 5) p from funext e]

theorem weights_3 (q : Fin 8 → Vec Ideal S128x128 .bf16) (kp kc : Vec Ideal S128x256 .bf16) (b : Fin 16 → Vec Ideal S1x1x128x256 .f32)
    (p : Fin 128) (s : Fin 256) :
    weights q kp kc b (ix2 ⟨384 + p.val, by omega⟩ s)
      = Ideal.exp (logitAt (q 3) 1 kp kc 1 (b 7) p s + -rowMax (logitAt (q 3) 1 kp kc 1 (b 7) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨384 + p.val, by omega⟩ s)
      = logitAt (q 3) 1 kp kc 1 (b 7) p s := fun s => by
    rw [logits_3]
    refine congrArg (· + _) ?_
    have hp := p.isLt
    refine Eq.trans (b := stackA (k0_pay207 k0_pay204 kp kc) (q 0) (q 1) (q 2) (q 3) (ix2 ⟨384 + p.val, by omega⟩ s)) ?_ ?_
    · unfold k0_pay286
      refine concatenate_apply_piece (t := S2048x256) 0 _ _ _ 0 ?_ S512x256 _ ?_ rfl 0 ?_ (ix2 ⟨384 + p.val, by omega⟩ s) (fun a ha => ?_) ?_
      · show 0 < 4; omega
      · rfl
      · rfl
      · match a with
        | 0 => exact absurd rfl ha
        | 1 => rfl
      · show 0 + (384 + p.val) = 384 + p.val
        omega
    · rw [stackA_3]
      unfold scoreAt
      refine Finset.sum_congr rfl fun x _ => ?_
      rw [k207_1]

      rfl
  rw [weights_eq, expRows_apply, e, show (fun s => logits _ b (ix2 ⟨384 + p.val, by omega⟩ s)) = logitAt (q 3) 1 kp kc 1 (b 7) p from funext e]

theorem weights_4 (q : Fin 8 → Vec Ideal S128x128 .bf16) (kp kc : Vec Ideal S128x256 .bf16) (b : Fin 16 → Vec Ideal S1x1x128x256 .f32)
    (p : Fin 128) (s : Fin 256) :
    weights q kp kc b (ix2 ⟨512 + p.val, by omega⟩ s)
      = Ideal.exp (logitAt (q 0) 1 kp kc 0 (b 1) p s + -rowMax (logitAt (q 0) 1 kp kc 0 (b 1) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨512 + p.val, by omega⟩ s)
      = logitAt (q 0) 1 kp kc 0 (b 1) p s := fun s => by
    rw [logits_4]
    refine congrArg (· + _) ?_
    have hp := p.isLt
    refine Eq.trans (b := stackB (k0_pay208 k0_pay204 kp kc) (q 0) (q 1) (q 2) (q 3) (ix2 ⟨0 + p.val, by omega⟩ s)) ?_ ?_
    · unfold k0_pay286
      refine concatenate_apply_piece (t := S2048x256) 0 _ _ _ 1 ?_ S512x256 _ ?_ rfl 512 ?_ (ix2 ⟨0 + p.val, by omega⟩ s) (fun a ha => ?_) ?_
      · show 1 < 4; omega
      · rfl
      · rfl
      · match a with
        | 0 => exact absurd rfl ha
        | 1 => rfl
      · show 512 + (0 + p.val) = 512 + p.val
        omega
    · rw [stackB_0]
      unfold scoreAt
      refine Finset.sum_congr rfl fun x _ => ?_
      rw [k208_1]

      rfl
  rw [weights_eq, expRows_apply, e, show (fun s => logits _ b (ix2 ⟨512 + p.val, by omega⟩ s)) = logitAt (q 0) 1 kp kc 0 (b 1) p from funext e]

theorem weights_5 (q : Fin 8 → Vec Ideal S128x128 .bf16) (kp kc : Vec Ideal S128x256 .bf16) (b : Fin 16 → Vec Ideal S1x1x128x256 .f32)
    (p : Fin 128) (s : Fin 256) :
    weights q kp kc b (ix2 ⟨640 + p.val, by omega⟩ s)
      = Ideal.exp (logitAt (q 1) 1 kp kc 0 (b 3) p s + -rowMax (logitAt (q 1) 1 kp kc 0 (b 3) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨640 + p.val, by omega⟩ s)
      = logitAt (q 1) 1 kp kc 0 (b 3) p s := fun s => by
    rw [logits_5]
    refine congrArg (· + _) ?_
    have hp := p.isLt
    refine Eq.trans (b := stackB (k0_pay208 k0_pay204 kp kc) (q 0) (q 1) (q 2) (q 3) (ix2 ⟨128 + p.val, by omega⟩ s)) ?_ ?_
    · unfold k0_pay286
      refine concatenate_apply_piece (t := S2048x256) 0 _ _ _ 1 ?_ S512x256 _ ?_ rfl 512 ?_ (ix2 ⟨128 + p.val, by omega⟩ s) (fun a ha => ?_) ?_
      · show 1 < 4; omega
      · rfl
      · rfl
      · match a with
        | 0 => exact absurd rfl ha
        | 1 => rfl
      · show 512 + (128 + p.val) = 640 + p.val
        omega
    · rw [stackB_1]
      unfold scoreAt
      refine Finset.sum_congr rfl fun x _ => ?_
      rw [k208_1]

      rfl
  rw [weights_eq, expRows_apply, e, show (fun s => logits _ b (ix2 ⟨640 + p.val, by omega⟩ s)) = logitAt (q 1) 1 kp kc 0 (b 3) p from funext e]

theorem weights_6 (q : Fin 8 → Vec Ideal S128x128 .bf16) (kp kc : Vec Ideal S128x256 .bf16) (b : Fin 16 → Vec Ideal S1x1x128x256 .f32)
    (p : Fin 128) (s : Fin 256) :
    weights q kp kc b (ix2 ⟨768 + p.val, by omega⟩ s)
      = Ideal.exp (logitAt (q 2) 0 kp kc 1 (b 4) p s + -rowMax (logitAt (q 2) 0 kp kc 1 (b 4) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨768 + p.val, by omega⟩ s)
      = logitAt (q 2) 0 kp kc 1 (b 4) p s := fun s => by
    rw [logits_6]
    refine congrArg (· + _) ?_
    have hp := p.isLt
    refine Eq.trans (b := stackB (k0_pay208 k0_pay204 kp kc) (q 0) (q 1) (q 2) (q 3) (ix2 ⟨256 + p.val, by omega⟩ s)) ?_ ?_
    · unfold k0_pay286
      refine concatenate_apply_piece (t := S2048x256) 0 _ _ _ 1 ?_ S512x256 _ ?_ rfl 512 ?_ (ix2 ⟨256 + p.val, by omega⟩ s) (fun a ha => ?_) ?_
      · show 1 < 4; omega
      · rfl
      · rfl
      · match a with
        | 0 => exact absurd rfl ha
        | 1 => rfl
      · show 512 + (256 + p.val) = 768 + p.val
        omega
    · rw [stackB_2]
      unfold scoreAt
      refine Finset.sum_congr rfl fun x _ => ?_
      rw [k208_0]
      have e0 : ∀ h h', (⟨x.val, h⟩ : Fin 128) = ⟨64 * 0 + x.val, h'⟩ := fun h h' => Fin.ext (by show x.val = 64 * 0 + x.val; omega)
      rw [e0]
      rfl
  rw [weights_eq, expRows_apply, e, show (fun s => logits _ b (ix2 ⟨768 + p.val, by omega⟩ s)) = logitAt (q 2) 0 kp kc 1 (b 4) p from funext e]

theorem weights_7 (q : Fin 8 → Vec Ideal S128x128 .bf16) (kp kc : Vec Ideal S128x256 .bf16) (b : Fin 16 → Vec Ideal S1x1x128x256 .f32)
    (p : Fin 128) (s : Fin 256) :
    weights q kp kc b (ix2 ⟨896 + p.val, by omega⟩ s)
      = Ideal.exp (logitAt (q 3) 0 kp kc 1 (b 6) p s + -rowMax (logitAt (q 3) 0 kp kc 1 (b 6) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨896 + p.val, by omega⟩ s)
      = logitAt (q 3) 0 kp kc 1 (b 6) p s := fun s => by
    rw [logits_7]
    refine congrArg (· + _) ?_
    have hp := p.isLt
    refine Eq.trans (b := stackB (k0_pay208 k0_pay204 kp kc) (q 0) (q 1) (q 2) (q 3) (ix2 ⟨384 + p.val, by omega⟩ s)) ?_ ?_
    · unfold k0_pay286
      refine concatenate_apply_piece (t := S2048x256) 0 _ _ _ 1 ?_ S512x256 _ ?_ rfl 512 ?_ (ix2 ⟨384 + p.val, by omega⟩ s) (fun a ha => ?_) ?_
      · show 1 < 4; omega
      · rfl
      · rfl
      · match a with
        | 0 => exact absurd rfl ha
        | 1 => rfl
      · show 512 + (384 + p.val) = 896 + p.val
        omega
    · rw [stackB_3]
      unfold scoreAt
      refine Finset.sum_congr rfl fun x _ => ?_
      rw [k208_0]
      have e0 : ∀ h h', (⟨x.val, h⟩ : Fin 128) = ⟨64 * 0 + x.val, h'⟩ := fun h h' => Fin.ext (by show x.val = 64 * 0 + x.val; omega)
      rw [e0]
      rfl
  rw [weights_eq, expRows_apply, e, show (fun s => logits _ b (ix2 ⟨896 + p.val, by omega⟩ s)) = logitAt (q 3) 0 kp kc 1 (b 6) p from funext e]

theorem weights_8 (q : Fin 8 → Vec Ideal S128x128 .bf16) (kp kc : Vec Ideal S128x256 .bf16) (b : Fin 16 → Vec Ideal S1x1x128x256 .f32)
    (p : Fin 128) (s : Fin 256) :
    weights q kp kc b (ix2 ⟨1024 + p.val, by omega⟩ s)
      = Ideal.exp (logitAt (q 4) 0 kp kc 2 (b 8) p s + -rowMax (logitAt (q 4) 0 kp kc 2 (b 8) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨1024 + p.val, by omega⟩ s)
      = logitAt (q 4) 0 kp kc 2 (b 8) p s := fun s => by
    rw [logits_8]
    refine congrArg (· + _) ?_
    have hp := p.isLt
    refine Eq.trans (b := stackA (k0_pay213 k0_pay204 kp kc) (q 4) (q 5) (q 6) (q 7) (ix2 ⟨0 + p.val, by omega⟩ s)) ?_ ?_
    · unfold k0_pay286
      refine concatenate_apply_piece (t := S2048x256) 0 _ _ _ 2 ?_ S512x256 _ ?_ rfl 1024 ?_ (ix2 ⟨0 + p.val, by omega⟩ s) (fun a ha => ?_) ?_
      · show 2 < 4; omega
      · rfl
      · rfl
      · match a with
        | 0 => exact absurd rfl ha
        | 1 => rfl
      · show 1024 + (0 + p.val) = 1024 + p.val
        omega
    · rw [stackA_0]
      unfold scoreAt
      refine Finset.sum_congr rfl fun x _ => ?_
      rw [k213_0]
      have e0 : ∀ h h', (⟨x.val, h⟩ : Fin 128) = ⟨64 * 0 + x.val, h'⟩ := fun h h' => Fin.ext (by show x.val = 64 * 0 + x.val; omega)
      rw [e0]
      rfl
  rw [weights_eq, expRows_apply, e, show (fun s => logits _ b (ix2 ⟨1024 + p.val, by omega⟩ s)) = logitAt (q 4) 0 kp kc 2 (b 8) p from funext e]

theorem weights_9 (q : Fin 8 → Vec Ideal S128x128 .bf16) (kp kc : Vec Ideal S128x256 .bf16) (b : Fin 16 → Vec Ideal S1x1x128x256 .f32)
    (p : Fin 128) (s : Fin 256) :
    weights q kp kc b (ix2 ⟨1152 + p.val, by omega⟩ s)
      = Ideal.exp (logitAt (q 5) 0 kp kc 2 (b 10) p s + -rowMax (logitAt (q 5) 0 kp kc 2 (b 10) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨1152 + p.val, by omega⟩ s)
      = logitAt (q 5) 0 kp kc 2 (b 10) p s := fun s => by
    rw [logits_9]
    refine congrArg (· + _) ?_
    have hp := p.isLt
    refine Eq.trans (b := stackA (k0_pay213 k0_pay204 kp kc) (q 4) (q 5) (q 6) (q 7) (ix2 ⟨128 + p.val, by omega⟩ s)) ?_ ?_
    · unfold k0_pay286
      refine concatenate_apply_piece (t := S2048x256) 0 _ _ _ 2 ?_ S512x256 _ ?_ rfl 1024 ?_ (ix2 ⟨128 + p.val, by omega⟩ s) (fun a ha => ?_) ?_
      · show 2 < 4; omega
      · rfl
      · rfl
      · match a with
        | 0 => exact absurd rfl ha
        | 1 => rfl
      · show 1024 + (128 + p.val) = 1152 + p.val
        omega
    · rw [stackA_1]
      unfold scoreAt
      refine Finset.sum_congr rfl fun x _ => ?_
      rw [k213_0]
      have e0 : ∀ h h', (⟨x.val, h⟩ : Fin 128) = ⟨64 * 0 + x.val, h'⟩ := fun h h' => Fin.ext (by show x.val = 64 * 0 + x.val; omega)
      rw [e0]
      rfl
  rw [weights_eq, expRows_apply, e, show (fun s => logits _ b (ix2 ⟨1152 + p.val, by omega⟩ s)) = logitAt (q 5) 0 kp kc 2 (b 10) p from funext e]

theorem weights_10 (q : Fin 8 → Vec Ideal S128x128 .bf16) (kp kc : Vec Ideal S128x256 .bf16) (b : Fin 16 → Vec Ideal S1x1x128x256 .f32)
    (p : Fin 128) (s : Fin 256) :
    weights q kp kc b (ix2 ⟨1280 + p.val, by omega⟩ s)
      = Ideal.exp (logitAt (q 6) 1 kp kc 3 (b 13) p s + -rowMax (logitAt (q 6) 1 kp kc 3 (b 13) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨1280 + p.val, by omega⟩ s)
      = logitAt (q 6) 1 kp kc 3 (b 13) p s := fun s => by
    rw [logits_10]
    refine congrArg (· + _) ?_
    have hp := p.isLt
    refine Eq.trans (b := stackA (k0_pay213 k0_pay204 kp kc) (q 4) (q 5) (q 6) (q 7) (ix2 ⟨256 + p.val, by omega⟩ s)) ?_ ?_
    · unfold k0_pay286
      refine concatenate_apply_piece (t := S2048x256) 0 _ _ _ 2 ?_ S512x256 _ ?_ rfl 1024 ?_ (ix2 ⟨256 + p.val, by omega⟩ s) (fun a ha => ?_) ?_
      · show 2 < 4; omega
      · rfl
      · rfl
      · match a with
        | 0 => exact absurd rfl ha
        | 1 => rfl
      · show 1024 + (256 + p.val) = 1280 + p.val
        omega
    · rw [stackA_2]
      unfold scoreAt
      refine Finset.sum_congr rfl fun x _ => ?_
      rw [k213_1]

      rfl
  rw [weights_eq, expRows_apply, e, show (fun s => logits _ b (ix2 ⟨1280 + p.val, by omega⟩ s)) = logitAt (q 6) 1 kp kc 3 (b 13) p from funext e]

theorem weights_11 (q : Fin 8 → Vec Ideal S128x128 .bf16) (kp kc : Vec Ideal S128x256 .bf16) (b : Fin 16 → Vec Ideal S1x1x128x256 .f32)
    (p : Fin 128) (s : Fin 256) :
    weights q kp kc b (ix2 ⟨1408 + p.val, by omega⟩ s)
      = Ideal.exp (logitAt (q 7) 1 kp kc 3 (b 15) p s + -rowMax (logitAt (q 7) 1 kp kc 3 (b 15) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨1408 + p.val, by omega⟩ s)
      = logitAt (q 7) 1 kp kc 3 (b 15) p s := fun s => by
    rw [logits_11]
    refine congrArg (· + _) ?_
    have hp := p.isLt
    refine Eq.trans (b := stackA (k0_pay213 k0_pay204 kp kc) (q 4) (q 5) (q 6) (q 7) (ix2 ⟨384 + p.val, by omega⟩ s)) ?_ ?_
    · unfold k0_pay286
      refine concatenate_apply_piece (t := S2048x256) 0 _ _ _ 2 ?_ S512x256 _ ?_ rfl 1024 ?_ (ix2 ⟨384 + p.val, by omega⟩ s) (fun a ha => ?_) ?_
      · show 2 < 4; omega
      · rfl
      · rfl
      · match a with
        | 0 => exact absurd rfl ha
        | 1 => rfl
      · show 1024 + (384 + p.val) = 1408 + p.val
        omega
    · rw [stackA_3]
      unfold scoreAt
      refine Finset.sum_congr rfl fun x _ => ?_
      rw [k213_1]

      rfl
  rw [weights_eq, expRows_apply, e, show (fun s => logits _ b (ix2 ⟨1408 + p.val, by omega⟩ s)) = logitAt (q 7) 1 kp kc 3 (b 15) p from funext e]

theorem weights_12 (q : Fin 8 → Vec Ideal S128x128 .bf16) (kp kc : Vec Ideal S128x256 .bf16) (b : Fin 16 → Vec Ideal S1x1x128x256 .f32)
    (p : Fin 128) (s : Fin 256) :
    weights q kp kc b (ix2 ⟨1536 + p.val, by omega⟩ s)
      = Ideal.exp (logitAt (q 4) 1 kp kc 2 (b 9) p s + -rowMax (logitAt (q 4) 1 kp kc 2 (b 9) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨1536 + p.val, by omega⟩ s)
      = logitAt (q 4) 1 kp kc 2 (b 9) p s := fun s => by
    rw [logits_12]
    refine congrArg (· + _) ?_
    have hp := p.isLt
    refine Eq.trans (b := stackB (k0_pay214 k0_pay204 kp kc) (q 4) (q 5) (q 6) (q 7) (ix2 ⟨0 + p.val, by omega⟩ s)) ?_ ?_
    · unfold k0_pay286
      refine concatenate_apply_piece (t := S2048x256) 0 _ _ _ 3 ?_ S512x256 _ ?_ rfl 1536 ?_ (ix2 ⟨0 + p.val, by omega⟩ s) (fun a ha => ?_) ?_
      · show 3 < 4; omega
      · rfl
      · rfl
      · match a with
        | 0 => exact absurd rfl ha
        | 1 => rfl
      · show 1536 + (0 + p.val) = 1536 + p.val
        omega
    · rw [stackB_0]
      unfold scoreAt
      refine Finset.sum_congr rfl fun x _ => ?_
      rw [k214_1]

      rfl
  rw [weights_eq, expRows_apply, e, show (fun s => logits _ b (ix2 ⟨1536 + p.val, by omega⟩ s)) = logitAt (q 4) 1 kp kc 2 (b 9) p from funext e]

theorem weights_13 (q : Fin 8 → Vec Ideal S128x128 .bf16) (kp kc : Vec Ideal S128x256 .bf16) (b : Fin 16 → Vec Ideal S1x1x128x256 .f32)
    (p : Fin 128) (s : Fin 256) :
    weights q kp kc b (ix2 ⟨1664 + p.val, by omega⟩ s)
      = Ideal.exp (logitAt (q 5) 1 kp kc 2 (b 11) p s + -rowMax (logitAt (q 5) 1 kp kc 2 (b 11) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨1664 + p.val, by omega⟩ s)
      = logitAt (q 5) 1 kp kc 2 (b 11) p s := fun s => by
    rw [logits_13]
    refine congrArg (· + _) ?_
    have hp := p.isLt
    refine Eq.trans (b := stackB (k0_pay214 k0_pay204 kp kc) (q 4) (q 5) (q 6) (q 7) (ix2 ⟨128 + p.val, by omega⟩ s)) ?_ ?_
    · unfold k0_pay286
      refine concatenate_apply_piece (t := S2048x256) 0 _ _ _ 3 ?_ S512x256 _ ?_ rfl 1536 ?_ (ix2 ⟨128 + p.val, by omega⟩ s) (fun a ha => ?_) ?_
      · show 3 < 4; omega
      · rfl
      · rfl
      · match a with
        | 0 => exact absurd rfl ha
        | 1 => rfl
      · show 1536 + (128 + p.val) = 1664 + p.val
        omega
    · rw [stackB_1]
      unfold scoreAt
      refine Finset.sum_congr rfl fun x _ => ?_
      rw [k214_1]

      rfl
  rw [weights_eq, expRows_apply, e, show (fun s => logits _ b (ix2 ⟨1664 + p.val, by omega⟩ s)) = logitAt (q 5) 1 kp kc 2 (b 11) p from funext e]

theorem weights_14 (q : Fin 8 → Vec Ideal S128x128 .bf16) (kp kc : Vec Ideal S128x256 .bf16) (b : Fin 16 → Vec Ideal S1x1x128x256 .f32)
    (p : Fin 128) (s : Fin 256) :
    weights q kp kc b (ix2 ⟨1792 + p.val, by omega⟩ s)
      = Ideal.exp (logitAt (q 6) 0 kp kc 3 (b 12) p s + -rowMax (logitAt (q 6) 0 kp kc 3 (b 12) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨1792 + p.val, by omega⟩ s)
      = logitAt (q 6) 0 kp kc 3 (b 12) p s := fun s => by
    rw [logits_14]
    refine congrArg (· + _) ?_
    have hp := p.isLt
    refine Eq.trans (b := stackB (k0_pay214 k0_pay204 kp kc) (q 4) (q 5) (q 6) (q 7) (ix2 ⟨256 + p.val, by omega⟩ s)) ?_ ?_
    · unfold k0_pay286
      refine concatenate_apply_piece (t := S2048x256) 0 _ _ _ 3 ?_ S512x256 _ ?_ rfl 1536 ?_ (ix2 ⟨256 + p.val, by omega⟩ s) (fun a ha => ?_) ?_
      · show 3 < 4; omega
      · rfl
      · rfl
      · match a with
        | 0 => exact absurd rfl ha
        | 1 => rfl
      · show 1536 + (256 + p.val) = 1792 + p.val
        omega
    · rw [stackB_2]
      unfold scoreAt
      refine Finset.sum_congr rfl fun x _ => ?_
      rw [k214_0]
      have e0 : ∀ h h', (⟨x.val, h⟩ : Fin 128) = ⟨64 * 0 + x.val, h'⟩ := fun h h' => Fin.ext (by show x.val = 64 * 0 + x.val; omega)
      rw [e0]
      rfl
  rw [weights_eq, expRows_apply, e, show (fun s => logits _ b (ix2 ⟨1792 + p.val, by omega⟩ s)) = logitAt (q 6) 0 kp kc 3 (b 12) p from funext e]

theorem weights_15 (q : Fin 8 → Vec Ideal S128x128 .bf16) (kp kc : Vec Ideal S128x256 .bf16) (b : Fin 16 → Vec Ideal S1x1x128x256 .f32)
    (p : Fin 128) (s : Fin 256) :
    weights q kp kc b (ix2 ⟨1920 + p.val, by omega⟩ s)
      = Ideal.exp (logitAt (q 7) 0 kp kc 3 (b 14) p s + -rowMax (logitAt (q 7) 0 kp kc 3 (b 14) p)) := by
  have e : ∀ s, logits (k0_pay286 (stackA (k0_pay207 k0_pay204 kp kc) (q 0) (q 1) (q 2) (q 3))
      (stackB (k0_pay208 k0_pay204 kp kc) (q 0) (q 1) (q 2) (q 3))
      (stackA (k0_pay213 k0_pay204 kp kc) (q 4) (q 5) (q 6) (q 7))
      (stackB (k0_pay214 k0_pay204 kp kc) (q 4) (q 5) (q 6) (q 7))) b (ix2 ⟨1920 + p.val, by omega⟩ s)
      = logitAt (q 7) 0 kp kc 3 (b 14) p s := fun s => by
    rw [logits_15]
    refine congrArg (· + _) ?_
    have hp := p.isLt
    refine Eq.trans (b := stackB (k0_pay214 k0_pay204 kp kc) (q 4) (q 5) (q 6) (q 7) (ix2 ⟨384 + p.val, by omega⟩ s)) ?_ ?_
    · unfold k0_pay286
      refine concatenate_apply_piece (t := S2048x256) 0 _ _ _ 3 ?_ S512x256 _ ?_ rfl 1536 ?_ (ix2 ⟨384 + p.val, by omega⟩ s) (fun a ha => ?_) ?_
      · show 3 < 4; omega
      · rfl
      · rfl
      · match a with
        | 0 => exact absurd rfl ha
        | 1 => rfl
      · show 1536 + (384 + p.val) = 1920 + p.val
        omega
    · rw [stackB_3]
      unfold scoreAt
      refine Finset.sum_congr rfl fun x _ => ?_
      rw [k214_0]
      have e0 : ∀ h h', (⟨x.val, h⟩ : Fin 128) = ⟨64 * 0 + x.val, h'⟩ := fun h h' => Fin.ext (by show x.val = 64 * 0 + x.val; omega)
      rw [e0]
      rfl
  rw [weights_eq, expRows_apply, e, show (fun s => logits _ b (ix2 ⟨1920 + p.val, by omega⟩ s)) = logitAt (q 7) 0 kp kc 3 (b 14) p from funext e]

/-! ### The results -/

theorem res_0 (q : Fin 8 → Vec Ideal S128x128 .bf16) (kp kc vp vc : Vec Ideal S128x256 .bf16) (b : Fin 16 → Vec Ideal S1x1x128x256 .f32)
    (p : Fin 128) (x : Fin 64) :
    res0 q kp kc vp vc b (ix2 ⟨0 + p.val, by omega⟩ ⟨x.val, by omega⟩)
      = attnRow (logitAt (q 0) 0 kp kc 0 (b 0) p) (fun s => kvAt vp vc 0 s x) := by
  have hv := fun s => v210_0 vp vc s x
  have h1 := fun s => v210_one vp vc s ⟨x.val, by omega⟩
  have hw := weights_0 q kp kc b p
  unfold res0
  revert hv h1 hw
  generalize weights q kp kc b = W
  generalize k0_pay210 k0_pay204 k0_pay205 vp vc = V
  intro hv h1 hw
  pointwise [k0_pay339]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 0 + (0 + p.val) = 0 + p.val; omega) | (show 0 + p.val = 0 + p.val; omega) | (show 0 + p.val = 0 + p.val; omega) | (show p.val = 0 + p.val; omega)
  · refine Eq.trans (congrArg₂ (· * ·) (Eq.trans (congrArg W (congrArg (fun r => ix2 r s) (Fin.ext ?_))) (hw s)) (h1 s)) (mul_one _)
    first | rfl | (show 0 + (0 + p.val) = 0 + p.val; omega) | (show 0 + p.val = 0 + p.val; omega) | (show 0 + p.val = 0 + p.val; omega) | (show p.val = 0 + p.val; omega)

theorem res_1 (q : Fin 8 → Vec Ideal S128x128 .bf16) (kp kc vp vc : Vec Ideal S128x256 .bf16) (b : Fin 16 → Vec Ideal S1x1x128x256 .f32)
    (p : Fin 128) (x : Fin 64) :
    res0 q kp kc vp vc b (ix2 ⟨128 + p.val, by omega⟩ ⟨x.val, by omega⟩)
      = attnRow (logitAt (q 1) 0 kp kc 0 (b 2) p) (fun s => kvAt vp vc 0 s x) := by
  have hv := fun s => v210_0 vp vc s x
  have h1 := fun s => v210_one vp vc s ⟨x.val, by omega⟩
  have hw := weights_1 q kp kc b p
  unfold res0
  revert hv h1 hw
  generalize weights q kp kc b = W
  generalize k0_pay210 k0_pay204 k0_pay205 vp vc = V
  intro hv h1 hw
  pointwise [k0_pay339]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 0 + (128 + p.val) = 128 + p.val; omega) | (show 0 + p.val = 128 + p.val; omega) | (show 128 + p.val = 128 + p.val; omega) | (show p.val = 128 + p.val; omega)
  · refine Eq.trans (congrArg₂ (· * ·) (Eq.trans (congrArg W (congrArg (fun r => ix2 r s) (Fin.ext ?_))) (hw s)) (h1 s)) (mul_one _)
    first | rfl | (show 0 + (128 + p.val) = 128 + p.val; omega) | (show 0 + p.val = 128 + p.val; omega) | (show 128 + p.val = 128 + p.val; omega) | (show p.val = 128 + p.val; omega)

theorem res_2 (q : Fin 8 → Vec Ideal S128x128 .bf16) (kp kc vp vc : Vec Ideal S128x256 .bf16) (b : Fin 16 → Vec Ideal S1x1x128x256 .f32)
    (p : Fin 128) (x : Fin 64) :
    res0 q kp kc vp vc b (ix2 ⟨256 + p.val, by omega⟩ ⟨64 + x.val, by omega⟩)
      = attnRow (logitAt (q 2) 1 kp kc 1 (b 5) p) (fun s => kvAt vp vc 1 s x) := by
  have hv := fun s => v210_1 vp vc s x
  have h1 := fun s => v210_one vp vc s ⟨64 + x.val, by omega⟩
  have hw := weights_2 q kp kc b p
  unfold res0
  revert hv h1 hw
  generalize weights q kp kc b = W
  generalize k0_pay210 k0_pay204 k0_pay205 vp vc = V
  intro hv h1 hw
  pointwise [k0_pay339]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 0 + (256 + p.val) = 256 + p.val; omega) | (show 0 + p.val = 256 + p.val; omega) | (show 256 + p.val = 256 + p.val; omega) | (show p.val = 256 + p.val; omega)
  · refine Eq.trans (congrArg₂ (· * ·) (Eq.trans (congrArg W (congrArg (fun r => ix2 r s) (Fin.ext ?_))) (hw s)) (h1 s)) (mul_one _)
    first | rfl | (show 0 + (256 + p.val) = 256 + p.val; omega) | (show 0 + p.val = 256 + p.val; omega) | (show 256 + p.val = 256 + p.val; omega) | (show p.val = 256 + p.val; omega)

theorem res_3 (q : Fin 8 → Vec Ideal S128x128 .bf16) (kp kc vp vc : Vec Ideal S128x256 .bf16) (b : Fin 16 → Vec Ideal S1x1x128x256 .f32)
    (p : Fin 128) (x : Fin 64) :
    res0 q kp kc vp vc b (ix2 ⟨384 + p.val, by omega⟩ ⟨64 + x.val, by omega⟩)
      = attnRow (logitAt (q 3) 1 kp kc 1 (b 7) p) (fun s => kvAt vp vc 1 s x) := by
  have hv := fun s => v210_1 vp vc s x
  have h1 := fun s => v210_one vp vc s ⟨64 + x.val, by omega⟩
  have hw := weights_3 q kp kc b p
  unfold res0
  revert hv h1 hw
  generalize weights q kp kc b = W
  generalize k0_pay210 k0_pay204 k0_pay205 vp vc = V
  intro hv h1 hw
  pointwise [k0_pay339]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 0 + (384 + p.val) = 384 + p.val; omega) | (show 0 + p.val = 384 + p.val; omega) | (show 384 + p.val = 384 + p.val; omega) | (show p.val = 384 + p.val; omega)
  · refine Eq.trans (congrArg₂ (· * ·) (Eq.trans (congrArg W (congrArg (fun r => ix2 r s) (Fin.ext ?_))) (hw s)) (h1 s)) (mul_one _)
    first | rfl | (show 0 + (384 + p.val) = 384 + p.val; omega) | (show 0 + p.val = 384 + p.val; omega) | (show 384 + p.val = 384 + p.val; omega) | (show p.val = 384 + p.val; omega)

theorem res_4 (q : Fin 8 → Vec Ideal S128x128 .bf16) (kp kc vp vc : Vec Ideal S128x256 .bf16) (b : Fin 16 → Vec Ideal S1x1x128x256 .f32)
    (p : Fin 128) (x : Fin 64) :
    res1 q kp kc vp vc b (ix2 ⟨0 + p.val, by omega⟩ ⟨64 + x.val, by omega⟩)
      = attnRow (logitAt (q 0) 1 kp kc 0 (b 1) p) (fun s => kvAt vp vc 0 s x) := by
  have hv := fun s => v211_1 vp vc s x
  have h1 := fun s => v211_one vp vc s ⟨64 + x.val, by omega⟩
  have hw := weights_4 q kp kc b p
  unfold res1
  revert hv h1 hw
  generalize weights q kp kc b = W
  generalize k0_pay211 k0_pay204 k0_pay205 vp vc = V
  intro hv h1 hw
  pointwise [k0_pay340]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 512 + (0 + p.val) = 512 + p.val; omega) | (show 512 + p.val = 512 + p.val; omega) | (show 0 + p.val = 512 + p.val; omega) | (show p.val = 512 + p.val; omega)
  · refine Eq.trans (congrArg₂ (· * ·) (Eq.trans (congrArg W (congrArg (fun r => ix2 r s) (Fin.ext ?_))) (hw s)) (h1 s)) (mul_one _)
    first | rfl | (show 512 + (0 + p.val) = 512 + p.val; omega) | (show 512 + p.val = 512 + p.val; omega) | (show 0 + p.val = 512 + p.val; omega) | (show p.val = 512 + p.val; omega)

theorem res_5 (q : Fin 8 → Vec Ideal S128x128 .bf16) (kp kc vp vc : Vec Ideal S128x256 .bf16) (b : Fin 16 → Vec Ideal S1x1x128x256 .f32)
    (p : Fin 128) (x : Fin 64) :
    res1 q kp kc vp vc b (ix2 ⟨128 + p.val, by omega⟩ ⟨64 + x.val, by omega⟩)
      = attnRow (logitAt (q 1) 1 kp kc 0 (b 3) p) (fun s => kvAt vp vc 0 s x) := by
  have hv := fun s => v211_1 vp vc s x
  have h1 := fun s => v211_one vp vc s ⟨64 + x.val, by omega⟩
  have hw := weights_5 q kp kc b p
  unfold res1
  revert hv h1 hw
  generalize weights q kp kc b = W
  generalize k0_pay211 k0_pay204 k0_pay205 vp vc = V
  intro hv h1 hw
  pointwise [k0_pay340]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 512 + (128 + p.val) = 640 + p.val; omega) | (show 512 + p.val = 640 + p.val; omega) | (show 128 + p.val = 640 + p.val; omega) | (show p.val = 640 + p.val; omega)
  · refine Eq.trans (congrArg₂ (· * ·) (Eq.trans (congrArg W (congrArg (fun r => ix2 r s) (Fin.ext ?_))) (hw s)) (h1 s)) (mul_one _)
    first | rfl | (show 512 + (128 + p.val) = 640 + p.val; omega) | (show 512 + p.val = 640 + p.val; omega) | (show 128 + p.val = 640 + p.val; omega) | (show p.val = 640 + p.val; omega)

theorem res_6 (q : Fin 8 → Vec Ideal S128x128 .bf16) (kp kc vp vc : Vec Ideal S128x256 .bf16) (b : Fin 16 → Vec Ideal S1x1x128x256 .f32)
    (p : Fin 128) (x : Fin 64) :
    res1 q kp kc vp vc b (ix2 ⟨256 + p.val, by omega⟩ ⟨x.val, by omega⟩)
      = attnRow (logitAt (q 2) 0 kp kc 1 (b 4) p) (fun s => kvAt vp vc 1 s x) := by
  have hv := fun s => v211_0 vp vc s x
  have h1 := fun s => v211_one vp vc s ⟨x.val, by omega⟩
  have hw := weights_6 q kp kc b p
  unfold res1
  revert hv h1 hw
  generalize weights q kp kc b = W
  generalize k0_pay211 k0_pay204 k0_pay205 vp vc = V
  intro hv h1 hw
  pointwise [k0_pay340]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 512 + (256 + p.val) = 768 + p.val; omega) | (show 512 + p.val = 768 + p.val; omega) | (show 256 + p.val = 768 + p.val; omega) | (show p.val = 768 + p.val; omega)
  · refine Eq.trans (congrArg₂ (· * ·) (Eq.trans (congrArg W (congrArg (fun r => ix2 r s) (Fin.ext ?_))) (hw s)) (h1 s)) (mul_one _)
    first | rfl | (show 512 + (256 + p.val) = 768 + p.val; omega) | (show 512 + p.val = 768 + p.val; omega) | (show 256 + p.val = 768 + p.val; omega) | (show p.val = 768 + p.val; omega)

theorem res_7 (q : Fin 8 → Vec Ideal S128x128 .bf16) (kp kc vp vc : Vec Ideal S128x256 .bf16) (b : Fin 16 → Vec Ideal S1x1x128x256 .f32)
    (p : Fin 128) (x : Fin 64) :
    res1 q kp kc vp vc b (ix2 ⟨384 + p.val, by omega⟩ ⟨x.val, by omega⟩)
      = attnRow (logitAt (q 3) 0 kp kc 1 (b 6) p) (fun s => kvAt vp vc 1 s x) := by
  have hv := fun s => v211_0 vp vc s x
  have h1 := fun s => v211_one vp vc s ⟨x.val, by omega⟩
  have hw := weights_7 q kp kc b p
  unfold res1
  revert hv h1 hw
  generalize weights q kp kc b = W
  generalize k0_pay211 k0_pay204 k0_pay205 vp vc = V
  intro hv h1 hw
  pointwise [k0_pay340]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 512 + (384 + p.val) = 896 + p.val; omega) | (show 512 + p.val = 896 + p.val; omega) | (show 384 + p.val = 896 + p.val; omega) | (show p.val = 896 + p.val; omega)
  · refine Eq.trans (congrArg₂ (· * ·) (Eq.trans (congrArg W (congrArg (fun r => ix2 r s) (Fin.ext ?_))) (hw s)) (h1 s)) (mul_one _)
    first | rfl | (show 512 + (384 + p.val) = 896 + p.val; omega) | (show 512 + p.val = 896 + p.val; omega) | (show 384 + p.val = 896 + p.val; omega) | (show p.val = 896 + p.val; omega)

theorem res_8 (q : Fin 8 → Vec Ideal S128x128 .bf16) (kp kc vp vc : Vec Ideal S128x256 .bf16) (b : Fin 16 → Vec Ideal S1x1x128x256 .f32)
    (p : Fin 128) (x : Fin 64) :
    res2 q kp kc vp vc b (ix2 ⟨0 + p.val, by omega⟩ ⟨x.val, by omega⟩)
      = attnRow (logitAt (q 4) 0 kp kc 2 (b 8) p) (fun s => kvAt vp vc 2 s x) := by
  have hv := fun s => v216_0 vp vc s x
  have h1 := fun s => v216_one vp vc s ⟨x.val, by omega⟩
  have hw := weights_8 q kp kc b p
  unfold res2
  revert hv h1 hw
  generalize weights q kp kc b = W
  generalize k0_pay216 k0_pay204 k0_pay205 vp vc = V
  intro hv h1 hw
  pointwise [k0_pay341]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 1024 + (0 + p.val) = 1024 + p.val; omega) | (show 1024 + p.val = 1024 + p.val; omega) | (show 0 + p.val = 1024 + p.val; omega) | (show p.val = 1024 + p.val; omega)
  · refine Eq.trans (congrArg₂ (· * ·) (Eq.trans (congrArg W (congrArg (fun r => ix2 r s) (Fin.ext ?_))) (hw s)) (h1 s)) (mul_one _)
    first | rfl | (show 1024 + (0 + p.val) = 1024 + p.val; omega) | (show 1024 + p.val = 1024 + p.val; omega) | (show 0 + p.val = 1024 + p.val; omega) | (show p.val = 1024 + p.val; omega)

theorem res_9 (q : Fin 8 → Vec Ideal S128x128 .bf16) (kp kc vp vc : Vec Ideal S128x256 .bf16) (b : Fin 16 → Vec Ideal S1x1x128x256 .f32)
    (p : Fin 128) (x : Fin 64) :
    res2 q kp kc vp vc b (ix2 ⟨128 + p.val, by omega⟩ ⟨x.val, by omega⟩)
      = attnRow (logitAt (q 5) 0 kp kc 2 (b 10) p) (fun s => kvAt vp vc 2 s x) := by
  have hv := fun s => v216_0 vp vc s x
  have h1 := fun s => v216_one vp vc s ⟨x.val, by omega⟩
  have hw := weights_9 q kp kc b p
  unfold res2
  revert hv h1 hw
  generalize weights q kp kc b = W
  generalize k0_pay216 k0_pay204 k0_pay205 vp vc = V
  intro hv h1 hw
  pointwise [k0_pay341]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 1024 + (128 + p.val) = 1152 + p.val; omega) | (show 1024 + p.val = 1152 + p.val; omega) | (show 128 + p.val = 1152 + p.val; omega) | (show p.val = 1152 + p.val; omega)
  · refine Eq.trans (congrArg₂ (· * ·) (Eq.trans (congrArg W (congrArg (fun r => ix2 r s) (Fin.ext ?_))) (hw s)) (h1 s)) (mul_one _)
    first | rfl | (show 1024 + (128 + p.val) = 1152 + p.val; omega) | (show 1024 + p.val = 1152 + p.val; omega) | (show 128 + p.val = 1152 + p.val; omega) | (show p.val = 1152 + p.val; omega)

theorem res_10 (q : Fin 8 → Vec Ideal S128x128 .bf16) (kp kc vp vc : Vec Ideal S128x256 .bf16) (b : Fin 16 → Vec Ideal S1x1x128x256 .f32)
    (p : Fin 128) (x : Fin 64) :
    res2 q kp kc vp vc b (ix2 ⟨256 + p.val, by omega⟩ ⟨64 + x.val, by omega⟩)
      = attnRow (logitAt (q 6) 1 kp kc 3 (b 13) p) (fun s => kvAt vp vc 3 s x) := by
  have hv := fun s => v216_1 vp vc s x
  have h1 := fun s => v216_one vp vc s ⟨64 + x.val, by omega⟩
  have hw := weights_10 q kp kc b p
  unfold res2
  revert hv h1 hw
  generalize weights q kp kc b = W
  generalize k0_pay216 k0_pay204 k0_pay205 vp vc = V
  intro hv h1 hw
  pointwise [k0_pay341]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 1024 + (256 + p.val) = 1280 + p.val; omega) | (show 1024 + p.val = 1280 + p.val; omega) | (show 256 + p.val = 1280 + p.val; omega) | (show p.val = 1280 + p.val; omega)
  · refine Eq.trans (congrArg₂ (· * ·) (Eq.trans (congrArg W (congrArg (fun r => ix2 r s) (Fin.ext ?_))) (hw s)) (h1 s)) (mul_one _)
    first | rfl | (show 1024 + (256 + p.val) = 1280 + p.val; omega) | (show 1024 + p.val = 1280 + p.val; omega) | (show 256 + p.val = 1280 + p.val; omega) | (show p.val = 1280 + p.val; omega)

theorem res_11 (q : Fin 8 → Vec Ideal S128x128 .bf16) (kp kc vp vc : Vec Ideal S128x256 .bf16) (b : Fin 16 → Vec Ideal S1x1x128x256 .f32)
    (p : Fin 128) (x : Fin 64) :
    res2 q kp kc vp vc b (ix2 ⟨384 + p.val, by omega⟩ ⟨64 + x.val, by omega⟩)
      = attnRow (logitAt (q 7) 1 kp kc 3 (b 15) p) (fun s => kvAt vp vc 3 s x) := by
  have hv := fun s => v216_1 vp vc s x
  have h1 := fun s => v216_one vp vc s ⟨64 + x.val, by omega⟩
  have hw := weights_11 q kp kc b p
  unfold res2
  revert hv h1 hw
  generalize weights q kp kc b = W
  generalize k0_pay216 k0_pay204 k0_pay205 vp vc = V
  intro hv h1 hw
  pointwise [k0_pay341]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 1024 + (384 + p.val) = 1408 + p.val; omega) | (show 1024 + p.val = 1408 + p.val; omega) | (show 384 + p.val = 1408 + p.val; omega) | (show p.val = 1408 + p.val; omega)
  · refine Eq.trans (congrArg₂ (· * ·) (Eq.trans (congrArg W (congrArg (fun r => ix2 r s) (Fin.ext ?_))) (hw s)) (h1 s)) (mul_one _)
    first | rfl | (show 1024 + (384 + p.val) = 1408 + p.val; omega) | (show 1024 + p.val = 1408 + p.val; omega) | (show 384 + p.val = 1408 + p.val; omega) | (show p.val = 1408 + p.val; omega)

theorem res_12 (q : Fin 8 → Vec Ideal S128x128 .bf16) (kp kc vp vc : Vec Ideal S128x256 .bf16) (b : Fin 16 → Vec Ideal S1x1x128x256 .f32)
    (p : Fin 128) (x : Fin 64) :
    res3 q kp kc vp vc b (ix2 ⟨0 + p.val, by omega⟩ ⟨64 + x.val, by omega⟩)
      = attnRow (logitAt (q 4) 1 kp kc 2 (b 9) p) (fun s => kvAt vp vc 2 s x) := by
  have hv := fun s => v217_1 vp vc s x
  have h1 := fun s => v217_one vp vc s ⟨64 + x.val, by omega⟩
  have hw := weights_12 q kp kc b p
  unfold res3
  revert hv h1 hw
  generalize weights q kp kc b = W
  generalize k0_pay217 k0_pay204 k0_pay205 vp vc = V
  intro hv h1 hw
  pointwise [k0_pay346]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 1536 + (0 + p.val) = 1536 + p.val; omega) | (show 1536 + p.val = 1536 + p.val; omega) | (show 0 + p.val = 1536 + p.val; omega) | (show p.val = 1536 + p.val; omega)
  · refine Eq.trans (congrArg₂ (· * ·) (Eq.trans (congrArg W (congrArg (fun r => ix2 r s) (Fin.ext ?_))) (hw s)) (h1 s)) (mul_one _)
    first | rfl | (show 1536 + (0 + p.val) = 1536 + p.val; omega) | (show 1536 + p.val = 1536 + p.val; omega) | (show 0 + p.val = 1536 + p.val; omega) | (show p.val = 1536 + p.val; omega)

theorem res_13 (q : Fin 8 → Vec Ideal S128x128 .bf16) (kp kc vp vc : Vec Ideal S128x256 .bf16) (b : Fin 16 → Vec Ideal S1x1x128x256 .f32)
    (p : Fin 128) (x : Fin 64) :
    res3 q kp kc vp vc b (ix2 ⟨128 + p.val, by omega⟩ ⟨64 + x.val, by omega⟩)
      = attnRow (logitAt (q 5) 1 kp kc 2 (b 11) p) (fun s => kvAt vp vc 2 s x) := by
  have hv := fun s => v217_1 vp vc s x
  have h1 := fun s => v217_one vp vc s ⟨64 + x.val, by omega⟩
  have hw := weights_13 q kp kc b p
  unfold res3
  revert hv h1 hw
  generalize weights q kp kc b = W
  generalize k0_pay217 k0_pay204 k0_pay205 vp vc = V
  intro hv h1 hw
  pointwise [k0_pay346]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 1536 + (128 + p.val) = 1664 + p.val; omega) | (show 1536 + p.val = 1664 + p.val; omega) | (show 128 + p.val = 1664 + p.val; omega) | (show p.val = 1664 + p.val; omega)
  · refine Eq.trans (congrArg₂ (· * ·) (Eq.trans (congrArg W (congrArg (fun r => ix2 r s) (Fin.ext ?_))) (hw s)) (h1 s)) (mul_one _)
    first | rfl | (show 1536 + (128 + p.val) = 1664 + p.val; omega) | (show 1536 + p.val = 1664 + p.val; omega) | (show 128 + p.val = 1664 + p.val; omega) | (show p.val = 1664 + p.val; omega)

theorem res_14 (q : Fin 8 → Vec Ideal S128x128 .bf16) (kp kc vp vc : Vec Ideal S128x256 .bf16) (b : Fin 16 → Vec Ideal S1x1x128x256 .f32)
    (p : Fin 128) (x : Fin 64) :
    res3 q kp kc vp vc b (ix2 ⟨256 + p.val, by omega⟩ ⟨x.val, by omega⟩)
      = attnRow (logitAt (q 6) 0 kp kc 3 (b 12) p) (fun s => kvAt vp vc 3 s x) := by
  have hv := fun s => v217_0 vp vc s x
  have h1 := fun s => v217_one vp vc s ⟨x.val, by omega⟩
  have hw := weights_14 q kp kc b p
  unfold res3
  revert hv h1 hw
  generalize weights q kp kc b = W
  generalize k0_pay217 k0_pay204 k0_pay205 vp vc = V
  intro hv h1 hw
  pointwise [k0_pay346]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 1536 + (256 + p.val) = 1792 + p.val; omega) | (show 1536 + p.val = 1792 + p.val; omega) | (show 256 + p.val = 1792 + p.val; omega) | (show p.val = 1792 + p.val; omega)
  · refine Eq.trans (congrArg₂ (· * ·) (Eq.trans (congrArg W (congrArg (fun r => ix2 r s) (Fin.ext ?_))) (hw s)) (h1 s)) (mul_one _)
    first | rfl | (show 1536 + (256 + p.val) = 1792 + p.val; omega) | (show 1536 + p.val = 1792 + p.val; omega) | (show 256 + p.val = 1792 + p.val; omega) | (show p.val = 1792 + p.val; omega)

theorem res_15 (q : Fin 8 → Vec Ideal S128x128 .bf16) (kp kc vp vc : Vec Ideal S128x256 .bf16) (b : Fin 16 → Vec Ideal S1x1x128x256 .f32)
    (p : Fin 128) (x : Fin 64) :
    res3 q kp kc vp vc b (ix2 ⟨384 + p.val, by omega⟩ ⟨x.val, by omega⟩)
      = attnRow (logitAt (q 7) 0 kp kc 3 (b 14) p) (fun s => kvAt vp vc 3 s x) := by
  have hv := fun s => v217_0 vp vc s x
  have h1 := fun s => v217_one vp vc s ⟨x.val, by omega⟩
  have hw := weights_15 q kp kc b p
  unfold res3
  revert hv h1 hw
  generalize weights q kp kc b = W
  generalize k0_pay217 k0_pay204 k0_pay205 vp vc = V
  intro hv h1 hw
  pointwise [k0_pay346]
  unfold attnRow
  refine congrArg₂ Ideal.div (Finset.sum_congr rfl fun s _ => ?_) (Finset.sum_congr rfl fun s _ => ?_)
  · refine congrArg₂ (· * ·) (Eq.trans (congrArg W (congrArg (fun r => ix2 r s) (Fin.ext ?_))) (hw s)) (hv s)
    first | rfl | (show 1536 + (384 + p.val) = 1920 + p.val; omega) | (show 1536 + p.val = 1920 + p.val; omega) | (show 384 + p.val = 1920 + p.val; omega) | (show p.val = 1920 + p.val; omega)
  · refine Eq.trans (congrArg₂ (· * ·) (Eq.trans (congrArg W (congrArg (fun r => ix2 r s) (Fin.ext ?_))) (hw s)) (h1 s)) (mul_one _)
    first | rfl | (show 1536 + (384 + p.val) = 1920 + p.val; omega) | (show 1536 + p.val = 1920 + p.val; omega) | (show 384 + p.val = 1920 + p.val; omega) | (show p.val = 1920 + p.val; omega)

/-- Tile `j` at row `p`, a low lane: head `2 j`. -/
theorem subOut_low (j : Fin 8) (q : Fin 8 → Vec Ideal S128x128 .bf16) (kp kc vp vc : Vec Ideal S128x256 .bf16)
    (b : Fin 16 → Vec Ideal S1x1x128x256 .f32) (p : Fin 128) (x : Fin 64) :
    subOut j q kp kc vp vc b (ix2 p ⟨x.val, by omega⟩)
      = attnRow (logitAt (q j) 0 kp kc ⟨j.val / 2, by omega⟩ (b ⟨2 * j.val, by omega⟩) p) (fun s => kvAt vp vc ⟨j.val / 2, by omega⟩ s x) := by
  match j with
  | 0 =>
    refine Eq.trans ?_ (res_0 q kp kc vp vc b p x)
    pointwise [subOut, k0_pay203]
    have e := sel_lane ⟨x.val, by omega⟩
    dsimp only at e
    rw [e, if_pos x.isLt]
  | 1 =>
    refine Eq.trans ?_ (res_1 q kp kc vp vc b p x)
    pointwise [subOut, k0_pay203]
    have e := sel_lane ⟨x.val, by omega⟩
    dsimp only at e
    rw [e, if_pos x.isLt]
  | 2 =>
    refine Eq.trans ?_ (res_6 q kp kc vp vc b p x)
    pointwise [subOut, k0_pay203]
    have e := sel_lane ⟨x.val, by omega⟩
    dsimp only at e
    rw [e, if_pos x.isLt]
  | 3 =>
    refine Eq.trans ?_ (res_7 q kp kc vp vc b p x)
    pointwise [subOut, k0_pay203]
    have e := sel_lane ⟨x.val, by omega⟩
    dsimp only at e
    rw [e, if_pos x.isLt]
  | 4 =>
    refine Eq.trans ?_ (res_8 q kp kc vp vc b p x)
    pointwise [subOut, k0_pay203]
    have e := sel_lane ⟨x.val, by omega⟩
    dsimp only at e
    rw [e, if_pos x.isLt]
  | 5 =>
    refine Eq.trans ?_ (res_9 q kp kc vp vc b p x)
    pointwise [subOut, k0_pay203]
    have e := sel_lane ⟨x.val, by omega⟩
    dsimp only at e
    rw [e, if_pos x.isLt]
  | 6 =>
    refine Eq.trans ?_ (res_14 q kp kc vp vc b p x)
    pointwise [subOut, k0_pay203]
    have e := sel_lane ⟨x.val, by omega⟩
    dsimp only at e
    rw [e, if_pos x.isLt]
  | 7 =>
    refine Eq.trans ?_ (res_15 q kp kc vp vc b p x)
    pointwise [subOut, k0_pay203]
    have e := sel_lane ⟨x.val, by omega⟩
    dsimp only at e
    rw [e, if_pos x.isLt]

/-- Tile `j` at row `p`, a high lane: head `2 j + 1`. -/
theorem subOut_high (j : Fin 8) (q : Fin 8 → Vec Ideal S128x128 .bf16) (kp kc vp vc : Vec Ideal S128x256 .bf16)
    (b : Fin 16 → Vec Ideal S1x1x128x256 .f32) (p : Fin 128) (x : Fin 64) :
    subOut j q kp kc vp vc b (ix2 p ⟨64 + x.val, by omega⟩)
      = attnRow (logitAt (q j) 1 kp kc ⟨j.val / 2, by omega⟩ (b ⟨2 * j.val + 1, by omega⟩) p) (fun s => kvAt vp vc ⟨j.val / 2, by omega⟩ s x) := by
  match j with
  | 0 =>
    refine Eq.trans ?_ (res_4 q kp kc vp vc b p x)
    pointwise [subOut, k0_pay203]
    have e := sel_lane ⟨64 + x.val, by omega⟩
    dsimp only at e
    rw [e, if_neg (by omega)]
  | 1 =>
    refine Eq.trans ?_ (res_5 q kp kc vp vc b p x)
    pointwise [subOut, k0_pay203]
    have e := sel_lane ⟨64 + x.val, by omega⟩
    dsimp only at e
    rw [e, if_neg (by omega)]
  | 2 =>
    refine Eq.trans ?_ (res_2 q kp kc vp vc b p x)
    pointwise [subOut, k0_pay203]
    have e := sel_lane ⟨64 + x.val, by omega⟩
    dsimp only at e
    rw [e, if_neg (by omega)]
  | 3 =>
    refine Eq.trans ?_ (res_3 q kp kc vp vc b p x)
    pointwise [subOut, k0_pay203]
    have e := sel_lane ⟨64 + x.val, by omega⟩
    dsimp only at e
    rw [e, if_neg (by omega)]
  | 4 =>
    refine Eq.trans ?_ (res_12 q kp kc vp vc b p x)
    pointwise [subOut, k0_pay203]
    have e := sel_lane ⟨64 + x.val, by omega⟩
    dsimp only at e
    rw [e, if_neg (by omega)]
  | 5 =>
    refine Eq.trans ?_ (res_13 q kp kc vp vc b p x)
    pointwise [subOut, k0_pay203]
    have e := sel_lane ⟨64 + x.val, by omega⟩
    dsimp only at e
    rw [e, if_neg (by omega)]
  | 6 =>
    refine Eq.trans ?_ (res_10 q kp kc vp vc b p x)
    pointwise [subOut, k0_pay203]
    have e := sel_lane ⟨64 + x.val, by omega⟩
    dsimp only at e
    rw [e, if_neg (by omega)]
  | 7 =>
    refine Eq.trans ?_ (res_11 q kp kc vp vc b p x)
    pointwise [subOut, k0_pay203]
    have e := sel_lane ⟨64 + x.val, by omega⟩
    dsimp only at e
    rw [e, if_neg (by omega)]

end Cert.KernelIdeal.Hand

end
-- ==== Proof.AttnBias.lean ====
/- The attention's table of biases, which the first point writes: for every head, row and key, the sink in column 0, the
   relative bias inside the window, and the mask elsewhere; the second row masks the keys of the block before too. -/
module

public import proofs.«01_k».proof.Proof.AttnRead

@[expose] public section

set_option maxRecDepth 16384
set_option maxHeartbeats 2000000

noncomputable section

namespace Cert.KernelIdeal.Hand

open Cert.KernelIdeal Cert.KernelIdeal.Gen Idealize.ShloMosaic Idealize.ShloMosaic.TcCoe Idealize.SL.Sem

section Table

variable {F : FTy → Type} [FloatOps F] [Named F]

/-- Entry `(h, b)` of the relative biases, -/
def rbAt (X : Vec F S16x32 .f32) (h : Fin 16) (b : Fin 32) : Elt F .f32 := loadOf X
  (Rect.unit (s := S16x32) ![h.val, b.val] S1x1.size (fun a => by
    match a with
    | 0 => show h.val + 1 ≤ 16; omega
    | 1 => show b.val + 1 ≤ 32; omega)).toLoadRect (Shape.Idx.first (s := S1x1) (by decide))

/-- and the sink of head `h`. -/
def sinkAt (X : Vec F S1x16 .f32) (h : Fin 16) : Elt F .f32 := loadOf X
  (Rect.unit (s := S1x16) ![0, h.val] S1x1.size (fun a => by
    match a with
    | 0 => exact le_refl _
    | 1 => show h.val + 1 ≤ 16; omega)).toLoadRect (Shape.Idx.first (s := S1x1) (by decide))

/-- A key's column. -/
def colV : IVec S128x256 32 := iota .tc S128x256 32 [1] iota_S128x256_d1_w32

/-- The distance from query row to key column. -/
def distV : IVec S128x256 32 := subi (addi (iota .tc S128x256 32 [0] iota_S128x256_d0_w32) (broadcast S128x256 128#32)) colV

/-- Inside the window. -/
def bandV : IVec S128x256 1 := andi (cmpi .sge distV (broadcast S128x256 0#32)) (cmpi .slt distV (broadcast S128x256 128#32))

/-- The bias of a distance: the last bucket whose first distance is not above it. -/
def chainV (r : Fin 32 → Elt F .f32) : FVec F S128x256 .f32 :=
  select (cmpi .sge distV (broadcast S128x256 113#32)) (broadcast S128x256 (r 31)) (select (cmpi .sge distV (broadcast S128x256 99#32)) (broadcast S128x256 (r 30)) (select (cmpi .sge distV (broadcast S128x256 87#32)) (broadcast S128x256 (r 29)) (select (cmpi .sge distV (broadcast S128x256 77#32)) (broadcast S128x256 (r 28)) (select (cmpi .sge distV (broadcast S128x256 67#32)) (broadcast S128x256 (r 27)) (select (cmpi .sge distV (broadcast S128x256 59#32)) (broadcast S128x256 (r 26)) (select (cmpi .sge distV (broadcast S128x256 52#32)) (broadcast S128x256 (r 25)) (select (cmpi .sge distV (broadcast S128x256 46#32)) (broadcast S128x256 (r 24)) (select (cmpi .sge distV (broadcast S128x256 40#32)) (broadcast S128x256 (r 23)) (select (cmpi .sge distV (broadcast S128x256 35#32)) (broadcast S128x256 (r 22)) (select (cmpi .sge distV (broadcast S128x256 31#32)) (broadcast S128x256 (r 21)) (select (cmpi .sge distV (broadcast S128x256 27#32)) (broadcast S128x256 (r 20)) (select (cmpi .sge distV (broadcast S128x256 24#32)) (broadcast S128x256 (r 19)) (select (cmpi .sge distV (broadcast S128x256 21#32)) (broadcast S128x256 (r 18)) (select (cmpi .sge distV (broadcast S128x256 19#32)) (broadcast S128x256 (r 17)) (select (cmpi .sge distV (broadcast S128x256 16#32)) (broadcast S128x256 (r 16)) (select (cmpi .sge distV (broadcast S128x256 15#32)) (broadcast S128x256 (r 15)) (select (cmpi .sge distV (broadcast S128x256 14#32)) (broadcast S128x256 (r 14)) (select (cmpi .sge distV (broadcast S128x256 13#32)) (broadcast S128x256 (r 13)) (select (cmpi .sge distV (broadcast S128x256 12#32)) (broadcast S128x256 (r 12)) (select (cmpi .sge distV (broadcast S128x256 11#32)) (broadcast S128x256 (r 11)) (select (cmpi .sge distV (broadcast S128x256 10#32)) (broadcast S128x256 (r 10)) (select (cmpi .sge distV (broadcast S128x256 9#32)) (broadcast S128x256 (r 9)) (select (cmpi .sge distV (broadcast S128x256 8#32)) (broadcast S128x256 (r 8)) (select (cmpi .sge distV (broadcast S128x256 7#32)) (broadcast S128x256 (r 7)) (select (cmpi .sge distV (broadcast S128x256 6#32)) (broadcast S128x256 (r 6)) (select (cmpi .sge distV (broadcast S128x256 5#32)) (broadcast S128x256 (r 5)) (select (cmpi .sge distV (broadcast S128x256 4#32)) (broadcast S128x256 (r 4)) (select (cmpi .sge distV (broadcast S128x256 3#32)) (broadcast S128x256 (r 3)) (select (cmpi .sge distV (broadcast S128x256 2#32)) (broadcast S128x256 (r 2)) (select (cmpi .sge distV (broadcast S128x256 1#32)) (broadcast S128x256 (r 1)) (broadcast S128x256 (r 0))))))))))))))))))))))))))))))))

/-- Masked outside the window. -/
def bandBias (r : Fin 32 → Elt F .f32) : FVec F S128x256 .f32 :=
  select bandV (chainV r) (broadcast S128x256 (Named.named κ "mask" 0xF149F2CA#32))

/-- The table's row `g` of head `h`. -/
def biasPiece (X2 : Vec F S1x16 .f32) (X3 : Vec F S16x32 .f32) (g : Fin 2) (h : Fin 16) : FVec F S1x1x128x256 .f32 :=
  match g with
  | 0 => shapeCast S1x1x128x256 (select (cmpi .eq colV (broadcast S128x256 0#32)) (broadcast S128x256 (sinkAt X2 h))
      (bandBias (rbAt X3 h))) shapeCasts_S128x256_S1x1x128x256
  | 1 => shapeCast S1x1x128x256 (select (cmpi .eq colV (broadcast S128x256 0#32)) (broadcast S128x256 (sinkAt X2 h))
      (select (cmpi .sge colV (broadcast S128x256 128#32)) (bandBias (rbAt X3 h))
        (broadcast S128x256 (Named.named κ "mask" 0xF149F2CA#32)))) shapeCasts_S128x256_S1x1x128x256

variable (c : Dev nD) (arg4 : Memref sig .tc .smem S1x16 .f32) (harg4 : arg4.IsWhole) (arg5 : Memref sig .tc .smem S16x32 .f32)
  (harg5 : arg5.IsWhole) (x2 : Vec F S1x16 .f32) (x3 : Vec F S16x32 .f32)

theorem piece_1_15 : k0_pay200 kernelRun0_A.sl.v1957 (kernelRun0_A.sl.r_552 c arg5 harg5 x3) (kernelRun0_A.sl.r_553 c arg4 harg4 x2)
    = biasPiece (arg4.view.read (Elt F) (harg4.unread x2)) (arg5.view.read (Elt F) (harg5.unread x3)) 1 15 := rfl
theorem piece_0_15 : k0_pay199 kernelRun0_A.sl.v1957 (kernelRun0_A.sl.r_552 c arg5 harg5 x3) (kernelRun0_A.sl.r_553 c arg4 harg4 x2)
    = biasPiece (arg4.view.read (Elt F) (harg4.unread x2)) (arg5.view.read (Elt F) (harg5.unread x3)) 0 15 := rfl
theorem piece_1_14 : k0_pay185 kernelRun0_A.sl.v1957 kernelRun0_A.sl.v1965 (kernelRun0_A.sl.v4609 c arg5 harg5 x3) (cmpi CmpIPredicate.sge kernelRun0_A.sl.v1960 kernelRun0_A.sl.v2474) (kernelRun0_A.sl.r_517 c arg5 harg5 x3) (kernelRun0_A.sl.r_518 c arg4 harg4 x2)
    = biasPiece (arg4.view.read (Elt F) (harg4.unread x2)) (arg5.view.read (Elt F) (harg5.unread x3)) 1 14 := rfl
theorem piece_0_14 : k0_pay184 kernelRun0_A.sl.v1957 kernelRun0_A.sl.v1965 (kernelRun0_A.sl.v4609 c arg5 harg5 x3) (cmpi CmpIPredicate.sge kernelRun0_A.sl.v1960 kernelRun0_A.sl.v2474) (kernelRun0_A.sl.r_517 c arg5 harg5 x3) (kernelRun0_A.sl.r_518 c arg4 harg4 x2)
    = biasPiece (arg4.view.read (Elt F) (harg4.unread x2)) (arg5.view.read (Elt F) (harg5.unread x3)) 0 14 := rfl
theorem piece_1_13 : k0_pay170 kernelRun0_A.sl.v1957 kernelRun0_A.sl.v1960 kernelRun0_A.sl.v1965 (kernelRun0_A.sl.v4426 c arg5 harg5 x3) (99#32) (kernelRun0_A.sl.r_482 c arg5 harg5 x3) (kernelRun0_A.sl.r_483 c arg5 harg5 x3) (kernelRun0_A.sl.r_484 c arg4 harg4 x2)
    = biasPiece (arg4.view.read (Elt F) (harg4.unread x2)) (arg5.view.read (Elt F) (harg5.unread x3)) 1 13 := rfl
theorem piece_0_13 : k0_pay169 kernelRun0_A.sl.v1957 kernelRun0_A.sl.v1960 kernelRun0_A.sl.v1965 (kernelRun0_A.sl.v4426 c arg5 harg5 x3) (99#32) (kernelRun0_A.sl.r_482 c arg5 harg5 x3) (kernelRun0_A.sl.r_483 c arg5 harg5 x3) (kernelRun0_A.sl.r_484 c arg4 harg4 x2)
    = biasPiece (arg4.view.read (Elt F) (harg4.unread x2)) (arg5.view.read (Elt F) (harg5.unread x3)) 0 13 := rfl
theorem piece_1_12 : kernelRun0_A.sl.v4279 c arg4 harg4 arg5 harg5 x2 x3
    = biasPiece (arg4.view.read (Elt F) (harg4.unread x2)) (arg5.view.read (Elt F) (harg5.unread x3)) 1 12 := rfl
theorem piece_0_12 : k0_pay159 kernelRun0_A.sl.v1957 kernelRun0_A.sl.v1960 kernelRun0_A.sl.v1965 (kernelRun0_A.sl.v4238 c arg5 harg5 x3) (cmpi CmpIPredicate.sge kernelRun0_A.sl.v1960 kernelRun0_A.sl.v2103) (kernelRun0_A.sl.v4242 c arg5 harg5 x3) (kernelRun0_A.sl.r_447 c arg5 harg5 x3) (kernelRun0_A.sl.r_448 c arg5 harg5 x3) (kernelRun0_A.sl.r_449 c arg5 harg5 x3) (kernelRun0_A.sl.r_450 c arg4 harg4 x2)
    = biasPiece (arg4.view.read (Elt F) (harg4.unread x2)) (arg5.view.read (Elt F) (harg5.unread x3)) 0 12 := rfl
theorem piece_1_11 : k0_pay147 (kernelRun0_A.sl.r_416 c arg5 harg5 x3) (kernelRun0_A.sl.r_415 c arg4 harg4 x2) (k0_pay145 kernelRun0_A.sl.v1957) (k0_pay146 kernelRun0_A.sl.v1957)
    = biasPiece (arg4.view.read (Elt F) (harg4.unread x2)) (arg5.view.read (Elt F) (harg5.unread x3)) 1 11 := rfl
theorem piece_0_11 : k0_pay144 kernelRun0_A.sl.v1957 kernelRun0_A.sl.v1960 kernelRun0_A.sl.v1965 (kernelRun0_A.sl.v4055 c arg5 harg5 x3) (cmpi CmpIPredicate.sge kernelRun0_A.sl.v1960 kernelRun0_A.sl.v2098) (kernelRun0_A.sl.r_410 c arg5 harg5 x3) (kernelRun0_A.sl.r_411 c arg5 harg5 x3) (kernelRun0_A.sl.r_412 c arg5 harg5 x3) (kernelRun0_A.sl.r_413 c arg5 harg5 x3) (kernelRun0_A.sl.r_414 c arg5 harg5 x3) (kernelRun0_A.sl.r_415 c arg4 harg4 x2)
    = biasPiece (arg4.view.read (Elt F) (harg4.unread x2)) (arg5.view.read (Elt F) (harg5.unread x3)) 0 11 := rfl
theorem piece_1_10 : k0_pay136 kernelRun0_A.sl.v1957 (kernelRun0_A.sl.r_380 c arg5 harg5 x3) (kernelRun0_A.sl.r_379 c arg4 harg4 x2)
    = biasPiece (arg4.view.read (Elt F) (harg4.unread x2)) (arg5.view.read (Elt F) (harg5.unread x3)) 1 10 := rfl
theorem piece_0_10 : k0_pay135 (kernelRun0_A.sl.r_381 c arg4 harg4 arg5 harg5 x2 x3)
    = biasPiece (arg4.view.read (Elt F) (harg4.unread x2)) (arg5.view.read (Elt F) (harg5.unread x3)) 0 10 := rfl
theorem piece_1_9 : k0_pay122 kernelRun0_A.sl.v1957 (kernelRun0_A.sl.r_343 c arg5 harg5 x3) (kernelRun0_A.sl.r_344 c arg4 harg4 x2)
    = biasPiece (arg4.view.read (Elt F) (harg4.unread x2)) (arg5.view.read (Elt F) (harg5.unread x3)) 1 9 := rfl
theorem piece_0_9 : k0_pay121 kernelRun0_A.sl.v1957 (kernelRun0_A.sl.r_343 c arg5 harg5 x3) (kernelRun0_A.sl.r_344 c arg4 harg4 x2)
    = biasPiece (arg4.view.read (Elt F) (harg4.unread x2)) (arg5.view.read (Elt F) (harg5.unread x3)) 0 9 := rfl
theorem piece_1_8 : k0_pay113 kernelRun0_A.sl.v1957 kernelRun0_A.sl.v1965 (kernelRun0_A.sl.v3541 c arg5 harg5 x3) (cmpi CmpIPredicate.sge kernelRun0_A.sl.v1960 kernelRun0_A.sl.v2474) (kernelRun0_A.sl.r_308 c arg5 harg5 x3) (kernelRun0_A.sl.r_309 c arg4 harg4 x2)
    = biasPiece (arg4.view.read (Elt F) (harg4.unread x2)) (arg5.view.read (Elt F) (harg5.unread x3)) 1 8 := rfl
theorem piece_0_8 : k0_pay112 kernelRun0_A.sl.v1957 kernelRun0_A.sl.v1965 (kernelRun0_A.sl.v3541 c arg5 harg5 x3) (cmpi CmpIPredicate.sge kernelRun0_A.sl.v1960 kernelRun0_A.sl.v2474) (kernelRun0_A.sl.r_308 c arg5 harg5 x3) (kernelRun0_A.sl.r_309 c arg4 harg4 x2)
    = biasPiece (arg4.view.read (Elt F) (harg4.unread x2)) (arg5.view.read (Elt F) (harg5.unread x3)) 0 8 := rfl
theorem piece_1_7 : k0_pay98 kernelRun0_A.sl.v1957 kernelRun0_A.sl.v1960 kernelRun0_A.sl.v1965 (kernelRun0_A.sl.v3358 c arg5 harg5 x3) (99#32) (kernelRun0_A.sl.r_273 c arg5 harg5 x3) (kernelRun0_A.sl.r_274 c arg5 harg5 x3) (kernelRun0_A.sl.r_275 c arg4 harg4 x2)
    = biasPiece (arg4.view.read (Elt F) (harg4.unread x2)) (arg5.view.read (Elt F) (harg5.unread x3)) 1 7 := rfl
theorem piece_0_7 : k0_pay97 kernelRun0_A.sl.v1957 kernelRun0_A.sl.v1960 kernelRun0_A.sl.v1965 (kernelRun0_A.sl.v3358 c arg5 harg5 x3) (99#32) (kernelRun0_A.sl.r_273 c arg5 harg5 x3) (kernelRun0_A.sl.r_274 c arg5 harg5 x3) (kernelRun0_A.sl.r_275 c arg4 harg4 x2)
    = biasPiece (arg4.view.read (Elt F) (harg4.unread x2)) (arg5.view.read (Elt F) (harg5.unread x3)) 0 7 := rfl
theorem piece_1_6 : kernelRun0_A.sl.v3211 c arg4 harg4 arg5 harg5 x2 x3
    = biasPiece (arg4.view.read (Elt F) (harg4.unread x2)) (arg5.view.read (Elt F) (harg5.unread x3)) 1 6 := rfl
theorem piece_0_6 : k0_pay87 kernelRun0_A.sl.v1957 kernelRun0_A.sl.v1960 kernelRun0_A.sl.v1965 (kernelRun0_A.sl.v3170 c arg5 harg5 x3) (cmpi CmpIPredicate.sge kernelRun0_A.sl.v1960 kernelRun0_A.sl.v2103) (kernelRun0_A.sl.v3174 c arg5 harg5 x3) (kernelRun0_A.sl.r_238 c arg5 harg5 x3) (kernelRun0_A.sl.r_239 c arg5 harg5 x3) (kernelRun0_A.sl.r_240 c arg5 harg5 x3) (kernelRun0_A.sl.r_241 c arg4 harg4 x2)
    = biasPiece (arg4.view.read (Elt F) (harg4.unread x2)) (arg5.view.read (Elt F) (harg5.unread x3)) 0 6 := rfl
theorem piece_1_5 : k0_pay75 (kernelRun0_A.sl.r_207 c arg5 harg5 x3) (kernelRun0_A.sl.r_206 c arg4 harg4 x2) (k0_pay73 kernelRun0_A.sl.v1957) (k0_pay74 kernelRun0_A.sl.v1957)
    = biasPiece (arg4.view.read (Elt F) (harg4.unread x2)) (arg5.view.read (Elt F) (harg5.unread x3)) 1 5 := rfl
theorem piece_0_5 : k0_pay72 kernelRun0_A.sl.v1957 kernelRun0_A.sl.v1960 kernelRun0_A.sl.v1965 (kernelRun0_A.sl.v2987 c arg5 harg5 x3) (cmpi CmpIPredicate.sge kernelRun0_A.sl.v1960 kernelRun0_A.sl.v2098) (kernelRun0_A.sl.r_201 c arg5 harg5 x3) (kernelRun0_A.sl.r_202 c arg5 harg5 x3) (kernelRun0_A.sl.r_203 c arg5 harg5 x3) (kernelRun0_A.sl.r_204 c arg5 harg5 x3) (kernelRun0_A.sl.r_205 c arg5 harg5 x3) (kernelRun0_A.sl.r_206 c arg4 harg4 x2)
    = biasPiece (arg4.view.read (Elt F) (harg4.unread x2)) (arg5.view.read (Elt F) (harg5.unread x3)) 0 5 := rfl
theorem piece_1_4 : k0_pay64 kernelRun0_A.sl.v1957 (kernelRun0_A.sl.r_171 c arg5 harg5 x3) (kernelRun0_A.sl.r_170 c arg4 harg4 x2)
    = biasPiece (arg4.view.read (Elt F) (harg4.unread x2)) (arg5.view.read (Elt F) (harg5.unread x3)) 1 4 := rfl
theorem piece_0_4 : k0_pay63 (kernelRun0_A.sl.r_172 c arg4 harg4 arg5 harg5 x2 x3)
    = biasPiece (arg4.view.read (Elt F) (harg4.unread x2)) (arg5.view.read (Elt F) (harg5.unread x3)) 0 4 := rfl
theorem piece_1_3 : k0_pay50 kernelRun0_A.sl.v1957 (kernelRun0_A.sl.r_134 c arg5 harg5 x3) (kernelRun0_A.sl.r_135 c arg4 harg4 x2)
    = biasPiece (arg4.view.read (Elt F) (harg4.unread x2)) (arg5.view.read (Elt F) (harg5.unread x3)) 1 3 := rfl
theorem piece_0_3 : k0_pay49 kernelRun0_A.sl.v1957 (kernelRun0_A.sl.r_134 c arg5 harg5 x3) (kernelRun0_A.sl.r_135 c arg4 harg4 x2)
    = biasPiece (arg4.view.read (Elt F) (harg4.unread x2)) (arg5.view.read (Elt F) (harg5.unread x3)) 0 3 := rfl
theorem piece_1_2 : k0_pay41 kernelRun0_A.sl.v1957 kernelRun0_A.sl.v1965 (kernelRun0_A.sl.v2473 c arg5 harg5 x3) (cmpi CmpIPredicate.sge kernelRun0_A.sl.v1960 kernelRun0_A.sl.v2474) (kernelRun0_A.sl.r_99 c arg5 harg5 x3) (kernelRun0_A.sl.r_100 c arg4 harg4 x2)
    = biasPiece (arg4.view.read (Elt F) (harg4.unread x2)) (arg5.view.read (Elt F) (harg5.unread x3)) 1 2 := rfl
theorem piece_0_2 : k0_pay40 kernelRun0_A.sl.v1957 kernelRun0_A.sl.v1965 (kernelRun0_A.sl.v2473 c arg5 harg5 x3) (cmpi CmpIPredicate.sge kernelRun0_A.sl.v1960 kernelRun0_A.sl.v2474) (kernelRun0_A.sl.r_99 c arg5 harg5 x3) (kernelRun0_A.sl.r_100 c arg4 harg4 x2)
    = biasPiece (arg4.view.read (Elt F) (harg4.unread x2)) (arg5.view.read (Elt F) (harg5.unread x3)) 0 2 := rfl
theorem piece_1_1 : k0_pay26 kernelRun0_A.sl.v1957 kernelRun0_A.sl.v1960 kernelRun0_A.sl.v1965 (kernelRun0_A.sl.v2290 c arg5 harg5 x3) (99#32) (kernelRun0_A.sl.r_64 c arg5 harg5 x3) (kernelRun0_A.sl.r_65 c arg5 harg5 x3) (kernelRun0_A.sl.r_66 c arg4 harg4 x2)
    = biasPiece (arg4.view.read (Elt F) (harg4.unread x2)) (arg5.view.read (Elt F) (harg5.unread x3)) 1 1 := rfl
theorem piece_0_1 : k0_pay25 kernelRun0_A.sl.v1957 kernelRun0_A.sl.v1960 kernelRun0_A.sl.v1965 (kernelRun0_A.sl.v2290 c arg5 harg5 x3) (99#32) (kernelRun0_A.sl.r_64 c arg5 harg5 x3) (kernelRun0_A.sl.r_65 c arg5 harg5 x3) (kernelRun0_A.sl.r_66 c arg4 harg4 x2)
    = biasPiece (arg4.view.read (Elt F) (harg4.unread x2)) (arg5.view.read (Elt F) (harg5.unread x3)) 0 1 := rfl
theorem piece_1_0 : kernelRun0_A.sl.v2143 c arg4 harg4 arg5 harg5 x2 x3
    = biasPiece (arg4.view.read (Elt F) (harg4.unread x2)) (arg5.view.read (Elt F) (harg5.unread x3)) 1 0 := rfl
theorem piece_0_0 : k0_pay15 kernelRun0_A.sl.v1957 kernelRun0_A.sl.v1960 kernelRun0_A.sl.v1965 (kernelRun0_A.sl.v2102 c arg5 harg5 x3) (cmpi CmpIPredicate.sge kernelRun0_A.sl.v1960 kernelRun0_A.sl.v2103) (kernelRun0_A.sl.v2106 c arg5 harg5 x3) (kernelRun0_A.sl.r_29 c arg5 harg5 x3) (kernelRun0_A.sl.r_30 c arg5 harg5 x3) (kernelRun0_A.sl.r_31 c arg5 harg5 x3) (kernelRun0_A.sl.r_32 c arg4 harg4 x2)
    = biasPiece (arg4.view.read (Elt F) (harg4.unread x2)) (arg5.view.read (Elt F) (harg5.unread x3)) 0 0 := rfl

/-- The inputs as a table. -/
def biasTable (X2 : Vec F S1x16 .f32) (X3 : Vec F S16x32 .f32) : Vec F S2x16x128x256 .f32 := fun y =>
  biasPiece X2 X3 (y 0) (y 1) (ix4 0 0 (y 2) (y 3))

theorem piece_table (X2 : Vec F S1x16 .f32) (X3 : Vec F S16x32 .f32) (g : Fin 2) (h : Fin 16) (inb)
    (x : (Rect.unit (s := S2x16x128x256) ![g.val, h.val, 0, 0] S1x1x128x256.size inb).shape.Idx) :
    biasPiece X2 X3 g h x = biasTable X2 X3 ((Rect.unit (s := S2x16x128x256) ![g.val, h.val, 0, 0] S1x1x128x256.size inb).emb x) := by
  have h0 : (x 0).val = 0 := by have := (x 0).isLt; change (x 0).val < 1 at this; omega
  have h1 : (x 1).val = 0 := by have := (x 1).isLt; change (x 1).val < 1 at this; omega
  unfold biasTable
  have e0 : (Rect.unit (s := S2x16x128x256) ![g.val, h.val, 0, 0] S1x1x128x256.size inb).emb x 0 = g := Fin.ext (by
    rw [Rect.emb_apply]; show g.val + 1 * (x 0).val = g.val; omega)
  have e1 : (Rect.unit (s := S2x16x128x256) ![g.val, h.val, 0, 0] S1x1x128x256.size inb).emb x 1 = h := Fin.ext (by
    rw [Rect.emb_apply]; show h.val + 1 * (x 1).val = h.val; omega)
  rw [e0, e1]
  refine congrArg _ (funext fun a => Fin.ext ?_)
  match a with
  | 0 => exact h0
  | 1 => exact h1
  | 2 => show (x 2).val = 0 + 1 * (x 2).val; omega
  | 3 => show (x 3).val = 0 + 1 * (x 3).val; omega

/-- What the first point leaves in the table. -/
theorem table_canon (hc : ∀ y, ∃ pc ∈ kernelRun0_A.sl.HS0_32 c arg4 harg4 arg5 harg5 x2 x3, y ∈ pc.1.set) [∀ e, Nonempty (Elt F e)] :
    View.canon (kernelRun0_A.sl.HS0_32 c arg4 harg4 arg5 harg5 x2 x3)
      = biasTable (arg4.view.read (Elt F) (harg4.unread x2)) (arg5.view.read (Elt F) (harg5.unread x3)) := by
  funext y
  refine View.canon_apply_of_pieces _ _ ?_ y (hc y)
  unfold kernelRun0_A.sl.HS0_32
  simp only [List.forall_mem_cons, List.not_mem_nil, IsEmpty.forall_iff, implies_true, and_true]
  refine ⟨fun x => (congrFun (piece_1_15 c arg4 harg4 arg5 harg5 x2 x3) x).trans (piece_table _ _ 1 15 _ x), fun x => (congrFun (piece_0_15 c arg4 harg4 arg5 harg5 x2 x3) x).trans (piece_table _ _ 0 15 _ x), fun x => (congrFun (piece_1_14 c arg4 harg4 arg5 harg5 x2 x3) x).trans (piece_table _ _ 1 14 _ x), fun x => (congrFun (piece_0_14 c arg4 harg4 arg5 harg5 x2 x3) x).trans (piece_table _ _ 0 14 _ x), fun x => (congrFun (piece_1_13 c arg4 harg4 arg5 harg5 x2 x3) x).trans (piece_table _ _ 1 13 _ x), fun x => (congrFun (piece_0_13 c arg4 harg4 arg5 harg5 x2 x3) x).trans (piece_table _ _ 0 13 _ x), fun x => (congrFun (piece_1_12 c arg4 harg4 arg5 harg5 x2 x3) x).trans (piece_table _ _ 1 12 _ x), fun x => (congrFun (piece_0_12 c arg4 harg4 arg5 harg5 x2 x3) x).trans (piece_table _ _ 0 12 _ x), fun x => (congrFun (piece_1_11 c arg4 harg4 arg5 harg5 x2 x3) x).trans (piece_table _ _ 1 11 _ x), fun x => (congrFun (piece_0_11 c arg4 harg4 arg5 harg5 x2 x3) x).trans (piece_table _ _ 0 11 _ x), fun x => (congrFun (piece_1_10 c arg4 harg4 arg5 harg5 x2 x3) x).trans (piece_table _ _ 1 10 _ x), fun x => (congrFun (piece_0_10 c arg4 harg4 arg5 harg5 x2 x3) x).trans (piece_table _ _ 0 10 _ x), fun x => (congrFun (piece_1_9 c arg4 harg4 arg5 harg5 x2 x3) x).trans (piece_table _ _ 1 9 _ x), fun x => (congrFun (piece_0_9 c arg4 harg4 arg5 harg5 x2 x3) x).trans (piece_table _ _ 0 9 _ x), fun x => (congrFun (piece_1_8 c arg4 harg4 arg5 harg5 x2 x3) x).trans (piece_table _ _ 1 8 _ x), fun x => (congrFun (piece_0_8 c arg4 harg4 arg5 harg5 x2 x3) x).trans (piece_table _ _ 0 8 _ x), fun x => (congrFun (piece_1_7 c arg4 harg4 arg5 harg5 x2 x3) x).trans (piece_table _ _ 1 7 _ x), fun x => (congrFun (piece_0_7 c arg4 harg4 arg5 harg5 x2 x3) x).trans (piece_table _ _ 0 7 _ x), fun x => (congrFun (piece_1_6 c arg4 harg4 arg5 harg5 x2 x3) x).trans (piece_table _ _ 1 6 _ x), fun x => (congrFun (piece_0_6 c arg4 harg4 arg5 harg5 x2 x3) x).trans (piece_table _ _ 0 6 _ x), fun x => (congrFun (piece_1_5 c arg4 harg4 arg5 harg5 x2 x3) x).trans (piece_table _ _ 1 5 _ x), fun x => (congrFun (piece_0_5 c arg4 harg4 arg5 harg5 x2 x3) x).trans (piece_table _ _ 0 5 _ x), fun x => (congrFun (piece_1_4 c arg4 harg4 arg5 harg5 x2 x3) x).trans (piece_table _ _ 1 4 _ x), fun x => (congrFun (piece_0_4 c arg4 harg4 arg5 harg5 x2 x3) x).trans (piece_table _ _ 0 4 _ x), fun x => (congrFun (piece_1_3 c arg4 harg4 arg5 harg5 x2 x3) x).trans (piece_table _ _ 1 3 _ x), fun x => (congrFun (piece_0_3 c arg4 harg4 arg5 harg5 x2 x3) x).trans (piece_table _ _ 0 3 _ x), fun x => (congrFun (piece_1_2 c arg4 harg4 arg5 harg5 x2 x3) x).trans (piece_table _ _ 1 2 _ x), fun x => (congrFun (piece_0_2 c arg4 harg4 arg5 harg5 x2 x3) x).trans (piece_table _ _ 0 2 _ x), fun x => (congrFun (piece_1_1 c arg4 harg4 arg5 harg5 x2 x3) x).trans (piece_table _ _ 1 1 _ x), fun x => (congrFun (piece_0_1 c arg4 harg4 arg5 harg5 x2 x3) x).trans (piece_table _ _ 0 1 _ x), fun x => (congrFun (piece_1_0 c arg4 harg4 arg5 harg5 x2 x3) x).trans (piece_table _ _ 1 0 _ x), fun x => (congrFun (piece_0_0 c arg4 harg4 arg5 harg5 x2 x3) x).trans (piece_table _ _ 0 0 _ x)⟩

end Table

/-! ### The table at exact arithmetic -/

/-- The bucket of a distance below 128. -/
def bucketIx (d : ℕ) : Fin 32 := if 113 ≤ d then 31 else if 99 ≤ d then 30 else if 87 ≤ d then 29 else if 77 ≤ d then 28 else if 67 ≤ d then 27 else if 59 ≤ d then 26 else if 52 ≤ d then 25 else if 46 ≤ d then 24 else if 40 ≤ d then 23 else if 35 ≤ d then 22 else if 31 ≤ d then 21 else if 27 ≤ d then 20 else if 24 ≤ d then 19 else if 21 ≤ d then 18 else if 19 ≤ d then 17 else if 16 ≤ d then 16 else if 15 ≤ d then 15 else if 14 ≤ d then 14 else if 13 ≤ d then 13 else if 12 ≤ d then 12 else if 11 ≤ d then 11 else if 10 ≤ d then 10 else if 9 ≤ d then 9 else if 8 ≤ d then 8 else if 7 ≤ d then 7 else if 6 ≤ d then 6 else if 5 ≤ d then 5 else if 4 ≤ d then 4 else if 3 ≤ d then 3 else if 2 ≤ d then 2 else if 1 ≤ d then 1 else 0

theorem sge_nat (d t : ℕ) (hd : d < 128) (ht : t < 128) :
    IntOp.cmpi CmpIPredicate.sge (BitVec.ofNat 32 d) (BitVec.ofNat 32 t) = if t ≤ d then 1#1 else 0#1 := by
  unfold IntOp.cmpi
  have e : ∀ n, n < 128 → (BitVec.ofNat 32 n).toInt = n := fun n hn => by
    rw [BitVec.toInt_eq_toNat_of_lt (by rw [BitVec.toNat_ofNat]; omega), BitVec.toNat_ofNat]; omega
  simp only [BitVec.sle, e d hd, e t ht]
  by_cases h : t ≤ d <;> simp [h]

theorem sel_sge (r : Fin 32 → EReal) (d t : ℕ) (hd : d < 128) (ht : t < 128) (b e : Fin 32) :
    Scalar.select (IntOp.cmpi CmpIPredicate.sge (BitVec.ofNat 32 d) (BitVec.ofNat 32 t)) (r b) (r e) = r (if t ≤ d then b else e) := by
  rw [sge_nat d t hd ht]; split <;> rfl

/-- The distance's word: its value where it is not negative, -/
theorem dist_word (p : Fin 128) (s : Fin 256) (h : s.val ≤ p.val + 128) :
    BitVec.ofNat 32 p.val + 128#32 - BitVec.ofNat 32 s.val = BitVec.ofNat 32 (p.val + 128 - s.val) := by
  apply BitVec.eq_of_toNat_eq
  simp only [BitVec.toNat_sub, BitVec.toNat_add, BitVec.toNat_ofNat]
  omega

/-- and the window. -/
theorem band_word (p : Fin 128) (s : Fin 256) :
    IntOp.cmpi CmpIPredicate.sge (BitVec.ofNat 32 p.val + 128#32 - BitVec.ofNat 32 s.val) 0#32
      &&& IntOp.cmpi CmpIPredicate.slt (BitVec.ofNat 32 p.val + 128#32 - BitVec.ofNat 32 s.val) 128#32
      = if p.val < s.val ∧ s.val ≤ p.val + 128 then 1#1 else 0#1 := by
  unfold IntOp.cmpi
  have e : (BitVec.ofNat 32 p.val + 128#32 - BitVec.ofNat 32 s.val).toInt = (p.val : ℤ) + 128 - s.val := by
    have hp := p.isLt
    have hs := s.isLt
    by_cases h : s.val ≤ p.val + 128
    · rw [dist_word p s h, BitVec.toInt_eq_toNat_of_lt (by rw [BitVec.toNat_ofNat]; omega), BitVec.toNat_ofNat]; omega
    · rw [BitVec.toInt_eq_toNat_cond]
      simp only [BitVec.toNat_sub, BitVec.toNat_add, BitVec.toNat_ofNat]
      split <;> omega
  simp only [BitVec.sle, BitVec.slt, e]
  by_cases h1 : s.val ≤ p.val + 128 <;> by_cases h2 : p.val < s.val
  · rw [if_pos ⟨h2, h1⟩]
    rw [decide_eq_true (by show (0 : ℤ) ≤ _; omega), decide_eq_true (by show _ < (128 : ℤ); omega)]; rfl
  · rw [if_neg (fun h => h2 h.1)]
    rw [decide_eq_false (p := (p.val : ℤ) + 128 - s.val < _) (by show ¬ _ < (128 : ℤ); omega)]
    exact BitVec.and_zero
  · rw [if_neg (fun h => h1 h.2)]
    rw [decide_eq_false (p := _ ≤ (p.val : ℤ) + 128 - s.val) (by show ¬ (0 : ℤ) ≤ _; omega)]
    exact BitVec.zero_and
  · omega

theorem col_word (s : Fin 256) :
    IntOp.cmpi CmpIPredicate.sge (BitVec.ofNat 32 s.val) 128#32 = if 128 ≤ s.val then 1#1 else 0#1 := by
  revert s; decide

/-- Where the window and the first block's mask let a key in. -/
def keep (g : Fin 2) (p : Fin 128) (s : Fin 256) : Prop := p.val < s.val ∧ s.val ≤ p.val + 128 ∧ (g.val = 0 ∨ 128 ≤ s.val)

instance (g : Fin 2) (p : Fin 128) (s : Fin 256) : Decidable (keep g p s) := by unfold keep; infer_instance

/-- A head's biases in the window. -/
theorem bandBias_apply (r : Fin 32 → EReal) (p : Fin 128) (s : Fin 256) :
    bandBias (F := Ideal) r (ix2 p s)
      = if p.val < s.val ∧ s.val ≤ p.val + 128 then r (bucketIx (p.val + 128 - s.val)) else (⊥ : EReal) := by
  pointwise [bandBias, chainV, bandV, distV, colV]
  simp only [IntOp.andi, IntOp.subi, IntOp.addi]
  rw [band_word]
  by_cases h : p.val < s.val ∧ s.val ≤ p.val + 128
  · rw [if_pos h, if_pos h, select_one, dist_word p s h.2]
    have hd : p.val + 128 - s.val < 128 := by omega
    generalize p.val + 128 - s.val = d at hd ⊢
    unfold bucketIx
    rw [sel_sge r d 1 hd (by omega) 1, sel_sge r d 2 hd (by omega) 2, sel_sge r d 3 hd (by omega) 3, sel_sge r d 4 hd (by omega) 4, sel_sge r d 5 hd (by omega) 5, sel_sge r d 6 hd (by omega) 6, sel_sge r d 7 hd (by omega) 7, sel_sge r d 8 hd (by omega) 8, sel_sge r d 9 hd (by omega) 9, sel_sge r d 10 hd (by omega) 10, sel_sge r d 11 hd (by omega) 11, sel_sge r d 12 hd (by omega) 12, sel_sge r d 13 hd (by omega) 13, sel_sge r d 14 hd (by omega) 14, sel_sge r d 15 hd (by omega) 15, sel_sge r d 16 hd (by omega) 16, sel_sge r d 19 hd (by omega) 17, sel_sge r d 21 hd (by omega) 18, sel_sge r d 24 hd (by omega) 19, sel_sge r d 27 hd (by omega) 20, sel_sge r d 31 hd (by omega) 21, sel_sge r d 35 hd (by omega) 22, sel_sge r d 40 hd (by omega) 23, sel_sge r d 46 hd (by omega) 24, sel_sge r d 52 hd (by omega) 25, sel_sge r d 59 hd (by omega) 26, sel_sge r d 67 hd (by omega) 27, sel_sge r d 77 hd (by omega) 28, sel_sge r d 87 hd (by omega) 29, sel_sge r d 99 hd (by omega) 30, sel_sge r d 113 hd (by omega) 31]
  · rw [if_neg h, if_neg h]
    rfl

/-- The table's entry: the sink in column 0, the distance's bias where the key is let in, and minus infinity elsewhere. -/
theorem bias_apply (X2 : Vec Ideal S1x16 .f32) (X3 : Vec Ideal S16x32 .f32) (g : Fin 2) (h : Fin 16) (p : Fin 128) (s : Fin 256) :
    biasPiece X2 X3 g h (ix4 0 0 p s)
      = if s.val = 0 then X2 (ix2 0 h) else if keep g p s then X3 (ix2 h (bucketIx (p.val + 128 - s.val))) else (⊥ : EReal) := by
  have e2 : sinkAt X2 h = X2 (ix2 0 h) := congrArg X2 (funext fun a => Fin.ext (by
    match a with
    | 0 => rfl
    | 1 => show h.val + 1 * 0 = h.val; omega))
  have e3 : rbAt X3 h = fun b => X3 (ix2 h b) := funext fun b => congrArg X3 (funext fun a => Fin.ext (by
    match a with
    | 0 => show h.val + 1 * 0 = h.val; omega
    | 1 => show b.val + 1 * 0 = b.val; omega))
  match g with
  | 0 =>
    pointwise [biasPiece, colV]
    rw [sel_row, e2, e3]
    refine if_congr Iff.rfl rfl ((bandBias_apply _ p s).trans (if_congr ?_ rfl rfl))
    exact ⟨fun h => ⟨h.1, h.2, Or.inl rfl⟩, fun h => ⟨h.1, h.2.1⟩⟩
  | 1 =>
    pointwise [biasPiece, colV]
    rw [sel_row, e2, e3]
    refine if_congr Iff.rfl rfl ?_
    rw [col_word]
    by_cases h8 : 128 ≤ s.val
    · rw [if_pos h8, select_one]
      exact (bandBias_apply _ p s).trans (if_congr ⟨fun h => ⟨h.1, h.2, Or.inr h8⟩, fun h => ⟨h.1, h.2.1⟩⟩ rfl rfl)
    · rw [if_neg h8, if_neg (fun h => h8 (h.2.2.resolve_left (by decide)))]
      rfl

end Cert.KernelIdeal.Hand

end
-- ==== Proof.AttnRef.lean ====
/- The attention's reference read at an index, at exact arithmetic: the window's masked scores and biases with the sink as one
   more score, their softmax, and the values. -/
module

public import proofs.«01_k».proof.Proof.AttnBias
public import proofs.«01_k».proof.Proof.Gen.ReferenceIdeal.Run

@[expose] public section

set_option maxRecDepth 16384
set_option maxHeartbeats 2000000

noncomputable section

namespace Cert.ReferenceIdeal.Hand

open Cert.ReferenceIdeal Cert.ReferenceIdeal.Gen Cert.ReferenceIdeal.Value Idealize.ShloMosaic Idealize.ShloMosaic.TcCoe Idealize.SL.Sem

/-! ### The reference's stages -/

section Stages

variable {F : FTy → Type} [FloatOps F]

/-- The 128 rows before a block and the block's own. -/
def pairR (X : FVec F S8192x256 .f32) : FVec F S2x32x256x4x64 .f32 :=
  let P : FVec F S2x33x128x4x64 .f32 := shapeCast S2x33x128x4x64 (pad S2x4224x4x64 ![0, 128, 0, 0] ![0, 0, 0, 0] ![0, 0, 0, 0]
    (shapeCast S2x4096x4x64 X shapeCasts_S8192x256_S2x4096x4x64) (sitofp .f32 (constantI S_ 32 0#32))
    pads_S2x4096x4x64_S2x4224x4x64_000_12800_000_000 h_S_) shapeCasts_S2x4224x4x64_S2x33x128x4x64
  concatenate S2x32x256x4x64 2
    [⟨S2x32x128x4x64, extractStridedSlice S2x32x128x4x64 ![0, 0, 0, 0, 0] P slices_S2x33x128x4x64_S2x32x128x4x64_0_0_0_0_0⟩,
     ⟨S2x32x128x4x64, extractStridedSlice S2x32x128x4x64 ![0, 1, 0, 0, 0] P slices_S2x33x128x4x64_S2x32x128x4x64_0_1_0_0_0⟩]
    concatenates_S2x32x128x4x64_S2x32x128x4x64_S2x32x256x4x64_d2

/-- The keys, -/
def keysR (A0 : FVec F S8192x9216 .bf16) : FVec F S8192x256 .f32 :=
  extf .f32 (extractStridedSlice S8192x256 ![0, 5120] A0 slices_S8192x9216_S8192x256_0_5120) bitsLt_bf16_f32

/-- the values, -/
def valsR (A0 : FVec F S8192x9216 .bf16) : FVec F S8192x256 .f32 :=
  extf .f32 (extractStridedSlice S8192x256 ![0, 5376] A0 slices_S8192x9216_S8192x256_0_5376) bitsLt_bf16_f32

/-- and the scaled queries by block and head. -/
def qR (A0 : FVec F S8192x9216 .bf16) : FVec F S2x32x128x4x4x64 .f32 :=
  shapeCast S2x32x128x4x4x64 (mulf (shapeCast S2x4096x16x64 (extf .f32 (extractStridedSlice S8192x1024 ![0, 4096] A0
    slices_S8192x9216_S8192x1024_0_4096) bitsLt_bf16_f32) shapeCasts_S8192x1024_S2x4096x16x64)
    (broadcastInDim S2x4096x16x64 ![] bcast_S_S2x4096x16x64 (constant S_ .f32 0x3E000000#32))) shapeCasts_S2x4096x16x64_S2x32x128x4x4x64

/-- The scores. -/
def scoreR (K : FVec F S2x32x256x4x64 .f32) (Q : FVec F S2x32x128x4x4x64 .f32) : FVec F S2x32x4x4x128x256 .f32 :=
  transpose S2x32x4x4x128x256 [0, 1, 2, 5, 4, 3] (Host.dotGeneral dot_S2x32x256x4x64_S2x32x128x4x4x64_S2x32x4x256x128x4_4_5_2_24_013_013
    none K Q) transposes_S2x32x4x256x128x4_S2x32x4x4x128x256_0_1_2_5_4_3

/-- The distance from query row to key column. -/
def distR : IVec S128x256 32 :=
  subi (broadcastInDim S128x256 ![0, 1] bcast_S128x1_S128x256_0_1 (addi (broadcastInDim S128x1 ![0] bcast_S128_S128x1_0 (iotaInDim S128 32 0))
      (broadcastInDim S128x1 ![] bcast_S_S128x1 (constantI S_ 32 128#32))))
    (broadcastInDim S128x256 ![0, 1] bcast_S1x256_S128x256_0_1 (broadcastInDim S1x256 ![1] bcast_S256_S1x256_1 (iotaInDim S256 32 0)))

/-- The window and the keys that exist. -/
def maskR : IVec S2x32x4x4x128x256 1 :=
  broadcastInDim S2x32x4x4x128x256 ![0, 1, 2, 3, 4, 5] bcast_S1x32x1x1x128x256_S2x32x4x4x128x256_0_1_2_3_4_5
    (broadcastInDim S1x32x1x1x128x256 ![1, 4, 5] bcast_S32x128x256_S1x32x1x1x128x256_1_4_5
      (andi (broadcastInDim S32x128x256 ![0, 1, 2] bcast_S1x128x256_S32x128x256_0_1_2 (broadcastInDim S1x128x256 ![1, 2] bcast_S128x256_S1x128x256_1_2
          (andi (cmpi .sge distR (broadcastInDim S128x256 ![] bcast_S_S128x256 (constantI S_ 32 0#32)))
            (cmpi .slt distR (broadcastInDim S128x256 ![] bcast_S_S128x256 (constantI S_ 32 128#32))))))
        (broadcastInDim S32x128x256 ![0, 1, 2] bcast_S32x1x256_S32x128x256_0_1_2 (cmpi .sge
          (subi (addi (broadcastInDim S32x1x256 ![0, 1, 2] bcast_S32x1x1_S32x1x256_0_1_2 (muli
                (broadcastInDim S32x1x1 ![0] bcast_S32_S32x1x1_0 (iotaInDim S32 32 0)) (broadcastInDim S32x1x1 ![] bcast_S_S32x1x1 (constantI S_ 32 128#32))))
              (broadcastInDim S32x1x256 ![0, 1, 2] bcast_S1x1x256_S32x1x256_0_1_2 (broadcastInDim S1x1x256 ![1, 2] bcast_S1x256_S1x1x256_1_2
                (broadcastInDim S1x256 ![1] bcast_S256_S1x256_1 (iotaInDim S256 32 0)))))
            (broadcastInDim S32x1x256 ![] bcast_S_S32x1x256 (constantI S_ 32 128#32)))
          (broadcastInDim S32x1x256 ![] bcast_S_S32x1x256 (constantI S_ 32 0#32))))))

/-- The distance's bucket. -/
def bucketR : IVec S128x256 32 :=
  let d : IVec S128x256 32 := maxsi distR (broadcastInDim S128x256 ![] bcast_S_S128x256 (constantI S_ 32 0#32))
  let c16 : FVec F S128x256 .f32 := broadcastInDim S128x256 ![] bcast_S_S128x256 (constant S_ .f32 0x41800000#32)
  let l : IVec S128x256 32 := fptosi 32 (mulf (Host.divf (Host.log (Host.divf (sitofp .f32 (maxsi d (broadcastInDim S128x256 ![] bcast_S_S128x256
    (constantI S_ 32 1#32)))) c16)) (broadcastInDim S128x256 ![] bcast_S_S128x256 (constant S_ .f32 0x40051592#32))) c16)
  let b : IVec S128x256 32 := select (cmpi .slt d (broadcastInDim S128x256 ![] bcast_S_S128x256 (constantI S_ 32 16#32))) d
    (minsi (addi (broadcastInDim S128x256 ![] bcast_S_S128x256 (constantI S_ 32 16#32)) l) (broadcastInDim S128x256 ![] bcast_S_S128x256 (constantI S_ 32 31#32)))
  select (cmpi .slt b (broadcastInDim S128x256 ![] bcast_S_S128x256 (constantI S_ 32 0#32)))
    (addi b (broadcastInDim S128x256 ![] bcast_S_S128x256 (constantI S_ 32 32#32))) b

/-- The biases by head. -/
def biasR (B : IVec S128x256 32) (A2 : FVec F S32x16 .f32) : FVec F S2x32x4x4x128x256 .f32 :=
  broadcastInDim S2x32x4x4x128x256 ![0, 1, 2, 3, 4, 5] bcast_S1x1x4x4x128x256_S2x32x4x4x128x256_0_1_2_3_4_5
    (broadcastInDim S1x1x4x4x128x256 ![2, 3, 4, 5] bcast_S4x4x128x256_S1x1x4x4x128x256_2_3_4_5
      (shapeCast S4x4x128x256 (transpose S16x128x256 [2, 0, 1] (Host.gather gather_S32x16_S128x256x1_S128x256x16_2_0_n_n_0_2_116 A2
        (broadcastInDim S128x256x1 ![0, 1] bcast_S128x256_S128x256x1_0_1 B)) transposes_S128x256x16_S16x128x256_2_0_1)
        shapeCasts_S16x128x256_S4x4x128x256))

/-- The sinks by head. -/
def sinkR (A1 : FVec F S1x16 .f32) : FVec F S2x32x4x4x128x1 .f32 :=
  broadcastInDim S2x32x4x4x128x1 ![0, 1, 2, 3, 4, 5] bcast_S1x1x4x4x1x1_S2x32x4x4x128x1_0_1_2_3_4_5
    (broadcastInDim S1x1x4x4x1x1 ![2, 3] bcast_S4x4_S1x1x4x4x1x1_2_3 (shapeCast S4x4 (shapeCast S16 A1 shapeCasts_S1x16_S16) shapeCasts_S16_S4x4))

/-- The masked logits. -/
def logitR (S B : FVec F S2x32x4x4x128x256 .f32) : FVec F S2x32x4x4x128x256 .f32 :=
  select maskR (addf S B) (broadcastInDim S2x32x4x4x128x256 ![] bcast_S_S2x32x4x4x128x256 (constant S_ .f32 0xFF800000#32))

/-- The maximum over the keys and the sink. -/
def maxR (T : FVec F S2x32x4x4x128x256 .f32) (K : FVec F S2x32x4x4x128x1 .f32) : FVec F S2x32x4x4x128x1 .f32 :=
  maximumf (broadcastInDim S2x32x4x4x128x1 ![0, 1, 2, 3, 4] bcast_S2x32x4x4x128_S2x32x4x4x128x1_0_1_2_3_4
    (Host.reduce FloatOps.maximumf T (constant S_ .f32 0xFF800000#32) reducesTo_S2x32x4x4x128x256_S2x32x4x4x128_d5 h_S_)) K

/-- The unnormalised weights. -/
def expR (T : FVec F S2x32x4x4x128x256 .f32) (M : FVec F S2x32x4x4x128x1 .f32) : FVec F S2x32x4x4x128x256 .f32 :=
  Host.exp (subf T (broadcastInDim S2x32x4x4x128x256 ![0, 1, 2, 3, 4, 5] bcast_S2x32x4x4x128x1_S2x32x4x4x128x256_0_1_2_3_4_5 M))

/-- The weights. -/
def probR (E : FVec F S2x32x4x4x128x256 .f32) (K M : FVec F S2x32x4x4x128x1 .f32) : FVec F S2x32x4x4x128x256 .f32 :=
  Host.divf E (broadcastInDim S2x32x4x4x128x256 ![0, 1, 2, 3, 4, 5] bcast_S2x32x4x4x128x1_S2x32x4x4x128x256_0_1_2_3_4_5
    (addf (broadcastInDim S2x32x4x4x128x1 ![0, 1, 2, 3, 4] bcast_S2x32x4x4x128_S2x32x4x4x128x1_0_1_2_3_4
      (Host.reduceAdd E (constant S_ .f32 0x00000000#32) reducesTo_S2x32x4x4x128x256_S2x32x4x4x128_d5 h_S_)) (Host.exp (subf K M))))

/-- The result by row and column. -/
def outR (V : FVec F S2x32x256x4x64 .f32) (P : FVec F S2x32x4x4x128x256 .f32) : FVec F S8192x1024 .bf16 :=
  truncf .bf16 (shapeCast S8192x1024 (shapeCast S2x4096x1024 (transpose S2x32x128x4x4x64 [0, 1, 5, 2, 4, 3]
    (Host.dotGeneral dot_S2x32x256x4x64_S2x32x4x4x128x256_S2x32x4x64x4x128_2_5_4_34_013_012 none V P)
    transposes_S2x32x4x64x4x128_S2x32x128x4x4x64_0_1_5_2_4_3) shapeCasts_S2x32x128x4x4x64_S2x4096x1024) shapeCasts_S2x4096x1024_S8192x1024) bitsLt_bf16_f32

/-- The reference's result of its arguments. -/
def refResult (A0 : FVec F S8192x9216 .bf16) (A1 : FVec F S1x16 .f32) (A2 : FVec F S32x16 .f32) : FVec F S8192x1024 .bf16 :=
  let T := logitR (scoreR (pairR (keysR A0)) (qR A0)) (biasR (bucketR (F := F)) A2)
  let M := maxR T (sinkR A1)
  outR (pairR (valsR A0)) (probR (expR T M) (sinkR A1) M)

theorem result_eq (m : (ℓ : Loc nD τ sig) → Buf (Elt F) ℓ) (c : Dev nD) :
    res_main_v110 m c = refResult (m ((c.tc : Thread nD τ).loc main_arg0)) (m ((c.tc : Thread nD τ).loc main_arg1))
      (m ((c.tc : Thread nD τ).loc main_arg2)) := rfl

end Stages

end Cert.ReferenceIdeal.Hand

end
-- ==== Proof.AttnBucket.lean ====
/- The reference's bucket of a distance inside the window, at exact arithmetic: the logarithm's whole part is the ladder the kernel
   compares with. -/
module

public import proofs.«01_k».proof.Proof.AttnRef

@[expose] public section

set_option maxRecDepth 16384
set_option maxHeartbeats 2000000

noncomputable section

namespace Cert.ReferenceIdeal.Hand

open Cert.ReferenceIdeal Cert.ReferenceIdeal.Gen Cert.ReferenceIdeal.Value Idealize.ShloMosaic Idealize.ShloMosaic.TcCoe Idealize.SL.Sem
open Cert.KernelIdeal.Hand (bucketIx dist_word band_word select_one select_zero)

/-- The divisor: the value of the program's `log 8`. -/
def c8 : ℝ := 8721810 / 4194304

theorem ofBits_c8 : Ideal.ofBits .f32 1074075026#32 = ((c8 : ℝ) : EReal) := by
  unfold c8
  simp [Ideal.ofBits, Ideal.ieee, -EReal.coe_mul]
  norm_num

theorem ofBits_16 : Ideal.ofBits .f32 1098907648#32 = ((16 : ℝ) : EReal) := by
  simp [Ideal.ofBits, Ideal.ieee, -EReal.coe_mul]
  norm_num

/-- Two bounds of `log 2`, from powers of 2001 and 2000. -/
theorem log2_le : Real.log 2 ≤ 1387 / 2000 := by
  have h : (2 : ℝ) ≤ ((2001 / 2000 : ℝ) ^ 19) ^ 73 := by norm_num
  have h1 := Real.log_le_log (by norm_num) h
  have h2 := Real.log_le_sub_one_of_pos (x := (2001 / 2000 : ℝ)) (by norm_num)
  rw [Real.log_pow, Real.log_pow] at h1
  push_cast at h1
  linarith

theorem log2_ge : 1386 / 2001 ≤ Real.log 2 := by
  have h : ((2001 / 2000 : ℝ) ^ 18) ^ 77 ≤ 2 := by norm_num
  have h1 := Real.log_le_log (by positivity) h
  have h2 := Real.one_sub_inv_le_log_of_pos (x := (2001 / 2000 : ℝ)) (by norm_num)
  rw [Real.log_pow, Real.log_pow] at h1
  push_cast at h1
  norm_num at h2
  linarith

theorem log_pow16 (t b : ℕ) (ht : 0 < t) :
    Real.log ((t : ℝ) ^ 16 / (16 ^ 16 * 2 ^ (3 * b))) = 16 * Real.log ((t : ℝ) / 16) - (3 * b : ℝ) * Real.log 2 := by
  have ht' : (0 : ℝ) < t := by exact_mod_cast ht
  rw [← div_div, ← div_pow, Real.log_div (by positivity) (by positivity), Real.log_pow, Real.log_pow]
  push_cast; ring

/-- A lower bound of the scaled logarithm from whole numbers, -/
theorem log_ge (t b : ℕ) (ht : 0 < t) (h : 16 ^ 16 * 2 ^ (3 * b) * 1000 + t ^ 16 * (2 * b) ≤ t ^ 16 * 1000) :
    (b : ℝ) * c8 ≤ 16 * Real.log ((t : ℝ) / 16) := by
  have h2 := log2_ge
  have ht' : (0 : ℝ) < t := by exact_mod_cast ht
  have hR : (16 : ℝ) ^ 16 * 2 ^ (3 * b) * 1000 + (t : ℝ) ^ 16 * (2 * b) ≤ (t : ℝ) ^ 16 * 1000 := by exact_mod_cast h
  have hx : (0 : ℝ) < (t : ℝ) ^ 16 / (16 ^ 16 * 2 ^ (3 * b)) := by positivity
  have hl := Real.one_sub_inv_le_log_of_pos hx
  have hi : ((t : ℝ) ^ 16 / (16 ^ 16 * 2 ^ (3 * b)))⁻¹ ≤ (1000 - 2 * (b : ℝ)) / 1000 := by
    rw [inv_div, div_le_div_iff₀ (by positivity) (by norm_num)]
    linarith
  rw [log_pow16 t b ht] at hl
  have hb0 : (0 : ℝ) ≤ b := Nat.cast_nonneg b
  unfold c8
  nlinarith

/-- and an upper one. -/
theorem log_lt (n b : ℕ) (hn : 0 < n) (hb : 0 < b) (h : n ^ 16 * 10000 + 16 ^ 16 * 2 ^ (3 * b) * (11 * b) ≤ 16 ^ 16 * 2 ^ (3 * b) * 10000) :
    16 * Real.log ((n : ℝ) / 16) < (b : ℝ) * c8 := by
  have h2 := log2_le
  have hn' : (0 : ℝ) < n := by exact_mod_cast hn
  have hR : (n : ℝ) ^ 16 * 10000 + (16 : ℝ) ^ 16 * 2 ^ (3 * b) * (11 * b) ≤ 16 ^ 16 * 2 ^ (3 * b) * 10000 := by exact_mod_cast h
  have hx : (0 : ℝ) < (n : ℝ) ^ 16 / (16 ^ 16 * 2 ^ (3 * b)) := by positivity
  have hl := Real.log_le_sub_one_of_pos hx
  have hi : (n : ℝ) ^ 16 / (16 ^ 16 * 2 ^ (3 * b)) ≤ (10000 - 11 * (b : ℝ)) / 10000 := by
    rw [div_le_div_iff₀ (by positivity) (by norm_num)]
    linarith
  rw [log_pow16 n b hn] at hl
  have hb1 : (1 : ℝ) ≤ b := by exact_mod_cast hb
  unfold c8
  nlinarith

/-- The bucket's word of a distance's word. -/
def bucketWord (d : BitVec 32) : BitVec 32 :=
  let m := IntOp.maxsi d 0#32
  let b := Scalar.select (IntOp.cmpi CmpIPredicate.slt m 16#32) m
    (IntOp.minsi (IntOp.addi (16#32) (FloatOps.fptosi (F := Ideal) (φ := .f32) 32
      (Ideal.div (Ideal.log (Ideal.div (FloatOps.sitofp (F := Ideal) FTy.f32 (IntOp.maxsi m 1#32)) (Ideal.ofBits FTy.f32 1098907648#32)))
          (Ideal.ofBits FTy.f32 1074075026#32) * Ideal.ofBits FTy.f32 1098907648#32))) 31#32)
  Scalar.select (IntOp.cmpi CmpIPredicate.slt b 0#32) (IntOp.addi b 32#32) b

theorem bucketR_word (p : Fin 128) (s : Fin 256) :
    bucketR (F := Ideal) (ix2 p s) = bucketWord (BitVec.ofNat 32 p.val + 128#32 - BitVec.ofNat 32 s.val) := by
  obtain ⟨R, hR⟩ : ∃ R, R = bucketWord (BitVec.ofNat 32 p.val + 128#32 - BitVec.ofNat 32 s.val) := ⟨_, rfl⟩
  rw [← hR]
  pointwise [bucketR, distR]
  exact hR.symm

/-- The whole part of the scaled logarithm between two thresholds. -/
theorem fpto_log (d lo hi b : ℕ) (hb : b < 16) (hlo : lo ≤ d) (hhi : d ≤ hi) (hd : 16 ≤ lo)
    (h1 : b = 0 ∨ 16 ^ 16 * 2 ^ (3 * b) * 1000 + lo ^ 16 * (2 * b) ≤ lo ^ 16 * 1000) (h2 : hi ^ 16 * 10000 + 16 ^ 16 * 2 ^ (3 * (b + 1)) * (11 * (b + 1)) ≤ 16 ^ 16 * 2 ^ (3 * (b + 1)) * 10000) :
    FloatOps.fptosi (F := Ideal) (φ := .f32) 32
      (Ideal.div (Ideal.log (Ideal.div (((d : ℝ)) : EReal) (Ideal.ofBits FTy.f32 1098907648#32)))
          (Ideal.ofBits FTy.f32 1074075026#32) * Ideal.ofBits FTy.f32 1098907648#32) = BitVec.ofNat 32 b := by
  have hc : (0 : ℝ) < c8 := by unfold c8; norm_num
  have hdp : (16 : ℝ) ≤ d := by exact_mod_cast hd.trans hlo
  have hq : (0 : ℝ) < (d : ℝ) / 16 := by positivity
  rw [ofBits_c8, ofBits_16, Ideal.div_coe (y := 16) (by norm_num), ← EReal.coe_mul, Ideal.log_coe,
    if_neg (by rw [mul_one_div]; exact not_le.mpr hq), Ideal.div_coe hc.ne', ← EReal.coe_mul, ← EReal.coe_mul, mul_one_div, mul_one_div]
  have hL : (b : ℝ) * c8 ≤ 16 * Real.log ((d : ℝ) / 16) := by
    rcases h1 with h1 | h1
    · subst h1
      have := Real.log_nonneg (x := (d : ℝ) / 16) (by rw [le_div_iff₀ (by norm_num)]; linarith)
      simpa using this
    · refine log_ge d b (by omega) ?_
      have hp := Nat.pow_le_pow_left hlo 16
      have : 2 * b ≤ 1000 := by omega
      nlinarith
  have hU : 16 * Real.log ((d : ℝ) / 16) < ((b + 1 : ℕ) : ℝ) * c8 :=
    log_lt d (b + 1) (by omega) (by omega)
      (le_trans (Nat.add_le_add_right (Nat.mul_le_mul_right _ (Nat.pow_le_pow_left hhi 16)) _) h2)
  have hf : ⌊Real.log ((d : ℝ) / 16) / c8 * 16⌋ = (b : ℤ) := by
    rw [Int.floor_eq_iff]
    constructor
    · rw [div_mul_eq_mul_div, le_div_iff₀ hc]; push_cast; linarith
    · rw [div_mul_eq_mul_div, div_lt_iff₀ hc]; push_cast at hU ⊢; linarith
  have h0 : (0 : ℝ) ≤ Real.log ((d : ℝ) / 16) / c8 * 16 := by
    have : (0 : ℝ) ≤ b * c8 := by positivity
    rw [div_mul_eq_mul_div]; exact div_nonneg (by linarith) hc.le
  show BitVec.ofInt 32 (max _ (min _ (if 0 ≤ Real.log ((d : ℝ) / 16) / c8 * 16 then ⌊Real.log ((d : ℝ) / 16) / c8 * 16⌋ else _))) = _
  rw [if_pos h0, hf]
  interval_cases b <;> rfl

/-- The conversion of a small distance's word. -/
theorem sitofp_nat (d : ℕ) (hd : d < 128) :
    FloatOps.sitofp (F := Ideal) FTy.f32 (BitVec.ofNat 32 d) = (((d : ℝ)) : EReal) := by
  show (((BitVec.ofNat 32 d).toInt : ℝ) : EReal) = _
  have : (BitVec.ofNat 32 d).toInt = (d : ℤ) := by
    rw [BitVec.toInt_eq_toNat_of_lt (by rw [BitVec.toNat_ofNat]; omega), BitVec.toNat_ofNat]; omega
  rw [this]; norm_cast

/-- A distance of at least 16 between two thresholds has the bucket of the lower one. -/
theorem bucketWord_big (d lo hi b : ℕ) (hb : b < 16) (hlo : lo ≤ d) (hhi : d ≤ hi) (hd : 16 ≤ lo) (hh : hi < 128)
    (h1 : b = 0 ∨ 16 ^ 16 * 2 ^ (3 * b) * 1000 + lo ^ 16 * (2 * b) ≤ lo ^ 16 * 1000) (h2 : hi ^ 16 * 10000 + 16 ^ 16 * 2 ^ (3 * (b + 1)) * (11 * (b + 1)) ≤ 16 ^ 16 * 2 ^ (3 * (b + 1)) * 10000) :
    bucketWord (BitVec.ofNat 32 d) = BitVec.ofNat 32 (16 + b) := by
  have hd1 : 16 ≤ d := by omega
  have hd2 : d < 128 := by omega
  have hm : IntOp.maxsi (BitVec.ofNat 32 d) 0#32 = BitVec.ofNat 32 d := by clear hlo hhi; interval_cases d <;> rfl
  have hm1 : IntOp.maxsi (BitVec.ofNat 32 d) 1#32 = BitVec.ofNat 32 d := by clear hlo hhi; interval_cases d <;> rfl
  have hs : IntOp.cmpi CmpIPredicate.slt (BitVec.ofNat 32 d) 16#32 = 0#1 := by clear hlo hhi; interval_cases d <;> rfl
  unfold bucketWord
  dsimp only
  rw [hm, hm1, hs, select_zero, sitofp_nat d (by omega), fpto_log d lo hi b hb hlo hhi hd h1 h2]
  interval_cases b <;> rfl

/-- The bucket's word inside the window. -/
theorem bucketWord_eq (d : ℕ) (hd : d < 128) : bucketWord (BitVec.ofNat 32 d) = BitVec.ofNat 32 (bucketIx d).val := by
  rcases Nat.lt_or_ge d 16 with h | h
  · have hm : IntOp.maxsi (BitVec.ofNat 32 d) 0#32 = BitVec.ofNat 32 d := by interval_cases d <;> rfl
    have hs : IntOp.cmpi CmpIPredicate.slt (BitVec.ofNat 32 d) 16#32 = 1#1 := by interval_cases d <;> rfl
    unfold bucketWord
    dsimp only
    rw [hm, hs, select_one]
    interval_cases d <;> rfl
  rcases Nat.lt_or_ge d 19 with h0 | h0
  · exact (bucketWord_big d 16 18 0 (by omega) (by omega) (by omega) (by omega) (by omega) (Or.inl rfl) (by norm_num)).trans (by interval_cases d <;> rfl)
  rcases Nat.lt_or_ge d 21 with h1 | h1
  · exact (bucketWord_big d 19 20 1 (by omega) (by omega) (by omega) (by omega) (by omega) (Or.inr (by norm_num)) (by norm_num)).trans (by interval_cases d <;> rfl)
  rcases Nat.lt_or_ge d 24 with h2 | h2
  · exact (bucketWord_big d 21 23 2 (by omega) (by omega) (by omega) (by omega) (by omega) (Or.inr (by norm_num)) (by norm_num)).trans (by interval_cases d <;> rfl)
  rcases Nat.lt_or_ge d 27 with h3 | h3
  · exact (bucketWord_big d 24 26 3 (by omega) (by omega) (by omega) (by omega) (by omega) (Or.inr (by norm_num)) (by norm_num)).trans (by interval_cases d <;> rfl)
  rcases Nat.lt_or_ge d 31 with h4 | h4
  · exact (bucketWord_big d 27 30 4 (by omega) (by omega) (by omega) (by omega) (by omega) (Or.inr (by norm_num)) (by norm_num)).trans (by interval_cases d <;> rfl)
  rcases Nat.lt_or_ge d 35 with h5 | h5
  · exact (bucketWord_big d 31 34 5 (by omega) (by omega) (by omega) (by omega) (by omega) (Or.inr (by norm_num)) (by norm_num)).trans (by interval_cases d <;> rfl)
  rcases Nat.lt_or_ge d 40 with h6 | h6
  · exact (bucketWord_big d 35 39 6 (by omega) (by omega) (by omega) (by omega) (by omega) (Or.inr (by norm_num)) (by norm_num)).trans (by interval_cases d <;> rfl)
  rcases Nat.lt_or_ge d 46 with h7 | h7
  · exact (bucketWord_big d 40 45 7 (by omega) (by omega) (by omega) (by omega) (by omega) (Or.inr (by norm_num)) (by norm_num)).trans (by interval_cases d <;> rfl)
  rcases Nat.lt_or_ge d 52 with h8 | h8
  · exact (bucketWord_big d 46 51 8 (by omega) (by omega) (by omega) (by omega) (by omega) (Or.inr (by norm_num)) (by norm_num)).trans (by interval_cases d <;> rfl)
  rcases Nat.lt_or_ge d 59 with h9 | h9
  · exact (bucketWord_big d 52 58 9 (by omega) (by omega) (by omega) (by omega) (by omega) (Or.inr (by norm_num)) (by norm_num)).trans (by interval_cases d <;> rfl)
  rcases Nat.lt_or_ge d 67 with h10 | h10
  · exact (bucketWord_big d 59 66 10 (by omega) (by omega) (by omega) (by omega) (by omega) (Or.inr (by norm_num)) (by norm_num)).trans (by interval_cases d <;> rfl)
  rcases Nat.lt_or_ge d 77 with h11 | h11
  · exact (bucketWord_big d 67 76 11 (by omega) (by omega) (by omega) (by omega) (by omega) (Or.inr (by norm_num)) (by norm_num)).trans (by interval_cases d <;> rfl)
  rcases Nat.lt_or_ge d 87 with h12 | h12
  · exact (bucketWord_big d 77 86 12 (by omega) (by omega) (by omega) (by omega) (by omega) (Or.inr (by norm_num)) (by norm_num)).trans (by interval_cases d <;> rfl)
  rcases Nat.lt_or_ge d 99 with h13 | h13
  · exact (bucketWord_big d 87 98 13 (by omega) (by omega) (by omega) (by omega) (by omega) (Or.inr (by norm_num)) (by norm_num)).trans (by interval_cases d <;> rfl)
  rcases Nat.lt_or_ge d 113 with h14 | h14
  · exact (bucketWord_big d 99 112 14 (by omega) (by omega) (by omega) (by omega) (by omega) (Or.inr (by norm_num)) (by norm_num)).trans (by interval_cases d <;> rfl)
  exact (bucketWord_big d 113 127 15 (by omega) (by omega) (by omega) (by omega) (by omega) (Or.inr (by norm_num)) (by norm_num)).trans (by interval_cases d <;> rfl)

/-- The reference's bucket inside the window is the kernel's. -/
theorem bucketR_apply (p : Fin 128) (s : Fin 256) (h : p.val < s.val ∧ s.val ≤ p.val + 128) :
    bucketR (F := Ideal) (ix2 p s) = BitVec.ofNat 32 (bucketIx (p.val + 128 - s.val)).val := by
  rw [bucketR_word, dist_word p s h.2]
  exact bucketWord_eq _ (by omega)

end Cert.ReferenceIdeal.Hand

end
-- ==== Proof.AttnRefRead.lean ====
/- The attention's reference read at an index, at exact arithmetic, stage by stage. -/
module

public import proofs.«01_k».proof.Proof.AttnBucket

@[expose] public section

set_option maxRecDepth 16384
set_option maxHeartbeats 2000000

noncomputable section

namespace Cert.ReferenceIdeal.Hand

open Cert.ReferenceIdeal Cert.ReferenceIdeal.Gen Cert.ReferenceIdeal.Value Idealize.ShloMosaic Idealize.ShloMosaic.TcCoe Idealize.SL.Sem
open Cert.KernelIdeal.Hand (bucketIx dist_word band_word select_one select_zero)

/-! ### The reductions over the keys -/

theorem neg_inf : Ideal.ofBits .f32 0xFF800000#32 = (⊥ : EReal) := by simp [Ideal.ofBits, Ideal.ieee]

/-- The rank-6 indices whose first five coordinates are given. -/
theorem fiber6 (b : Fin 2) (t : Fin 32) (k g : Fin 4) (p : Fin 128) (i : S2x32x4x4x128x256.Idx) :
    reducesTo_S2x32x4x4x128x256_S2x32x4x4x128_d5.drop i = ix5 b t k g p ↔ ∃ s : Fin 256, ix6 b t k g p s = i := by
  constructor
  · intro e
    refine ⟨i 5, ?_⟩
    funext a; apply Fin.ext
    match a with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨s, rfl⟩
    funext a
    apply Fin.ext
    match a with
    | ⟨0, _⟩ => rfl
    | ⟨1, _⟩ => rfl
    | ⟨2, _⟩ => rfl
    | ⟨3, _⟩ => rfl
    | ⟨4, _⟩ => rfl

theorem sum6 (b : Fin 2) (t : Fin 32) (k g : Fin 4) (p : Fin 128) (E : FVec Ideal S2x32x4x4x128x256 .f32) (init : EReal) :
    Ideal.hostReduceAdd reducesTo_S2x32x4x4x128x256_S2x32x4x4x128_d5 E init (ix5 b t k g p) = init + ∑ s : Fin 256, E (ix6 b t k g p s) :=
  congrArg (init + ·) (Finset.sum_filter_eq_sum_of_fiber _ (fun s : Fin 256 => ix6 b t k g p s) (fun _ _ e => congrFun e 5)
    (fiber6 b t k g p) E)

/-- The maximum over the keys. -/
theorem max6 (b : Fin 2) (t : Fin 32) (k g : Fin 4) (p : Fin 128) (T : FVec Ideal S2x32x4x4x128x256 .f32) :
    Host.reduce (FloatOps.maximumf (F := Ideal) (φ := .f32)) T (constant S_ .f32 0xFF800000#32) reducesTo_S2x32x4x4x128x256_S2x32x4x4x128_d5 h_S_ (ix5 b t k g p)
      = Cert.KernelIdeal.Hand.rowMax (fun s => T (ix6 b t k g p s)) := by
  have e : Host.reduce (FloatOps.maximumf (F := Ideal) (φ := .f32)) T (constant S_ .f32 0xFF800000#32) reducesTo_S2x32x4x4x128x256_S2x32x4x4x128_d5 h_S_ (ix5 b t k g p)
      = (Finset.univ.filter (fun i => reducesTo_S2x32x4x4x128x256_S2x32x4x4x128_d5.drop i = ix5 b t k g p)).fold max
          (constant (F := Ideal) S_ .f32 0xFF800000#32 (Shape.Idx.first h_S_)) T := Host.reduce_eq_fold _ _ _ _ _ _
  rw [e, Finset.fold_filter_eq_fold_of_fiber max _ (fun s : Fin 256 => ix6 b t k g p s) (fun _ _ e => congrFun e 5)
    (fiber6 b t k g p)]
  unfold Cert.KernelIdeal.Hand.rowMax
  exact congrArg (fun z : EReal => Finset.fold max z (fun s : Fin 256 => T (ix6 b t k g p s)) Finset.univ) neg_inf

/-- The maximum with the sink. -/
theorem maxR_apply (T : FVec Ideal S2x32x4x4x128x256 .f32) (K : FVec Ideal S2x32x4x4x128x1 .f32)
    (b : Fin 2) (t : Fin 32) (k g : Fin 4) (p : Fin 128) :
    maxR T K (ix6 b t k g p 0) = max (Cert.KernelIdeal.Hand.rowMax (fun s => T (ix6 b t k g p s))) (K (ix6 b t k g p 0)) := by
  unfold maxR
  refine Eq.trans ?_ (congrArg (max · (K (ix6 b t k g p 0))) (max6 b t k g p T))
  rw [maximumf_apply]
  refine congrArg (max · (K (ix6 b t k g p 0))) ?_
  refine broadcastInDim_apply _ _ _ _ (ix5 b t k g p) fun a => ?_
  match a with
  | ⟨0, _⟩ => rfl
  | ⟨1, _⟩ => rfl
  | ⟨2, _⟩ => rfl
  | ⟨3, _⟩ => rfl
  | ⟨4, _⟩ => rfl

theorem expR_apply (T : FVec Ideal S2x32x4x4x128x256 .f32) (M : FVec Ideal S2x32x4x4x128x1 .f32)
    (b : Fin 2) (t : Fin 32) (k g : Fin 4) (p : Fin 128) (s : Fin 256) :
    expR T M (ix6 b t k g p s) = Ideal.exp (T (ix6 b t k g p s) - M (ix6 b t k g p 0)) := by
  pointwise [expR]

theorem probR_apply (E : FVec Ideal S2x32x4x4x128x256 .f32) (K M : FVec Ideal S2x32x4x4x128x1 .f32)
    (b : Fin 2) (t : Fin 32) (k g : Fin 4) (p : Fin 128) (s : Fin 256) :
    probR E K M (ix6 b t k g p s)
      = Ideal.div (E (ix6 b t k g p s)) (∑ s : Fin 256, E (ix6 b t k g p s) + Ideal.exp (K (ix6 b t k g p 0) - M (ix6 b t k g p 0))) := by
  obtain ⟨R, hR⟩ : ∃ R : EReal, R = Ideal.div (E (ix6 b t k g p s)) (∑ s : Fin 256, E (ix6 b t k g p s) + Ideal.exp (K (ix6 b t k g p 0) - M (ix6 b t k g p 0))) := ⟨_, rfl⟩
  rw [← hR]
  pointwise [probR]
  rw [sum6, zero_add]
  exact hR.symm

/-! ### The logits -/

theorem sinkR_apply (A1 : FVec Ideal S1x16 .f32) (b : Fin 2) (t : Fin 32) (k g : Fin 4) (p : Fin 128) :
    sinkR A1 (ix6 b t k g p 0) = A1 (ix2 0 ⟨k.val * 4 + g.val, by omega⟩) := by
  pointwise [sinkR]

theorem qR_apply (X : FVec Ideal S8192x9216 .bf16) (b : Fin 2) (t : Fin 32) (p : Fin 128) (k g : Fin 4) (x : Fin 64) :
    qR X (ix6 b t p k g x) = X (ix2 ⟨b.val * 4096 + (t.val * 128 + p.val), by omega⟩ ⟨4096 + ((k.val * 4 + g.val) * 64 + x.val), by omega⟩)
      * Cert.KernelIdeal.Hand.eighth := by
  obtain ⟨R, hR⟩ : ∃ R : EReal, R = X (ix2 ⟨b.val * 4096 + (t.val * 128 + p.val), by omega⟩ ⟨4096 + ((k.val * 4 + g.val) * 64 + x.val), by omega⟩)
      * Cert.KernelIdeal.Hand.eighth := ⟨_, rfl⟩
  rw [← hR]
  pointwise [qR]
  exact hR.symm

theorem scoreR_apply (K : FVec Ideal S2x32x256x4x64 .f32) (Q : FVec Ideal S2x32x128x4x4x64 .f32) (b : Fin 2) (t : Fin 32)
    (k g : Fin 4) (p : Fin 128) (s : Fin 256) :
    scoreR K Q (ix6 b t k g p s) = ∑ x : Fin 64, K (ix5 b t s k x) * Q (ix6 b t p k g x) := by
  pointwise [scoreR]

/-- The gather's row is its index's word, where the word is a row. -/
theorem gather_row3 (A2 : FVec Ideal S32x16 .f32) (B : IVec S128x256x1 32) (p : Fin 128) (s : Fin 256) (h : Fin 16) (r : Fin 32)
    (hB : B (ix3 p s 0) = BitVec.ofNat 32 r.val) :
    Host.gather gather_S32x16_S128x256x1_S128x256x16_2_0_n_n_0_2_116 A2 B (ix3 p s h) = A2 (ix2 r h) := by
  unfold Host.gather
  refine congrArg A2 (funext fun a => Fin.ext ?_)
  show (gather_S32x16_S128x256x1_S128x256x16_2_0_n_n_0_2_116).start (ix3 p s h) B a
    + (gather_S32x16_S128x256x1_S128x256x16_2_0_n_n_0_2_116).batchCoord (ix3 p s h) a
    + (gather_S32x16_S128x256x1_S128x256x16_2_0_n_n_0_2_116).offCoord (ix3 p s h) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S32x16_S128x256x1_S128x256x16_2_0_n_n_0_2_116).startIndexMap from List.mem_singleton.mpr rfl)]
    have hsi : (gather_S32x16_S128x256x1_S128x256x16_2_0_n_n_0_2_116).siIdx (ix3 p s h)
        ⟨List.idxOf (0 : Fin 2) (gather_S32x16_S128x256x1_S128x256x16_2_0_n_n_0_2_116).startIndexMap,
        List.idxOf_lt_length_iff.2 (List.mem_singleton.mpr rfl)⟩ = ix3 p s 0 := by
      funext b; refine Fin.ext ?_
      match b with
      | ⟨0, _⟩ => rfl
      | ⟨1, _⟩ => rfl
      | ⟨2, _⟩ => rfl
    rw [hsi, hB]
    show min (BitVec.ofNat 32 r.val).toInt.toNat 31 = r.val
    have hr := r.isLt
    rw [BitVec.toInt_eq_toNat_of_lt (by rw [BitVec.toNat_ofNat]; omega), BitVec.toNat_ofNat]
    omega
  · rw [GatherDims.batchCoord_eq_zero _ _ _ List.not_mem_nil]
    unfold GatherDims.start GatherDims.offCoord
    rw [dif_neg (by show ¬ (1 : Fin 2) ∈ [0]; decide), dif_pos (by decide)]
    show 0 + 0 + h.val = h.val
    omega

theorem biasR_apply (B : IVec S128x256 32) (A2 : FVec Ideal S32x16 .f32) (b : Fin 2) (t : Fin 32) (k g : Fin 4) (p : Fin 128)
    (s : Fin 256) (r : Fin 32) (hB : B (ix2 p s) = BitVec.ofNat 32 r.val) :
    biasR B A2 (ix6 b t k g p s) = A2 (ix2 r ⟨k.val * 4 + g.val, by omega⟩) := by
  obtain ⟨R, hR⟩ : ∃ R : EReal, R = A2 (ix2 r ⟨k.val * 4 + g.val, by omega⟩) := ⟨_, rfl⟩
  rw [← hR]
  pointwise [biasR]
  refine (gather_row3 A2 _ p s _ r ?_).trans hR.symm
  refine Eq.trans ?_ hB
  pointwise []

/-- Which keys a row sees: the window, and the rows that exist. -/
theorem maskR_apply (b : Fin 2) (t : Fin 32) (k g : Fin 4) (p : Fin 128) (s : Fin 256) :
    maskR (ix6 b t k g p s) = if (p.val < s.val ∧ s.val ≤ p.val + 128) ∧ 128 ≤ t.val * 128 + s.val then 1#1 else 0#1 := by
  obtain ⟨R, hR⟩ : ∃ R : BitVec 1, R = if (p.val < s.val ∧ s.val ≤ p.val + 128) ∧ 128 ≤ t.val * 128 + s.val then 1#1 else 0#1 := ⟨_, rfl⟩
  rw [← hR]
  pointwise [maskR, distR]
  simp only [IntOp.andi, IntOp.subi, IntOp.addi, IntOp.muli]
  rw [band_word, hR]
  have e : IntOp.cmpi CmpIPredicate.sge (BitVec.ofNat 32 t.val * 128#32 + BitVec.ofNat 32 s.val - 128#32) 0#32
      = if 128 ≤ t.val * 128 + s.val then 1#1 else 0#1 := by
    have ht := t.isLt
    have hs := s.isLt
    have e2 : BitVec.ofNat 32 t.val * 128#32 + BitVec.ofNat 32 s.val = BitVec.ofNat 32 (t.val * 128 + s.val) := by
      apply BitVec.eq_of_toNat_eq
      simp only [BitVec.toNat_add, BitVec.toNat_mul, BitVec.toNat_ofNat]
      omega
    have e1 : (BitVec.ofNat 32 t.val * 128#32 + BitVec.ofNat 32 s.val - 128#32).toInt = (t.val * 128 + s.val : ℤ) - 128 := by
      rw [e2, BitVec.toInt_eq_toNat_cond]
      simp only [BitVec.toNat_sub, BitVec.toNat_ofNat]
      split <;> omega
    unfold IntOp.cmpi
    simp only [BitVec.sle, e1]
    by_cases h : 128 ≤ t.val * 128 + s.val
    · rw [if_pos h, decide_eq_true (by show (0 : ℤ) ≤ _; omega)]; rfl
    · rw [if_neg h, decide_eq_false (by show ¬ (0 : ℤ) ≤ _; omega)]; rfl
  rw [e]
  by_cases h1 : p.val < s.val ∧ s.val ≤ p.val + 128 <;> by_cases h2 : 128 ≤ t.val * 128 + s.val
  · rw [if_pos h1, if_pos h2, if_pos ⟨h1, h2⟩]; rfl
  · rw [if_pos h1, if_neg h2, if_neg (fun h => h2 h.2)]; rfl
  · rw [if_neg h1, if_pos h2, if_neg (fun h => h1 h.1)]; rfl
  · rw [if_neg h1, if_neg h2, if_neg (fun h => h1 h.1)]; rfl

theorem logitR_apply (S B : FVec Ideal S2x32x4x4x128x256 .f32) (b : Fin 2) (t : Fin 32) (k g : Fin 4) (p : Fin 128) (s : Fin 256) :
    logitR S B (ix6 b t k g p s) = if (p.val < s.val ∧ s.val ≤ p.val + 128) ∧ 128 ≤ t.val * 128 + s.val
      then S (ix6 b t k g p s) + B (ix6 b t k g p s) else (⊥ : EReal) := by
  obtain ⟨R, hR⟩ : ∃ R : EReal, R = if (p.val < s.val ∧ s.val ≤ p.val + 128) ∧ 128 ≤ t.val * 128 + s.val
      then S (ix6 b t k g p s) + B (ix6 b t k g p s) else (⊥ : EReal) := ⟨_, rfl⟩
  rw [← hR]
  pointwise [logitR]
  rw [maskR_apply, hR]
  split
  · rfl
  · exact neg_inf

/-! ### Keys, values and the result -/

/-- A key's or a value's element in a block's window: zero before the batch's first row. -/
def winR (A0 : FVec Ideal S8192x9216 .bf16) (off : ℕ) (ho : off + 256 ≤ 9216) (b : Fin 2) (t : Fin 32) (k : Fin 4) (s : Fin 256) (x : Fin 64) : EReal :=
  if h : 128 ≤ t.val * 128 + s.val then
    A0 (ix2 ⟨b.val * 4096 + (t.val * 128 + s.val - 128), by omega⟩ ⟨off + (k.val * 64 + x.val), by omega⟩)
  else 0

theorem pairR_apply (X : FVec Ideal S8192x256 .f32) (b : Fin 2) (t : Fin 32) (s : Fin 256) (k : Fin 4) (x : Fin 64) :
    pairR X (ix5 b t s k x) = if h : 128 ≤ t.val * 128 + s.val then
      X (ix2 ⟨b.val * 4096 + (t.val * 128 + s.val - 128), by omega⟩ ⟨k.val * 64 + x.val, by omega⟩) else (0 : EReal) := by
  have hz : (FloatOps.sitofp (F := Ideal) FTy.f32 0#32) = (0 : EReal) := by
    show (((0#32 : BitVec 32).toInt : ℝ) : EReal) = 0
    simp
  obtain ⟨R, hR⟩ : ∃ R : EReal, R = if h : 128 ≤ t.val * 128 + s.val then
      X (ix2 ⟨b.val * 4096 + (t.val * 128 + s.val - 128), by omega⟩ ⟨k.val * 64 + x.val, by omega⟩) else (0 : EReal) := ⟨_, rfl⟩
  rw [← hR]
  pointwise [pairR]
  rw [hR]
  have ht := t.isLt
  have hs := s.isLt
  by_cases h : s.val < 128
  · rw [dif_pos h]
    by_cases h2 : 128 ≤ t.val * 128 + s.val
    · rw [dif_pos h2, dif_pos ⟨h2, by omega⟩]
    · rw [dif_neg h2, dif_neg (fun h => h2 h.1)]; exact hz
  · rw [dif_neg h, dif_pos (by omega), dif_pos (by omega)]
    refine congrArg X (congrArg₂ ix2 (Fin.ext ?_) rfl)
    show b.val * 4096 + ((1 + t.val) * 128 + (s.val - 128) - 128) = b.val * 4096 + (t.val * 128 + s.val - 128)
    omega

theorem keysR_apply (A0 : FVec Ideal S8192x9216 .bf16) (r : Fin 8192) (n : Fin 256) : keysR A0 (ix2 r n) = A0 (ix2 r ⟨5120 + n.val, by omega⟩) := by
  pointwise [keysR]

theorem valsR_apply (A0 : FVec Ideal S8192x9216 .bf16) (r : Fin 8192) (n : Fin 256) : valsR A0 (ix2 r n) = A0 (ix2 r ⟨5376 + n.val, by omega⟩) := by
  pointwise [valsR]

theorem winKeys (A0 : FVec Ideal S8192x9216 .bf16) (b : Fin 2) (t : Fin 32) (s : Fin 256) (k : Fin 4) (x : Fin 64) :
    pairR (keysR A0) (ix5 b t s k x) = winR A0 5120 (by omega) b t k s x := by
  rw [pairR_apply]
  unfold winR
  refine dite_congr rfl (fun h => ?_) (fun h => rfl)
  exact keysR_apply A0 _ _

theorem winVals (A0 : FVec Ideal S8192x9216 .bf16) (b : Fin 2) (t : Fin 32) (s : Fin 256) (k : Fin 4) (x : Fin 64) :
    pairR (valsR A0) (ix5 b t s k x) = winR A0 5376 (by omega) b t k s x := by
  rw [pairR_apply]
  unfold winR
  refine dite_congr rfl (fun h => ?_) (fun h => rfl)
  exact valsR_apply A0 _ _

/-- A row's masked logits. -/
def logitRow (A0 : FVec Ideal S8192x9216 .bf16) (A2 : FVec Ideal S32x16 .f32) (b : Fin 2) (t : Fin 32) (k g : Fin 4) (p : Fin 128) (s : Fin 256) : EReal :=
  if (p.val < s.val ∧ s.val ≤ p.val + 128) ∧ 128 ≤ t.val * 128 + s.val then
    (∑ x : Fin 64, winR A0 5120 (by omega) b t k s x * (A0 (ix2 ⟨b.val * 4096 + (t.val * 128 + p.val), by omega⟩
        ⟨4096 + ((k.val * 4 + g.val) * 64 + x.val), by omega⟩) * Cert.KernelIdeal.Hand.eighth))
      + A2 (ix2 (bucketIx (p.val + 128 - s.val)) ⟨k.val * 4 + g.val, by omega⟩)
  else ⊥

/-- A row of the softmax with the sink: the sum of the weighted values. -/
def sinkRow (t v : Fin 256 → EReal) (z : EReal) : EReal :=
  ∑ s, v s * Ideal.div (Ideal.exp (t s - max (Cert.KernelIdeal.Hand.rowMax t) z))
    (∑ s, Ideal.exp (t s - max (Cert.KernelIdeal.Hand.rowMax t) z) + Ideal.exp (z - max (Cert.KernelIdeal.Hand.rowMax t) z))

theorem logit_row (A0 : FVec Ideal S8192x9216 .bf16) (A2 : FVec Ideal S32x16 .f32) (b : Fin 2) (t : Fin 32) (k g : Fin 4) (p : Fin 128) (s : Fin 256) :
    logitR (scoreR (pairR (keysR A0)) (qR A0)) (biasR (bucketR (F := Ideal)) A2) (ix6 b t k g p s) = logitRow A0 A2 b t k g p s := by
  rw [logitR_apply]
  unfold logitRow
  refine ite_congr rfl (fun h => ?_) (fun h => rfl)
  rw [scoreR_apply, biasR_apply _ A2 b t k g p s (bucketIx (p.val + 128 - s.val)) (bucketR_apply p s h.1)]
  refine congrArg (· + _) (Finset.sum_congr rfl fun x _ => ?_)
  rw [winKeys, qR_apply]

theorem outR_apply (V : FVec Ideal S2x32x256x4x64 .f32) (P : FVec Ideal S2x32x4x4x128x256 .f32) (b : Fin 2) (t : Fin 32) (k g : Fin 4)
    (p : Fin 128) (x : Fin 64) (r : Fin 8192) (n : Fin 1024) (hr : r.val = b.val * 4096 + (t.val * 128 + p.val))
    (hn : n.val = (k.val * 4 + g.val) * 64 + x.val) :
    outR V P (ix2 r n) = ∑ s, V (ix5 b t s k x) * P (ix6 b t k g p s) := by
  obtain ⟨R, hR⟩ : ∃ R : EReal, R = ∑ s, V (ix5 b t s k x) * P (ix6 b t k g p s) := ⟨_, rfl⟩
  rw [← hR]
  pointwise [outR]
  rw [hR]
  refine Finset.sum_congr rfl fun s _ => ?_
  have e1 : (⟨r.val / 4096, by omega⟩ : Fin 2) = b := Fin.ext (by show r.val / 4096 = b.val; omega)
  have e2 : (⟨r.val / 128 % 32, by omega⟩ : Fin 32) = t := Fin.ext (by show r.val / 128 % 32 = t.val; omega)
  have e3 : (⟨n.val / 256, by omega⟩ : Fin 4) = k := Fin.ext (by show n.val / 256 = k.val; omega)
  have e4 : (⟨n.val / 64 % 4, by omega⟩ : Fin 4) = g := Fin.ext (by show n.val / 64 % 4 = g.val; omega)
  have e5 : (⟨n.val % 64, by omega⟩ : Fin 64) = x := Fin.ext (by show n.val % 64 = x.val; omega)
  have e6 : (⟨r.val % 128, by omega⟩ : Fin 128) = p := Fin.ext (by show r.val % 128 = p.val; omega)
  rw [e1, e2, e3, e4, e5, e6]

/-- The reference's element: the row's softmax with the head's sink over the window's values. -/
theorem refResult_apply (A0 : FVec Ideal S8192x9216 .bf16) (A1 : FVec Ideal S1x16 .f32) (A2 : FVec Ideal S32x16 .f32) (b : Fin 2) (t : Fin 32)
    (k g : Fin 4) (p : Fin 128) (x : Fin 64) (r : Fin 8192) (n : Fin 1024) (hr : r.val = b.val * 4096 + (t.val * 128 + p.val))
    (hn : n.val = (k.val * 4 + g.val) * 64 + x.val) :
    refResult A0 A1 A2 (ix2 r n) = sinkRow (logitRow A0 A2 b t k g p) (fun s => winR A0 5376 (by omega) b t k s x)
      (A1 (ix2 0 ⟨k.val * 4 + g.val, by omega⟩)) := by
  unfold refResult
  rw [outR_apply _ _ b t k g p x r n hr hn]
  unfold sinkRow
  have hM := maxR_apply (logitR (scoreR (pairR (keysR A0)) (qR A0)) (biasR (bucketR (F := Ideal)) A2)) (sinkR A1) b t k g p
  have hT : (fun s => logitR (scoreR (pairR (keysR A0)) (qR A0)) (biasR (bucketR (F := Ideal)) A2) (ix6 b t k g p s)) = logitRow A0 A2 b t k g p :=
    funext fun s => logit_row A0 A2 b t k g p s
  rw [hT, sinkR_apply] at hM
  refine Finset.sum_congr rfl fun s _ => ?_
  rw [winVals, probR_apply]
  simp only [expR_apply]
  rw [hM, sinkR_apply]
  simp only [logit_row]

end Cert.ReferenceIdeal.Hand

end
-- ==== Proof.AttnMath.lean ====
/- A softmax row with a sink, two ways: the sink as the score of a column whose value is zero, and the sink beside the scores. -/
module

public import proofs.«01_k».proof.Proof.AttnRefRead

@[expose] public section

set_option maxRecDepth 16384
set_option maxHeartbeats 2000000

noncomputable section

namespace Cert.KernelIdeal.Hand

open Idealize.ShloMosaic
open Cert.ReferenceIdeal.Hand (sinkRow)

/-- A nonnegative real factor distributes over a sum of extended reals. -/
theorem sum_mul_real {ι : Type} (S : Finset ι) (f : ι → EReal) (c : ℝ) (hc : 0 ≤ c) : (∑ s ∈ S, f s) * (c : EReal) = ∑ s ∈ S, f s * (c : EReal) := by
  classical
  induction S using Finset.induction_on with
  | empty => simp
  | insert a S ha ih =>
    rw [Finset.sum_insert ha, Finset.sum_insert ha, ← ih, mul_comm, EReal.left_distrib_of_nonneg_of_ne_top (by exact_mod_cast hc) (EReal.coe_ne_top c),
      mul_comm (c : EReal), mul_comm (c : EReal)]

/-- A sum of reals is real. -/
theorem sum_coe {ι : Type} (S : Finset ι) (f : ι → ℝ) : (∑ s ∈ S, ((f s : ℝ) : EReal)) = ((∑ s ∈ S, f s : ℝ) : EReal) := by
  classical
  induction S using Finset.induction_on with
  | empty => simp
  | insert a S ha ih => rw [Finset.sum_insert ha, Finset.sum_insert ha, ih, EReal.coe_add]

/-- The exponential of a score below the maximum, as a real. -/
theorem exp_real (a : EReal) (ha : a ≠ ⊤) (m : ℝ) : ∃ r : ℝ, 0 ≤ r ∧ Ideal.exp (a - (m : EReal)) = (r : EReal) := by
  induction a with
  | bot => exact ⟨0, le_refl _, by rw [EReal.bot_sub]; rfl⟩
  | top => exact absurd rfl ha
  | coe a => exact ⟨Real.exp (a - m), (Real.exp_pos _).le, by rw [← EReal.coe_sub]; rfl⟩

/-- The two rows are equal where the sink is real and no score is infinite. -/
theorem attn_eq (t t' v v' : Fin 256 → EReal) (z : ℝ) (h0 : t 0 = ⊥) (ht : ∀ s, t s ≠ ⊤) (ht' : ∀ s, t' s = if s.val = 0 then (z : EReal) else t s)
    (hv0 : v' 0 = 0) (hv : ∀ s, s.val ≠ 0 → t s ≠ ⊥ → v' s = v s) : attnRow t' v' = sinkRow t v z := by
  have hm : rowMax t' = max (rowMax t) z := by
    unfold rowMax
    apply le_antisymm
    · rw [Finset.fold_max_le]
      refine ⟨bot_le, fun s _ => ?_⟩
      rw [ht' s]
      split
      · exact le_max_right _ _
      · exact le_max_of_le_left ((Finset.fold_max_le _).mp (le_refl _) |>.2 s (Finset.mem_univ s))
    · refine max_le ?_ ?_
      · rw [Finset.fold_max_le]
        refine ⟨bot_le, fun s _ => ?_⟩
        by_cases hs : s.val = 0
        · rw [show s = 0 from Fin.ext hs, h0]; exact bot_le
        · have := (Finset.fold_max_le _).mp (le_refl (Finset.univ.fold max ⊥ t')) |>.2 s (Finset.mem_univ s)
          rwa [ht' s, if_neg hs] at this
      · have := (Finset.fold_max_le _).mp (le_refl (Finset.univ.fold max ⊥ t')) |>.2 0 (Finset.mem_univ 0)
        rw [ht' 0] at this; exact (if_pos (rfl : (0 : Fin 256).val = 0)).symm.le.trans this
  have hreal : ∃ m : ℝ, max (rowMax t) (z : EReal) = (m : EReal) := by
    have h1 : max (rowMax t) (z : EReal) ≠ ⊤ := by
      have : rowMax t < ⊤ := by
        unfold rowMax
        rw [Finset.fold_max_lt]
        exact ⟨bot_lt_top, fun s _ => lt_top_iff_ne_top.mpr (ht s)⟩
      exact (max_lt this (EReal.coe_lt_top z)).ne
    have h2 : max (rowMax t) (z : EReal) ≠ ⊥ := fun h => absurd (h ▸ le_max_right (rowMax t) (z : EReal)) (not_le.mpr (EReal.bot_lt_coe z))
    exact ⟨_, (EReal.coe_toReal h1 h2).symm⟩
  obtain ⟨m, hmr⟩ := hreal
  unfold attnRow sinkRow
  rw [hm, hmr]
  choose e he0 he using fun s => exp_real (t s) (ht s) m
  have he00 : e 0 = 0 := by
    have := he 0
    rw [h0, EReal.bot_sub] at this
    exact EReal.coe_eq_zero.mp this.symm
  have hz : Ideal.exp ((z : EReal) - (m : EReal)) = ((Real.exp (z - m) : ℝ) : EReal) := by rw [← EReal.coe_sub]; rfl
  have he' : ∀ s, Ideal.exp (t' s + -(m : EReal)) = ((e s + (if s = 0 then Real.exp (z - m) else 0) : ℝ) : EReal) := fun s => by
    rw [← sub_eq_add_neg, ht' s]
    by_cases hs : s.val = 0
    · have : s = 0 := Fin.ext hs
      rw [if_pos hs, if_pos this, this, he00, zero_add, hz]
    · have : s ≠ 0 := fun h => hs (congrArg Fin.val h)
      rw [if_neg hs, if_neg this, add_zero, he s]
  simp only [he', he, hz]
  have hD : (∑ s : Fin 256, ((e s + (if s = 0 then Real.exp (z - m) else 0) : ℝ) : EReal)) = ((∑ s, e s + Real.exp (z - m) : ℝ) : EReal) := by
    rw [sum_coe, Finset.sum_add_distrib, Finset.sum_ite_eq' Finset.univ (0 : Fin 256), if_pos (Finset.mem_univ _)]
  have hpos : 0 < ∑ s, e s + Real.exp (z - m) := add_pos_of_nonneg_of_pos (Finset.sum_nonneg fun s _ => he0 s) (Real.exp_pos _)
  rw [hD, sum_coe, ← EReal.coe_add, Ideal.div_coe hpos.ne', sum_mul_real _ _ _ (by positivity)]
  refine Finset.sum_congr rfl fun s _ => ?_
  rw [Ideal.div_coe hpos.ne']
  by_cases hs : s = 0
  · rw [hs, hv0, he00]; simp
  · rw [if_neg hs, add_zero]
    by_cases hb : t s = ⊥
    · have : e s = 0 := by
        have := he s
        rw [hb, EReal.bot_sub] at this
        exact EReal.coe_eq_zero.mp this.symm
      rw [this]; simp
    · rw [hv s (fun h => hs (Fin.ext h)) hb, mul_comm ((e s : ℝ) : EReal), mul_assoc]

end Cert.KernelIdeal.Hand

end
-- ==== Proof.AttnPoint.lean ====
/- What a point of the call leaves in its block of the attention's output (`out_A`, `out_B`, `out_C`: its first point, a
   batch's later ones, the second batch's first), and the table of biases it leaves for the points after it (`table_A`). -/
module

public import proofs.«01_k».proof.Proof.AttnMath

@[expose] public section

set_option maxRecDepth 16384
set_option maxHeartbeats 2000000

noncomputable section

namespace Cert.KernelIdeal.Hand

open Cert.KernelIdeal Cert.KernelIdeal.Gen Idealize.ShloMosaic Idealize.ShloMosaic.TcCoe Idealize.SL.Sem

/-- Tile `(s, j)` of a point's block: sub-block `s`'s 128 rows, heads `2j` and `2j+1`, from the point's rows `Q` of the
    projection, the 128 rows `P` before them and the table `W` of biases. -/
def pointTile (i : grid0.Coords) (Q : Vec Ideal S512x4736 .bf16) (P : Vec Ideal S128x512 .bf16) (W : Vec Ideal S2x16x128x256 .f32)
    (s : Fin 4) (j : Fin 8) : Vec Ideal S128x128 .bf16 :=
  match s with
  | 0 => subOut j (qTile Q 0) (kPrev P) (kTile Q 0) (vPrev P) (vTile Q 0) (biasFirst i W)
  | 1 => subOut j (qTile Q 1) (kTile Q 0) (kTile Q 1) (vTile Q 0) (vTile Q 1) (biasAt W 0)
  | 2 => subOut j (qTile Q 2) (kTile Q 1) (kTile Q 2) (vTile Q 1) (vTile Q 2) (biasAt W 0)
  | 3 => subOut j (qTile Q 3) (kTile Q 2) (kTile Q 3) (vTile Q 2) (vTile Q 3) (biasAt W 0)

/-- A point's block: its 32 tiles. -/
def pointOut (i : grid0.Coords) (Q : Vec Ideal S512x4736 .bf16) (P : Vec Ideal S128x512 .bf16) (W : Vec Ideal S2x16x128x256 .f32) :
    Vec Ideal S512x1024 .bf16 := fun y =>
  pointTile i Q P W ⟨(y 0).val / 128, by have := (y 0).isLt; change (y 0).val < 512 at this; omega⟩
    ⟨(y 1).val / 128, by have := (y 1).isLt; change (y 1).val < 1024 at this; omega⟩
    (ix2 ⟨(y 0).val % 128, by omega⟩ ⟨(y 1).val % 128, by omega⟩)

/-- A tile is its rectangle of the block. -/
theorem tile_piece (i : grid0.Coords) (Q : Vec Ideal S512x4736 .bf16) (P : Vec Ideal S128x512 .bf16) (W : Vec Ideal S2x16x128x256 .f32)
    (s : Fin 4) (j : Fin 8) (inb) (x : (Rect.unit (s := S512x1024) ![128 * s.val, 128 * j.val] S128x128.size inb).shape.Idx) :
    pointTile i Q P W s j x
      = pointOut i Q P W ((Rect.unit (s := S512x1024) ![128 * s.val, 128 * j.val] S128x128.size inb).emb x) := by
  have h0 : (x 0).val < 128 := (x 0).isLt
  have h1 : (x 1).val < 128 := (x 1).isLt
  have e0 : ((Rect.unit (s := S512x1024) ![128 * s.val, 128 * j.val] S128x128.size inb).emb x 0).val = 128 * s.val + 1 * (x 0).val := rfl
  have e1 : ((Rect.unit (s := S512x1024) ![128 * s.val, 128 * j.val] S128x128.size inb).emb x 1).val = 128 * j.val + 1 * (x 1).val := rfl
  unfold pointOut
  have a : ∀ (s' : Fin 4) (j' : Fin 8) (p n : Fin 128), s' = s → j' = j → p.val = (x 0).val → n.val = (x 1).val →
      pointTile i Q P W s j x = pointTile i Q P W s' j' (ix2 p n) := by
    rintro s' j' p n rfl rfl hp hn
    refine congrArg _ (funext fun a => Fin.ext ?_)
    match a with
    | ⟨0, _⟩ => exact hp.symm
    | ⟨1, _⟩ => exact hn.symm
  refine a _ _ _ _ (Fin.ext ?_) (Fin.ext ?_) ?_ ?_
  · show _ / 128 = s.val; rw [e0]; omega
  · show _ / 128 = j.val; rw [e1]; omega
  · show _ % 128 = (x 0).val; rw [e0]; omega
  · show _ % 128 = (x 1).val; rw [e1]; omega

section A

variable
    (c : Dev nD) (i : grid0.Coords) (arg2 : Memref sig .tc .vmem S512x4736 .bf16) (harg2 : arg2.IsWhole) (arg3 : Memref sig .tc .vmem S128x512 .bf16)
    (harg3 : arg3.IsWhole) (arg4 : Memref sig .tc .smem S1x16 .f32) (harg4 : arg4.IsWhole) (arg5 : Memref sig .tc .smem S16x32 .f32)
    (harg5 : arg5.IsWhole) (arg6 : Memref sig .tc .vmem S16x512 .f32) (harg6 : arg6.IsWhole) (arg7 : Memref sig .tc .vmem S1x512 .f32)
    (harg7 : arg7.IsWhole) (arg8 : Memref sig .tc .vmem S1x256 .f32) (harg8 : arg8.IsWhole) (arg9 : Memref sig .tc .vmem S64x2048 .f32)
    (harg9 : arg9.IsWhole) (arg10 : Memref sig .tc .vmem S64x2048 .f32) (harg10 : arg10.IsWhole) (arg11 : Memref sig .tc .vmem S128x2048 .f32)
    (harg11 : arg11.IsWhole) (arg12 : Memref sig .tc .vmem S128x5632 .f32) (harg12 : arg12.IsWhole) (arg13 : Memref sig .tc .vmem S128x5632 .f32)
    (harg13 : arg13.IsWhole) (arg14 : Memref sig .tc .vmem S352x2048 .f32) (harg14 : arg14.IsWhole) (arg15 : Memref sig .tc .vmem S512x1024 .bf16)
    (harg15 : arg15.IsWhole) (arg16 : Memref sig .tc .vmem S512x1024 .bf16) (harg16 : arg16.IsWhole) (arg17 : Memref sig .tc .vmem S64x2048 .bf16)
    (harg17 : arg17.IsWhole) (arg18 : Memref sig .tc .vmem S64x2048 .bf16) (harg18 : arg18.IsWhole) (arg19 : Memref sig .tc .vmem S128x2048 .bf16)
    (harg19 : arg19.IsWhole) (arg20 : Memref sig .tc .vmem S128x5632 .bf16) (harg20 : arg20.IsWhole) (arg21 : Memref sig .tc .vmem S128x5632 .bf16)
    (harg21 : arg21.IsWhole) (arg22 : Memref sig .tc .vmem S352x2048 .bf16) (harg22 : arg22.IsWhole) (arg23 : Memref sig .tc .vmem S2x16x128x256 .f32)
    (harg23 : arg23.IsWhole) (arg24 : Memref sig .tc .vmem S4x128x256 .f32) (harg24 : arg24.IsWhole) (hc0 : cond0_0 i) (hc1 : cond0_1 i)
    (x0 : Vec Ideal S512x4736 .bf16) (x1 : Vec Ideal S128x512 .bf16) (x2 : Vec Ideal S1x16 .f32) (x3 : Vec Ideal S16x32 .f32)
    (x4 : Vec Ideal S16x512 .f32) (x5 : Vec Ideal S1x512 .f32) (x6 : Vec Ideal S1x256 .f32) (x7 : Vec Ideal S64x2048 .f32)
    (x8 : Vec Ideal S64x2048 .f32) (x9 : Vec Ideal S128x2048 .f32) (x10 : Vec Ideal S128x5632 .f32) (x11 : Vec Ideal S128x5632 .f32)
    (x12 : Vec Ideal S352x2048 .f32)

/-- The table the call's first point leaves. -/
theorem table_A : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 = biasTable x2 x3 := by
  unfold sout0_A_0
  have hc : ∀ y, ∃ pc ∈ kernelRun0_A.sl.HS0_32 c arg4 harg4 arg5 harg5 x2 x3, y ∈ pc.1.set :=
    scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12)]
  refine (table_canon c arg4 harg4 arg5 harg5 x2 x3 hc).trans ?_
  rw [harg4.read_unread, harg5.read_unread]

/-- The block of the call's first point. -/
theorem out_A : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12
    = pointOut i x0 x1 (biasTable x2 x3) := by
  have hp : pointOut i (arg2.view.read (Elt Ideal) (harg2.unread x0)) (arg3.view.read (Elt Ideal) (harg3.unread x1))
      (arg23.view.read (Elt Ideal) (arg23.view.writes (Elt Ideal) arg23.view.junk (kernelRun0_A.sl.HS0_32 c arg4 harg4 arg5 harg5 x2 x3)))
      = pointOut i x0 x1 (biasTable x2 x3) := by
    have hc : ∀ y, ∃ pc ∈ kernelRun0_A.sl.HS0_32 c arg4 harg4 arg5 harg5 x2 x3, y ∈ pc.1.set :=
      scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12
    rw [View.read_writes_eq_canon _ _ _ hc, table_canon c arg4 harg4 arg5 harg5 x2 x3 hc]
    rw [harg2.read_unread, harg3.read_unread, harg4.read_unread, harg5.read_unread]
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12)]
  refine Eq.trans (funext fun y => View.canon_apply_of_pieces (pointOut i (arg2.view.read (Elt Ideal) (harg2.unread x0)) (arg3.view.read (Elt Ideal) (harg3.unread x1))
    (arg23.view.read (Elt Ideal) (arg23.view.writes (Elt Ideal) arg23.view.junk (kernelRun0_A.sl.HS0_32 c arg4 harg4 arg5 harg5 x2 x3)))) _ ?_ y (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 y)) hp
  unfold kernelRun0_A
  dsimp only
  simp only [List.forall_mem_cons, List.not_mem_nil, IsEmpty.forall_iff, implies_true, and_true]
  exact ⟨fun x => (congrFun (tile_A37 c arg2 harg2 arg4 harg4 arg5 harg5 arg23 x0 x2 x3) x).trans (tile_piece i _ (arg3.view.read (Elt Ideal) (harg3.unread x1)) _ 3 7 _ x),
    fun x => (congrFun (tile_A36 c arg2 harg2 arg4 harg4 arg5 harg5 arg23 x0 x2 x3) x).trans (tile_piece i _ (arg3.view.read (Elt Ideal) (harg3.unread x1)) _ 3 6 _ x),
    fun x => (congrFun (tile_A35 c arg2 harg2 arg4 harg4 arg5 harg5 arg23 x0 x2 x3) x).trans (tile_piece i _ (arg3.view.read (Elt Ideal) (harg3.unread x1)) _ 3 5 _ x),
    fun x => (congrFun (tile_A34 c arg2 harg2 arg4 harg4 arg5 harg5 arg23 x0 x2 x3) x).trans (tile_piece i _ (arg3.view.read (Elt Ideal) (harg3.unread x1)) _ 3 4 _ x),
    fun x => (congrFun (tile_A33 c arg2 harg2 arg4 harg4 arg5 harg5 arg23 x0 x2 x3) x).trans (tile_piece i _ (arg3.view.read (Elt Ideal) (harg3.unread x1)) _ 3 3 _ x),
    fun x => (congrFun (tile_A32 c arg2 harg2 arg4 harg4 arg5 harg5 arg23 x0 x2 x3) x).trans (tile_piece i _ (arg3.view.read (Elt Ideal) (harg3.unread x1)) _ 3 2 _ x),
    fun x => (congrFun (tile_A31 c arg2 harg2 arg4 harg4 arg5 harg5 arg23 x0 x2 x3) x).trans (tile_piece i _ (arg3.view.read (Elt Ideal) (harg3.unread x1)) _ 3 1 _ x),
    fun x => (congrFun (tile_A30 c arg2 harg2 arg4 harg4 arg5 harg5 arg23 x0 x2 x3) x).trans (tile_piece i _ (arg3.view.read (Elt Ideal) (harg3.unread x1)) _ 3 0 _ x),
    fun x => (congrFun (tile_A27 c arg2 harg2 arg4 harg4 arg5 harg5 arg23 x0 x2 x3) x).trans (tile_piece i _ (arg3.view.read (Elt Ideal) (harg3.unread x1)) _ 2 7 _ x),
    fun x => (congrFun (tile_A26 c arg2 harg2 arg4 harg4 arg5 harg5 arg23 x0 x2 x3) x).trans (tile_piece i _ (arg3.view.read (Elt Ideal) (harg3.unread x1)) _ 2 6 _ x),
    fun x => (congrFun (tile_A25 c arg2 harg2 arg4 harg4 arg5 harg5 arg23 x0 x2 x3) x).trans (tile_piece i _ (arg3.view.read (Elt Ideal) (harg3.unread x1)) _ 2 5 _ x),
    fun x => (congrFun (tile_A24 c arg2 harg2 arg4 harg4 arg5 harg5 arg23 x0 x2 x3) x).trans (tile_piece i _ (arg3.view.read (Elt Ideal) (harg3.unread x1)) _ 2 4 _ x),
    fun x => (congrFun (tile_A23 c arg2 harg2 arg4 harg4 arg5 harg5 arg23 x0 x2 x3) x).trans (tile_piece i _ (arg3.view.read (Elt Ideal) (harg3.unread x1)) _ 2 3 _ x),
    fun x => (congrFun (tile_A22 c arg2 harg2 arg4 harg4 arg5 harg5 arg23 x0 x2 x3) x).trans (tile_piece i _ (arg3.view.read (Elt Ideal) (harg3.unread x1)) _ 2 2 _ x),
    fun x => (congrFun (tile_A21 c arg2 harg2 arg4 harg4 arg5 harg5 arg23 x0 x2 x3) x).trans (tile_piece i _ (arg3.view.read (Elt Ideal) (harg3.unread x1)) _ 2 1 _ x),
    fun x => (congrFun (tile_A20 c arg2 harg2 arg4 harg4 arg5 harg5 arg23 x0 x2 x3) x).trans (tile_piece i _ (arg3.view.read (Elt Ideal) (harg3.unread x1)) _ 2 0 _ x),
    fun x => (congrFun (tile_A17 c arg2 harg2 arg4 harg4 arg5 harg5 arg23 x0 x2 x3) x).trans (tile_piece i _ (arg3.view.read (Elt Ideal) (harg3.unread x1)) _ 1 7 _ x),
    fun x => (congrFun (tile_A16 c arg2 harg2 arg4 harg4 arg5 harg5 arg23 x0 x2 x3) x).trans (tile_piece i _ (arg3.view.read (Elt Ideal) (harg3.unread x1)) _ 1 6 _ x),
    fun x => (congrFun (tile_A15 c arg2 harg2 arg4 harg4 arg5 harg5 arg23 x0 x2 x3) x).trans (tile_piece i _ (arg3.view.read (Elt Ideal) (harg3.unread x1)) _ 1 5 _ x),
    fun x => (congrFun (tile_A14 c arg2 harg2 arg4 harg4 arg5 harg5 arg23 x0 x2 x3) x).trans (tile_piece i _ (arg3.view.read (Elt Ideal) (harg3.unread x1)) _ 1 4 _ x),
    fun x => (congrFun (tile_A13 c arg2 harg2 arg4 harg4 arg5 harg5 arg23 x0 x2 x3) x).trans (tile_piece i _ (arg3.view.read (Elt Ideal) (harg3.unread x1)) _ 1 3 _ x),
    fun x => (congrFun (tile_A12 c arg2 harg2 arg4 harg4 arg5 harg5 arg23 x0 x2 x3) x).trans (tile_piece i _ (arg3.view.read (Elt Ideal) (harg3.unread x1)) _ 1 2 _ x),
    fun x => (congrFun (tile_A11 c arg2 harg2 arg4 harg4 arg5 harg5 arg23 x0 x2 x3) x).trans (tile_piece i _ (arg3.view.read (Elt Ideal) (harg3.unread x1)) _ 1 1 _ x),
    fun x => (congrFun (tile_A10 c arg2 harg2 arg4 harg4 arg5 harg5 arg23 x0 x2 x3) x).trans (tile_piece i _ (arg3.view.read (Elt Ideal) (harg3.unread x1)) _ 1 0 _ x),
    fun x => (congrFun (tile_A07 c i arg2 harg2 arg3 harg3 arg4 harg4 arg5 harg5 arg23 x0 x1 x2 x3) x).trans (tile_piece i _ _ _ 0 7 _ x),
    fun x => (congrFun (tile_A06 c i arg2 harg2 arg3 harg3 arg4 harg4 arg5 harg5 arg23 x0 x1 x2 x3) x).trans (tile_piece i _ _ _ 0 6 _ x),
    fun x => (congrFun (tile_A05 c i arg2 harg2 arg3 harg3 arg4 harg4 arg5 harg5 arg23 x0 x1 x2 x3) x).trans (tile_piece i _ _ _ 0 5 _ x),
    fun x => (congrFun (tile_A04 c i arg2 harg2 arg3 harg3 arg4 harg4 arg5 harg5 arg23 x0 x1 x2 x3) x).trans (tile_piece i _ _ _ 0 4 _ x),
    fun x => (congrFun (tile_A03 c i arg2 harg2 arg3 harg3 arg4 harg4 arg5 harg5 arg23 x0 x1 x2 x3) x).trans (tile_piece i _ _ _ 0 3 _ x),
    fun x => (congrFun (tile_A02 c i arg2 harg2 arg3 harg3 arg4 harg4 arg5 harg5 arg23 x0 x1 x2 x3) x).trans (tile_piece i _ _ _ 0 2 _ x),
    fun x => (congrFun (tile_A01 c i arg2 harg2 arg3 harg3 arg4 harg4 arg5 harg5 arg23 x0 x1 x2 x3) x).trans (tile_piece i _ _ _ 0 1 _ x),
    fun x => (congrFun (tile_A00 c i arg2 harg2 arg3 harg3 arg4 harg4 arg5 harg5 arg23 x0 x1 x2 x3) x).trans (tile_piece i _ _ _ 0 0 _ x)⟩

end A

section B

variable
    (c : Dev nD) (i : grid0.Coords) (arg2 : Memref sig .tc .vmem S512x4736 .bf16) (harg2 : arg2.IsWhole) (arg3 : Memref sig .tc .vmem S128x512 .bf16)
    (harg3 : arg3.IsWhole) (arg4 : Memref sig .tc .smem S1x16 .f32) (harg4 : arg4.IsWhole) (arg5 : Memref sig .tc .smem S16x32 .f32)
    (harg5 : arg5.IsWhole) (arg6 : Memref sig .tc .vmem S16x512 .f32) (harg6 : arg6.IsWhole) (arg7 : Memref sig .tc .vmem S1x512 .f32)
    (harg7 : arg7.IsWhole) (arg8 : Memref sig .tc .vmem S1x256 .f32) (harg8 : arg8.IsWhole) (arg9 : Memref sig .tc .vmem S64x2048 .f32)
    (harg9 : arg9.IsWhole) (arg10 : Memref sig .tc .vmem S64x2048 .f32) (harg10 : arg10.IsWhole) (arg11 : Memref sig .tc .vmem S128x2048 .f32)
    (harg11 : arg11.IsWhole) (arg12 : Memref sig .tc .vmem S128x5632 .f32) (harg12 : arg12.IsWhole) (arg13 : Memref sig .tc .vmem S128x5632 .f32)
    (harg13 : arg13.IsWhole) (arg14 : Memref sig .tc .vmem S352x2048 .f32) (harg14 : arg14.IsWhole) (arg15 : Memref sig .tc .vmem S512x1024 .bf16)
    (harg15 : arg15.IsWhole) (arg16 : Memref sig .tc .vmem S512x1024 .bf16) (harg16 : arg16.IsWhole) (arg17 : Memref sig .tc .vmem S64x2048 .bf16)
    (harg17 : arg17.IsWhole) (arg18 : Memref sig .tc .vmem S64x2048 .bf16) (harg18 : arg18.IsWhole) (arg19 : Memref sig .tc .vmem S128x2048 .bf16)
    (harg19 : arg19.IsWhole) (arg20 : Memref sig .tc .vmem S128x5632 .bf16) (harg20 : arg20.IsWhole) (arg21 : Memref sig .tc .vmem S128x5632 .bf16)
    (harg21 : arg21.IsWhole) (arg22 : Memref sig .tc .vmem S352x2048 .bf16) (harg22 : arg22.IsWhole) (arg23 : Memref sig .tc .vmem S2x16x128x256 .f32)
    (harg23 : arg23.IsWhole) (arg24 : Memref sig .tc .vmem S4x128x256 .f32) (harg24 : arg24.IsWhole) (hc0 : ¬cond0_0 i) (hc1 : ¬cond0_1 i)
    (x0 : Vec Ideal S512x4736 .bf16) (x1 : Vec Ideal S128x512 .bf16) (x2 : Vec Ideal S1x16 .f32) (x3 : Vec Ideal S16x32 .f32)
    (x4 : Vec Ideal S16x512 .f32) (x5 : Vec Ideal S1x512 .f32) (x6 : Vec Ideal S1x256 .f32) (x7 : Vec Ideal S64x2048 .f32)
    (x8 : Vec Ideal S64x2048 .f32) (x9 : Vec Ideal S128x2048 .f32) (x10 : Vec Ideal S128x5632 .f32) (x11 : Vec Ideal S128x5632 .f32)
    (x12 : Vec Ideal S352x2048 .f32) (xs0 : Vec Ideal S2x16x128x256 .f32) (xs1 : Vec Ideal S4x128x256 .f32)

/-- The block of a point that is no batch's first. -/
theorem out_B : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs0 xs1
    = pointOut i x0 x1 (xs0) := by
  have hp : pointOut i (arg2.view.read (Elt Ideal) (harg2.unread x0)) (arg3.view.read (Elt Ideal) (harg3.unread x1))
      (arg23.view.read (Elt Ideal) (harg23.unread xs0))
      = pointOut i x0 x1 (xs0) := by
    rw [harg2.read_unread, harg3.read_unread, harg23.read_unread]
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs0 xs1)]
  refine Eq.trans (funext fun y => View.canon_apply_of_pieces (pointOut i (arg2.view.read (Elt Ideal) (harg2.unread x0)) (arg3.view.read (Elt Ideal) (harg3.unread x1))
    (arg23.view.read (Elt Ideal) (harg23.unread xs0))) _ ?_ y (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs0 xs1 y)) hp
  unfold kernelRun0_B
  dsimp only
  simp only [List.forall_mem_cons, List.not_mem_nil, IsEmpty.forall_iff, implies_true, and_true]
  exact ⟨fun x => (congrFun (tile_B37 c arg2 harg2 arg23 harg23 x0 xs0) x).trans (tile_piece i _ (arg3.view.read (Elt Ideal) (harg3.unread x1)) _ 3 7 _ x),
    fun x => (congrFun (tile_B36 c arg2 harg2 arg23 harg23 x0 xs0) x).trans (tile_piece i _ (arg3.view.read (Elt Ideal) (harg3.unread x1)) _ 3 6 _ x),
    fun x => (congrFun (tile_B35 c arg2 harg2 arg23 harg23 x0 xs0) x).trans (tile_piece i _ (arg3.view.read (Elt Ideal) (harg3.unread x1)) _ 3 5 _ x),
    fun x => (congrFun (tile_B34 c arg2 harg2 arg23 harg23 x0 xs0) x).trans (tile_piece i _ (arg3.view.read (Elt Ideal) (harg3.unread x1)) _ 3 4 _ x),
    fun x => (congrFun (tile_B33 c arg2 harg2 arg23 harg23 x0 xs0) x).trans (tile_piece i _ (arg3.view.read (Elt Ideal) (harg3.unread x1)) _ 3 3 _ x),
    fun x => (congrFun (tile_B32 c arg2 harg2 arg23 harg23 x0 xs0) x).trans (tile_piece i _ (arg3.view.read (Elt Ideal) (harg3.unread x1)) _ 3 2 _ x),
    fun x => (congrFun (tile_B31 c arg2 harg2 arg23 harg23 x0 xs0) x).trans (tile_piece i _ (arg3.view.read (Elt Ideal) (harg3.unread x1)) _ 3 1 _ x),
    fun x => (congrFun (tile_B30 c arg2 harg2 arg23 harg23 x0 xs0) x).trans (tile_piece i _ (arg3.view.read (Elt Ideal) (harg3.unread x1)) _ 3 0 _ x),
    fun x => (congrFun (tile_B27 c arg2 harg2 arg23 harg23 x0 xs0) x).trans (tile_piece i _ (arg3.view.read (Elt Ideal) (harg3.unread x1)) _ 2 7 _ x),
    fun x => (congrFun (tile_B26 c arg2 harg2 arg23 harg23 x0 xs0) x).trans (tile_piece i _ (arg3.view.read (Elt Ideal) (harg3.unread x1)) _ 2 6 _ x),
    fun x => (congrFun (tile_B25 c arg2 harg2 arg23 harg23 x0 xs0) x).trans (tile_piece i _ (arg3.view.read (Elt Ideal) (harg3.unread x1)) _ 2 5 _ x),
    fun x => (congrFun (tile_B24 c arg2 harg2 arg23 harg23 x0 xs0) x).trans (tile_piece i _ (arg3.view.read (Elt Ideal) (harg3.unread x1)) _ 2 4 _ x),
    fun x => (congrFun (tile_B23 c arg2 harg2 arg23 harg23 x0 xs0) x).trans (tile_piece i _ (arg3.view.read (Elt Ideal) (harg3.unread x1)) _ 2 3 _ x),
    fun x => (congrFun (tile_B22 c arg2 harg2 arg23 harg23 x0 xs0) x).trans (tile_piece i _ (arg3.view.read (Elt Ideal) (harg3.unread x1)) _ 2 2 _ x),
    fun x => (congrFun (tile_B21 c arg2 harg2 arg23 harg23 x0 xs0) x).trans (tile_piece i _ (arg3.view.read (Elt Ideal) (harg3.unread x1)) _ 2 1 _ x),
    fun x => (congrFun (tile_B20 c arg2 harg2 arg23 harg23 x0 xs0) x).trans (tile_piece i _ (arg3.view.read (Elt Ideal) (harg3.unread x1)) _ 2 0 _ x),
    fun x => (congrFun (tile_B17 c arg2 harg2 arg23 harg23 x0 xs0) x).trans (tile_piece i _ (arg3.view.read (Elt Ideal) (harg3.unread x1)) _ 1 7 _ x),
    fun x => (congrFun (tile_B16 c arg2 harg2 arg23 harg23 x0 xs0) x).trans (tile_piece i _ (arg3.view.read (Elt Ideal) (harg3.unread x1)) _ 1 6 _ x),
    fun x => (congrFun (tile_B15 c arg2 harg2 arg23 harg23 x0 xs0) x).trans (tile_piece i _ (arg3.view.read (Elt Ideal) (harg3.unread x1)) _ 1 5 _ x),
    fun x => (congrFun (tile_B14 c arg2 harg2 arg23 harg23 x0 xs0) x).trans (tile_piece i _ (arg3.view.read (Elt Ideal) (harg3.unread x1)) _ 1 4 _ x),
    fun x => (congrFun (tile_B13 c arg2 harg2 arg23 harg23 x0 xs0) x).trans (tile_piece i _ (arg3.view.read (Elt Ideal) (harg3.unread x1)) _ 1 3 _ x),
    fun x => (congrFun (tile_B12 c arg2 harg2 arg23 harg23 x0 xs0) x).trans (tile_piece i _ (arg3.view.read (Elt Ideal) (harg3.unread x1)) _ 1 2 _ x),
    fun x => (congrFun (tile_B11 c arg2 harg2 arg23 harg23 x0 xs0) x).trans (tile_piece i _ (arg3.view.read (Elt Ideal) (harg3.unread x1)) _ 1 1 _ x),
    fun x => (congrFun (tile_B10 c arg2 harg2 arg23 harg23 x0 xs0) x).trans (tile_piece i _ (arg3.view.read (Elt Ideal) (harg3.unread x1)) _ 1 0 _ x),
    fun x => (congrFun (tile_B07 c i arg2 harg2 arg3 harg3 arg23 harg23 x0 x1 xs0) x).trans (tile_piece i _ _ _ 0 7 _ x),
    fun x => (congrFun (tile_B06 c i arg2 harg2 arg3 harg3 arg23 harg23 x0 x1 xs0) x).trans (tile_piece i _ _ _ 0 6 _ x),
    fun x => (congrFun (tile_B05 c i arg2 harg2 arg3 harg3 arg23 harg23 x0 x1 xs0) x).trans (tile_piece i _ _ _ 0 5 _ x),
    fun x => (congrFun (tile_B04 c i arg2 harg2 arg3 harg3 arg23 harg23 x0 x1 xs0) x).trans (tile_piece i _ _ _ 0 4 _ x),
    fun x => (congrFun (tile_B03 c i arg2 harg2 arg3 harg3 arg23 harg23 x0 x1 xs0) x).trans (tile_piece i _ _ _ 0 3 _ x),
    fun x => (congrFun (tile_B02 c i arg2 harg2 arg3 harg3 arg23 harg23 x0 x1 xs0) x).trans (tile_piece i _ _ _ 0 2 _ x),
    fun x => (congrFun (tile_B01 c i arg2 harg2 arg3 harg3 arg23 harg23 x0 x1 xs0) x).trans (tile_piece i _ _ _ 0 1 _ x),
    fun x => (congrFun (tile_B00 c i arg2 harg2 arg3 harg3 arg23 harg23 x0 x1 xs0) x).trans (tile_piece i _ _ _ 0 0 _ x)⟩

end B

section C

variable
    (c : Dev nD) (i : grid0.Coords) (arg2 : Memref sig .tc .vmem S512x4736 .bf16) (harg2 : arg2.IsWhole) (arg3 : Memref sig .tc .vmem S128x512 .bf16)
    (harg3 : arg3.IsWhole) (arg4 : Memref sig .tc .smem S1x16 .f32) (harg4 : arg4.IsWhole) (arg5 : Memref sig .tc .smem S16x32 .f32)
    (harg5 : arg5.IsWhole) (arg6 : Memref sig .tc .vmem S16x512 .f32) (harg6 : arg6.IsWhole) (arg7 : Memref sig .tc .vmem S1x512 .f32)
    (harg7 : arg7.IsWhole) (arg8 : Memref sig .tc .vmem S1x256 .f32) (harg8 : arg8.IsWhole) (arg9 : Memref sig .tc .vmem S64x2048 .f32)
    (harg9 : arg9.IsWhole) (arg10 : Memref sig .tc .vmem S64x2048 .f32) (harg10 : arg10.IsWhole) (arg11 : Memref sig .tc .vmem S128x2048 .f32)
    (harg11 : arg11.IsWhole) (arg12 : Memref sig .tc .vmem S128x5632 .f32) (harg12 : arg12.IsWhole) (arg13 : Memref sig .tc .vmem S128x5632 .f32)
    (harg13 : arg13.IsWhole) (arg14 : Memref sig .tc .vmem S352x2048 .f32) (harg14 : arg14.IsWhole) (arg15 : Memref sig .tc .vmem S512x1024 .bf16)
    (harg15 : arg15.IsWhole) (arg16 : Memref sig .tc .vmem S512x1024 .bf16) (harg16 : arg16.IsWhole) (arg17 : Memref sig .tc .vmem S64x2048 .bf16)
    (harg17 : arg17.IsWhole) (arg18 : Memref sig .tc .vmem S64x2048 .bf16) (harg18 : arg18.IsWhole) (arg19 : Memref sig .tc .vmem S128x2048 .bf16)
    (harg19 : arg19.IsWhole) (arg20 : Memref sig .tc .vmem S128x5632 .bf16) (harg20 : arg20.IsWhole) (arg21 : Memref sig .tc .vmem S128x5632 .bf16)
    (harg21 : arg21.IsWhole) (arg22 : Memref sig .tc .vmem S352x2048 .bf16) (harg22 : arg22.IsWhole) (arg23 : Memref sig .tc .vmem S2x16x128x256 .f32)
    (harg23 : arg23.IsWhole) (arg24 : Memref sig .tc .vmem S4x128x256 .f32) (harg24 : arg24.IsWhole) (hc0 : ¬cond0_0 i) (hc1 : cond0_1 i)
    (x0 : Vec Ideal S512x4736 .bf16) (x1 : Vec Ideal S128x512 .bf16) (x2 : Vec Ideal S1x16 .f32) (x3 : Vec Ideal S16x32 .f32)
    (x4 : Vec Ideal S16x512 .f32) (x5 : Vec Ideal S1x512 .f32) (x6 : Vec Ideal S1x256 .f32) (x7 : Vec Ideal S64x2048 .f32)
    (x8 : Vec Ideal S64x2048 .f32) (x9 : Vec Ideal S128x2048 .f32) (x10 : Vec Ideal S128x5632 .f32) (x11 : Vec Ideal S128x5632 .f32)
    (x12 : Vec Ideal S352x2048 .f32) (xs0 : Vec Ideal S2x16x128x256 .f32)

/-- The block of the second batch's first point. -/
theorem out_C : out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs0
    = pointOut i x0 x1 (xs0) := by
  have hp : pointOut i (arg2.view.read (Elt Ideal) (harg2.unread x0)) (arg3.view.read (Elt Ideal) (harg3.unread x1))
      (arg23.view.read (Elt Ideal) (harg23.unread xs0))
      = pointOut i x0 x1 (xs0) := by
    rw [harg2.read_unread, harg3.read_unread, harg23.read_unread]
  unfold out0_C_13
  rw [View.read_writes_eq_canon _ _ _ (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs0)]
  refine Eq.trans (funext fun y => View.canon_apply_of_pieces (pointOut i (arg2.view.read (Elt Ideal) (harg2.unread x0)) (arg3.view.read (Elt Ideal) (harg3.unread x1))
    (arg23.view.read (Elt Ideal) (harg23.unread xs0))) _ ?_ y (cover0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 hc0 hc1 x0 x1 x2 x3 x4 x5 x6 x7 x8 x9 x10 x11 x12 xs0 y)) hp
  unfold kernelRun0_C
  dsimp only
  simp only [List.forall_mem_cons, List.not_mem_nil, IsEmpty.forall_iff, implies_true, and_true]
  exact ⟨fun x => (congrFun (tile_C37 c arg2 harg2 arg23 harg23 x0 xs0) x).trans (tile_piece i _ (arg3.view.read (Elt Ideal) (harg3.unread x1)) _ 3 7 _ x),
    fun x => (congrFun (tile_C36 c arg2 harg2 arg23 harg23 x0 xs0) x).trans (tile_piece i _ (arg3.view.read (Elt Ideal) (harg3.unread x1)) _ 3 6 _ x),
    fun x => (congrFun (tile_C35 c arg2 harg2 arg23 harg23 x0 xs0) x).trans (tile_piece i _ (arg3.view.read (Elt Ideal) (harg3.unread x1)) _ 3 5 _ x),
    fun x => (congrFun (tile_C34 c arg2 harg2 arg23 harg23 x0 xs0) x).trans (tile_piece i _ (arg3.view.read (Elt Ideal) (harg3.unread x1)) _ 3 4 _ x),
    fun x => (congrFun (tile_C33 c arg2 harg2 arg23 harg23 x0 xs0) x).trans (tile_piece i _ (arg3.view.read (Elt Ideal) (harg3.unread x1)) _ 3 3 _ x),
    fun x => (congrFun (tile_C32 c arg2 harg2 arg23 harg23 x0 xs0) x).trans (tile_piece i _ (arg3.view.read (Elt Ideal) (harg3.unread x1)) _ 3 2 _ x),
    fun x => (congrFun (tile_C31 c arg2 harg2 arg23 harg23 x0 xs0) x).trans (tile_piece i _ (arg3.view.read (Elt Ideal) (harg3.unread x1)) _ 3 1 _ x),
    fun x => (congrFun (tile_C30 c arg2 harg2 arg23 harg23 x0 xs0) x).trans (tile_piece i _ (arg3.view.read (Elt Ideal) (harg3.unread x1)) _ 3 0 _ x),
    fun x => (congrFun (tile_C27 c arg2 harg2 arg23 harg23 x0 xs0) x).trans (tile_piece i _ (arg3.view.read (Elt Ideal) (harg3.unread x1)) _ 2 7 _ x),
    fun x => (congrFun (tile_C26 c arg2 harg2 arg23 harg23 x0 xs0) x).trans (tile_piece i _ (arg3.view.read (Elt Ideal) (harg3.unread x1)) _ 2 6 _ x),
    fun x => (congrFun (tile_C25 c arg2 harg2 arg23 harg23 x0 xs0) x).trans (tile_piece i _ (arg3.view.read (Elt Ideal) (harg3.unread x1)) _ 2 5 _ x),
    fun x => (congrFun (tile_C24 c arg2 harg2 arg23 harg23 x0 xs0) x).trans (tile_piece i _ (arg3.view.read (Elt Ideal) (harg3.unread x1)) _ 2 4 _ x),
    fun x => (congrFun (tile_C23 c arg2 harg2 arg23 harg23 x0 xs0) x).trans (tile_piece i _ (arg3.view.read (Elt Ideal) (harg3.unread x1)) _ 2 3 _ x),
    fun x => (congrFun (tile_C22 c arg2 harg2 arg23 harg23 x0 xs0) x).trans (tile_piece i _ (arg3.view.read (Elt Ideal) (harg3.unread x1)) _ 2 2 _ x),
    fun x => (congrFun (tile_C21 c arg2 harg2 arg23 harg23 x0 xs0) x).trans (tile_piece i _ (arg3.view.read (Elt Ideal) (harg3.unread x1)) _ 2 1 _ x),
    fun x => (congrFun (tile_C20 c arg2 harg2 arg23 harg23 x0 xs0) x).trans (tile_piece i _ (arg3.view.read (Elt Ideal) (harg3.unread x1)) _ 2 0 _ x),
    fun x => (congrFun (tile_C17 c arg2 harg2 arg23 harg23 x0 xs0) x).trans (tile_piece i _ (arg3.view.read (Elt Ideal) (harg3.unread x1)) _ 1 7 _ x),
    fun x => (congrFun (tile_C16 c arg2 harg2 arg23 harg23 x0 xs0) x).trans (tile_piece i _ (arg3.view.read (Elt Ideal) (harg3.unread x1)) _ 1 6 _ x),
    fun x => (congrFun (tile_C15 c arg2 harg2 arg23 harg23 x0 xs0) x).trans (tile_piece i _ (arg3.view.read (Elt Ideal) (harg3.unread x1)) _ 1 5 _ x),
    fun x => (congrFun (tile_C14 c arg2 harg2 arg23 harg23 x0 xs0) x).trans (tile_piece i _ (arg3.view.read (Elt Ideal) (harg3.unread x1)) _ 1 4 _ x),
    fun x => (congrFun (tile_C13 c arg2 harg2 arg23 harg23 x0 xs0) x).trans (tile_piece i _ (arg3.view.read (Elt Ideal) (harg3.unread x1)) _ 1 3 _ x),
    fun x => (congrFun (tile_C12 c arg2 harg2 arg23 harg23 x0 xs0) x).trans (tile_piece i _ (arg3.view.read (Elt Ideal) (harg3.unread x1)) _ 1 2 _ x),
    fun x => (congrFun (tile_C11 c arg2 harg2 arg23 harg23 x0 xs0) x).trans (tile_piece i _ (arg3.view.read (Elt Ideal) (harg3.unread x1)) _ 1 1 _ x),
    fun x => (congrFun (tile_C10 c arg2 harg2 arg23 harg23 x0 xs0) x).trans (tile_piece i _ (arg3.view.read (Elt Ideal) (harg3.unread x1)) _ 1 0 _ x),
    fun x => (congrFun (tile_C07 c i arg2 harg2 arg3 harg3 arg23 harg23 x0 x1 xs0) x).trans (tile_piece i _ _ _ 0 7 _ x),
    fun x => (congrFun (tile_C06 c i arg2 harg2 arg3 harg3 arg23 harg23 x0 x1 xs0) x).trans (tile_piece i _ _ _ 0 6 _ x),
    fun x => (congrFun (tile_C05 c i arg2 harg2 arg3 harg3 arg23 harg23 x0 x1 xs0) x).trans (tile_piece i _ _ _ 0 5 _ x),
    fun x => (congrFun (tile_C04 c i arg2 harg2 arg3 harg3 arg23 harg23 x0 x1 xs0) x).trans (tile_piece i _ _ _ 0 4 _ x),
    fun x => (congrFun (tile_C03 c i arg2 harg2 arg3 harg3 arg23 harg23 x0 x1 xs0) x).trans (tile_piece i _ _ _ 0 3 _ x),
    fun x => (congrFun (tile_C02 c i arg2 harg2 arg3 harg3 arg23 harg23 x0 x1 xs0) x).trans (tile_piece i _ _ _ 0 2 _ x),
    fun x => (congrFun (tile_C01 c i arg2 harg2 arg3 harg3 arg23 harg23 x0 x1 xs0) x).trans (tile_piece i _ _ _ 0 1 _ x),
    fun x => (congrFun (tile_C00 c i arg2 harg2 arg3 harg3 arg23 harg23 x0 x1 xs0) x).trans (tile_piece i _ _ _ 0 0 _ x)⟩

end C

end Cert.KernelIdeal.Hand

end
-- ==== Proof.AttnBlocks.lean ====
/- The attention of the mixers call over its arguments: the blocks a point reads are the arguments' (`proj_block` …), its
   table of biases is the one of the arguments at every point (`table_at`), and the block it leaves is `pointOut` of these
   (`block_at`). -/
module

public import proofs.«01_k».proof.Proof.AttnPoint

@[expose] public section

set_option maxRecDepth 16384
set_option maxHeartbeats 400000

noncomputable section

namespace Cert.KernelIdeal.Hand

open Cert.KernelIdeal Cert.KernelIdeal.Gen
open Idealize.ShloMosaic Idealize.ShloMosaic.TcCoe
open Idealize.SL.Sem

variable (m : (ℓ : Loc nD τ sig) → Buf (Elt Ideal) ℓ)

/-- The host's transpose before the call: the relative biases, a head to a row. -/
theorem V_main_v0 (c : Dev nD) (h : Fin 16) (b : Fin 32) :
    (V m c main_v0 : Vec Ideal S16x32 .f32) (ix2 h b) = m ((c.tc : Thread nD τ).loc main_arg2) (ix2 (n0 := 32) (n1 := 16) b h) := by
  have e : (V m c main_v0 : Vec Ideal S16x32 .f32) = transpose S16x32 [1, 0] (m ((c.tc : Thread nD τ).loc main_arg2) : Vec Ideal S32x16 .f32) transposes_S32x16_S16x32_1_0 := by
    show (StableHlo.after hostOps0 (fun b => m (c, b)) main_v0 : Vec Ideal S16x32 .f32) = _
    simp only [hostOps0]
    after_results_simp
  rw [e]
  pointwise

/-- The point's rows of the projection, from the queries' first column on. -/
theorem proj_block (c : Dev nD) (t : Fin cfg0.N) (p : Fin 512) (q : Fin 4736) :
    (iblk m c 0 t : Vec Ideal S512x4736 .bf16) (ix2 p q)
      = m ((c.tc : Thread nD τ).loc main_arg0) (ix2 (n0 := 8192) (n1 := 9216) ⟨(512 * t.val + p.val) % 8192, Nat.mod_lt _ (by decide)⟩ ⟨4096 + q.val, by omega⟩) := by
  have hi : cc0_transform_0 (grid0.coords t) 0 = 512 * t.val ∧ cc0_transform_0 (grid0.coords t) 1 = 4096 :=
    (by decide +kernel : ∀ t : Fin grid0.N, cc0_transform_0 (grid0.coords t) 0 = 512 * t.val ∧ cc0_transform_0 (grid0.coords t) 1 = 4096) t
  have ht : t.val < 16 := Nat.lt_of_lt_of_eq t.isLt N_0
  unfold iblk
  rw [View.read_apply]
  show (V m c main_arg0 : Vec Ideal S8192x9216 .bf16) _ = m (c.tc.loc main_arg0) _
  rw [V_main_arg0]
  refine congrArg (m (c.tc.loc main_arg0)) ?_
  funext a
  apply Fin.ext
  match a with
  | ⟨0, _⟩ => show cc0_transform_0 (grid0.coords t) 0 + 1 * p.val = (512 * t.val + p.val) % 8192; rw [hi.1]; omega
  | ⟨1, _⟩ => show cc0_transform_0 (grid0.coords t) 1 + 1 * q.val = 4096 + q.val; rw [hi.2]; omega

/-- The 128 rows before them, keys and values. -/
theorem prev_block (c : Dev nD) (t : Fin cfg0.N) (p : Fin 128) (q : Fin 512) :
    (iblk m c 1 t : Vec Ideal S128x512 .bf16) (ix2 p q)
      = m ((c.tc : Thread nD τ).loc main_arg0) (ix2 (n0 := 8192) (n1 := 9216) ⟨((4 * t.val - 1) * 128 + p.val) % 8192, Nat.mod_lt _ (by decide)⟩ ⟨5120 + q.val, by omega⟩) := by
  have hi : win0_1.index t 0 = 4 * t.val - 1 ∧ win0_1.index t 1 = 10 :=
    (by decide +kernel : ∀ t : Fin grid0.N, win0_1.index t 0 = 4 * t.val - 1 ∧ win0_1.index t 1 = 10) t
  have ht : t.val < 16 := Nat.lt_of_lt_of_eq t.isLt N_0
  unfold iblk
  rw [View.read_apply]
  show (V m c main_arg0 : Vec Ideal S8192x9216 .bf16) _ = m (c.tc.loc main_arg0) _
  rw [V_main_arg0]
  refine congrArg (m (c.tc.loc main_arg0)) ?_
  funext a
  apply Fin.ext
  match a with
  | ⟨0, _⟩ => show win0_1.index t 0 * 128 + 1 * p.val = ((4 * t.val - 1) * 128 + p.val) % 8192; rw [hi.1]; omega
  | ⟨1, _⟩ => show win0_1.index t 1 * 512 + 1 * q.val = 5120 + q.val; rw [hi.2]; omega

/-- The sinks, whole at every point. -/
theorem sinks_block (c : Dev nD) (t : Fin cfg0.N) : (iblk m c 2 t : Vec Ideal S1x16 .f32) = m ((c.tc : Thread nD τ).loc main_arg1) := by
  have hi : win0_2.index t 0 = 0 ∧ win0_2.index t 1 = 0 :=
    (by decide +kernel : ∀ t : Fin grid0.N, win0_2.index t 0 = 0 ∧ win0_2.index t 1 = 0) t
  funext y
  unfold iblk
  rw [View.read_apply]
  show (V m c main_arg1 : Vec Ideal S1x16 .f32) _ = m (c.tc.loc main_arg1) _
  rw [V_main_arg1]
  refine congrArg (m (c.tc.loc main_arg1)) ?_
  funext a
  apply Fin.ext
  match a with
  | ⟨0, _⟩ => show win0_2.index t 0 * 1 + 1 * (y 0).val = (y 0).val; rw [hi.1]; omega
  | ⟨1, _⟩ => show win0_2.index t 1 * 16 + 1 * (y 1).val = (y 1).val; rw [hi.2]; omega

/-- The relative biases, whole at every point. -/
theorem rel_block (c : Dev nD) (t : Fin cfg0.N) : (iblk m c 3 t : Vec Ideal S16x32 .f32) = V m c main_v0 := by
  have hi : win0_3.index t 0 = 0 ∧ win0_3.index t 1 = 0 :=
    (by decide +kernel : ∀ t : Fin grid0.N, win0_3.index t 0 = 0 ∧ win0_3.index t 1 = 0) t
  funext y
  unfold iblk
  rw [View.read_apply]
  show (V m c main_v0 : Vec Ideal S16x32 .f32) _ = (V m c main_v0 : Vec Ideal S16x32 .f32) _
  refine congrArg (V m c main_v0 : Vec Ideal S16x32 .f32) ?_
  funext a
  apply Fin.ext
  match a with
  | ⟨0, _⟩ => show win0_3.index t 0 * 16 + 1 * (y 0).val = (y 0).val; rw [hi.1]; omega
  | ⟨1, _⟩ => show win0_3.index t 1 * 32 + 1 * (y 1).val = (y 1).val; rw [hi.2]; omega

/-- The table of biases of the arguments. -/
def tableOf (c : Dev nD) : Vec Ideal S2x16x128x256 .f32 := biasTable (m ((c.tc : Thread nD τ).loc main_arg1)) (V m c main_v0)

/-- Every point leaves it in the scratch buffer: the first writes it, the others keep it. -/
theorem table_at (c : Dev nD) (k : ℕ) : ∀ t : Fin cfg0.N, t.val = k → (outsAt0 m c t.val t.isLt).2.2.2.2.2.2.2.2.1 = tableOf m c := by
  induction k with
  | zero =>
    intro t hk
    have h0 : t.val % 16 = 0 := by omega
    have h1 : t.val % 8 = 0 := by omega
    rw [outsAt0_A m c t h0 h1]
    dsimp only
    refine (table_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).trans ?_
    rw [sinks_block, rel_block]
    rfl
  | succ k ih =>
    intro t hk
    have hN : t.val < 16 := Nat.lt_of_lt_of_eq t.isLt N_0
    have h0 : ¬t.val % 16 = 0 := by omega
    have hi := ih ⟨t.val - 1, Nat.lt_of_le_of_lt (Nat.sub_le _ _) t.isLt⟩ (by show t.val - 1 = k; omega)
    by_cases h1 : t.val % 8 = 0
    · rw [outsAt0_C m c t h0 h1]
      exact hi
    · rw [outsAt0_B m c t h0 h1]
      exact hi

/-- Every point's block of the attention's output. -/
theorem block_at (c : Dev nD) (t : Fin cfg0.N) :
    (outsAt0 m c t.val t.isLt).1 = pointOut (grid0.coords t) (iblk m c 0 t) (iblk m c 1 t) (tableOf m c) := by
  have hN : t.val < 16 := Nat.lt_of_lt_of_eq t.isLt N_0
  by_cases h0 : t.val % 16 = 0
  · have h1 : t.val % 8 = 0 := by omega
    rw [outsAt0_A m c t h0 h1]
    refine (out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).trans ?_
    rw [sinks_block, rel_block]
    rfl
  · have hi := table_at m c (t.val - 1) ⟨t.val - 1, Nat.lt_of_le_of_lt (Nat.sub_le _ _) t.isLt⟩ rfl
    by_cases h1 : t.val % 8 = 0
    · rw [outsAt0_C m c t h0 h1]
      exact (out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2.2.2.1).trans (congrArg (pointOut (grid0.coords t) (iblk m c 0 t) (iblk m c 1 t)) hi)
    · rw [outsAt0_B m c t h0 h1]
      exact (out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (outsAt0 m c (t.val - 1) (Nat.lt_of_le_of_lt (Nat.sub_le _ _) t.isLt)).2.2.2.2.2.2.2.2.1 (outsAt0 m c (t.val - 1) (Nat.lt_of_le_of_lt (Nat.sub_le _ _) t.isLt)).2.2.2.2.2.2.2.2.2).trans (congrArg (pointOut (grid0.coords t) (iblk m c 0 t) (iblk m c 1 t)) hi)

/-- A point's first sub-block takes the table's second row where the point is a batch's first. -/
theorem first_at (t : Fin cfg0.N) : (first (grid0.coords t)).toNat = if t.val % 8 = 0 then 1 else 0 :=
  (by decide +kernel : ∀ t : Fin grid0.N, (first (grid0.coords t)).toNat = if t.val % 8 = 0 then 1 else 0) t

end Cert.KernelIdeal.Hand

end
-- ==== Proof.AttnPre.lean ====
/- The precondition's predicate read: the queries, keys, sinks and relative biases are real numbers. -/
module

public import proofs.«01_k».proof.Pre_finite_scores
public import proofs.«01_k».proof.Proof.AttnBlocks

@[expose] public section

set_option maxRecDepth 16384

noncomputable section

namespace Cert.Pre_finite_scores.Hand

open Cert.Pre_finite_scores Idealize.ShloMosaic

theorem and_ones (a b : BitVec 1) (h : IntOp.andi a b = 1#1) : a = 1#1 ∧ b = 1#1 := by
  revert a b; decide

/-- Above −∞ and below +∞: a real number. -/
theorem real_of (x lo hi : EReal) (hlo : lo = ⊥) (hhi : hi = ⊤)
    (h : IntOp.andi (Ideal.cmp .ogt x lo) (Ideal.cmp .olt x hi) = 1#1) : ∃ r : ℝ, x = r := by
  obtain ⟨h1, h2⟩ := and_ones _ _ h
  subst hlo hhi
  have b : ∀ p : Bool, BitVec.ofBool p = 1#1 → p = true := by decide
  have l : ⊥ < x := of_decide_eq_true (b _ h1)
  have u : x < ⊤ := of_decide_eq_true (b _ h2)
  exact ⟨x.toReal, (EReal.coe_toReal u.ne l.ne').symm⟩

theorem bot_bf16 : Ideal.ofBits .bf16 0xFF80#16 = ⊥ := by simp [Ideal.ofBits, Ideal.ieee]
theorem top_bf16 : Ideal.ofBits .bf16 0x7F80#16 = ⊤ := by simp [Ideal.ofBits, Ideal.ieee]
theorem bot_f32 : Ideal.ofBits .f32 0xFF800000#32 = ⊥ := by simp [Ideal.ofBits, Ideal.ieee]
theorem top_f32 : Ideal.ofBits .f32 0x7F800000#32 = ⊤ := by simp [Ideal.ofBits, Ideal.ieee]

variable [Facts] (A0 : FVec Ideal S8192x9216 .bf16) (A1 : FVec Ideal S1x16 .f32) (A2 : FVec Ideal S32x16 .f32) (A3 : FVec Ideal S16x512 .f32)
  (A4 : FVec Ideal S1x512 .f32) (A5 : FVec Ideal S1x256 .f32) (A6 A7 : FVec Ideal S1024x2048 .f32) (A8 : FVec Ideal S2048x2048 .f32)
  (A9 A10 : FVec Ideal S2048x5632 .f32) (A11 : FVec Ideal S5632x2048 .f32)

/-- The queries and keys are real numbers, -/
theorem real_proj (h : (fn A0 A1 A2 A3 A4 A5 A6 A7 A8 A9 A10 A11).1 = fun _ => 1#1) (r : Fin 8192) (q : Fin 9216)
    (lo : 4096 ≤ q.val) (hi : q.val < 5376) : ∃ x : ℝ, A0 (ix2 r q) = x := by
  refine real_of _ _ _ bot_bf16 top_bf16 ?_
  have e := congrFun h (ix2 r ⟨q.val - 4096, by omega⟩)
  have hq : (⟨4096 + (q.val - 4096), by omega⟩ : Fin 9216) = q := Fin.ext (by show 4096 + (q.val - 4096) = q.val; omega)
  have es : (extractStridedSlice S8192x1280 ![0, 4096] A0 Facts.slices_S8192x9216_S8192x1280_0_4096) (ix2 r ⟨q.val - 4096, by omega⟩) = A0 (ix2 r q) := by
    obtain ⟨R, hR⟩ : ∃ R : EReal, R = A0 (ix2 r q) := ⟨_, rfl⟩
    rw [← hR]
    pointwise
    rw [hR]
    exact congrArg (fun q => A0 (ix2 r q)) hq
  rw [← es]
  exact e

/-- the sinks, -/
theorem real_sink (h : (fn A0 A1 A2 A3 A4 A5 A6 A7 A8 A9 A10 A11).2.1 = fun _ => 1#1) (j : Fin 16) : ∃ x : ℝ, A1 (ix2 0 j) = x :=
  real_of _ _ _ bot_f32 top_f32 (congrFun h (ix2 0 j))

/-- and the relative biases. -/
theorem real_rel (h : (fn A0 A1 A2 A3 A4 A5 A6 A7 A8 A9 A10 A11).2.2 = fun _ => 1#1) (b : Fin 32) (j : Fin 16) : ∃ x : ℝ, A2 (ix2 b j) = x :=
  real_of _ _ _ bot_f32 top_f32 (congrFun h (ix2 b j))

end Cert.Pre_finite_scores.Hand

end
-- ==== Proof.AttnEntry.lean ====
/- An entry of a point's block of the attention's output is the reference's entry at that row and column, for real queries,
   keys, sinks and relative biases (`tile_entry`). -/
module

public import proofs.«01_k».proof.Proof.AttnPre

@[expose] public section

set_option maxRecDepth 16384
set_option maxHeartbeats 400000

noncomputable section

namespace Cert.KernelIdeal.Hand

open Cert.KernelIdeal Cert.KernelIdeal.Gen
open Idealize.ShloMosaic Idealize.ShloMosaic.TcCoe
open Cert.ReferenceIdeal.Hand (winR logitRow sinkRow refResult refResult_apply)

/-! ## The tiles' entries -/

theorem qTile_apply (X : Vec Ideal S512x4736 .bf16) (s : Fin 4) (j : Fin 8) (p n : Fin 128) :
    qTile X s j (ix2 p n) = X (ix2 ⟨128 * s.val + p.val, by omega⟩ ⟨128 * j.val + n.val, by omega⟩) :=
  congrArg X (funext fun a => Fin.ext (by
    match a with
    | ⟨0, _⟩ => show 0 + 128 * s.val + 1 * p.val = 128 * s.val + p.val; omega
    | ⟨1, _⟩ => show 0 + 128 * j.val + 1 * n.val = 128 * j.val + n.val; omega))

theorem kTile_apply (X : Vec Ideal S512x4736 .bf16) (s : Fin 4) (p : Fin 128) (n : Fin 256) :
    kTile X s (ix2 p n) = X (ix2 ⟨128 * s.val + p.val, by omega⟩ ⟨1024 + n.val, by omega⟩) :=
  congrArg X (funext fun a => Fin.ext (by
    match a with
    | ⟨0, _⟩ => show 0 + 128 * s.val + 1 * p.val = 128 * s.val + p.val; omega
    | ⟨1, _⟩ => show 1024 + 0 + 1 * n.val = 1024 + n.val; omega))

theorem vTile_apply (X : Vec Ideal S512x4736 .bf16) (s : Fin 4) (p : Fin 128) (n : Fin 256) :
    vTile X s (ix2 p n) = X (ix2 ⟨128 * s.val + p.val, by omega⟩ ⟨1280 + n.val, by omega⟩) :=
  congrArg X (funext fun a => Fin.ext (by
    match a with
    | ⟨0, _⟩ => show 0 + 128 * s.val + 1 * p.val = 128 * s.val + p.val; omega
    | ⟨1, _⟩ => show 1280 + 0 + 1 * n.val = 1280 + n.val; omega))

theorem kPrev_apply (X : Vec Ideal S128x512 .bf16) (p : Fin 128) (n : Fin 256) : kPrev X (ix2 p n) = X (ix2 p ⟨n.val, by omega⟩) :=
  congrArg X (funext fun a => Fin.ext (by
    match a with
    | ⟨0, _⟩ => show 0 + 1 * p.val = p.val; omega
    | ⟨1, _⟩ => show 0 + 1 * n.val = n.val; omega))

theorem vPrev_apply (X : Vec Ideal S128x512 .bf16) (p : Fin 128) (n : Fin 256) : vPrev X (ix2 p n) = X (ix2 p ⟨256 + n.val, by omega⟩) :=
  congrArg X (funext fun a => Fin.ext (by
    match a with
    | ⟨0, _⟩ => show 0 + 1 * p.val = p.val; omega
    | ⟨1, _⟩ => show 256 + 1 * n.val = 256 + n.val; omega))

theorem biasAt_apply (W : Vec Ideal S2x16x128x256 .f32) (g : Fin 2) (h : Fin 16) (p : Fin 128) (s : Fin 256) :
    biasAt W g h (ix4 0 0 p s) = W (ix4 g h p s) :=
  congrArg W (funext fun a => Fin.ext (by
    match a with
    | ⟨0, _⟩ => show g.val + 1 * 0 = g.val; omega
    | ⟨1, _⟩ => show h.val + 1 * 0 = h.val; omega
    | ⟨2, _⟩ => show 0 + 1 * p.val = p.val; omega
    | ⟨3, _⟩ => show 0 + 1 * s.val = s.val; omega))

theorem biasFirst_apply (i : grid0.Coords) (W : Vec Ideal S2x16x128x256 .f32) (g : Fin 2) (hg : (first i).toNat = g.val) (h : Fin 16)
    (p : Fin 128) (s : Fin 256) : biasFirst i W h (ix4 0 0 p s) = W (ix4 g h p s) :=
  congrArg W (funext fun a => Fin.ext (by
    match a with
    | ⟨0, _⟩ => show (first i).toNat + 1 * 0 = g.val; omega
    | ⟨1, _⟩ => show h.val + 1 * 0 = h.val; omega
    | ⟨2, _⟩ => show 0 + 1 * p.val = p.val; omega
    | ⟨3, _⟩ => show 0 + 1 * s.val = s.val; omega))

/-! ## One sub-block -/

/-- The keys of the 128 rows before sub-block `s`, -/
def kBefore (Q : Vec Ideal S512x4736 .bf16) (P : Vec Ideal S128x512 .bf16) (s : Fin 4) : Vec Ideal S128x256 .bf16 :=
  match s with | 0 => kPrev P | 1 => kTile Q 0 | 2 => kTile Q 1 | 3 => kTile Q 2

/-- their values, -/
def vBefore (Q : Vec Ideal S512x4736 .bf16) (P : Vec Ideal S128x512 .bf16) (s : Fin 4) : Vec Ideal S128x256 .bf16 :=
  match s with | 0 => vPrev P | 1 => vTile Q 0 | 2 => vTile Q 1 | 3 => vTile Q 2

/-- and the biases it takes. -/
def biasOf (i : grid0.Coords) (W : Vec Ideal S2x16x128x256 .f32) (s : Fin 4) (h : Fin 16) : Vec Ideal S1x1x128x256 .f32 :=
  match s with | 0 => biasFirst i W h | 1 => biasAt W 0 h | 2 => biasAt W 0 h | 3 => biasAt W 0 h

theorem pointTile_eq (i : grid0.Coords) (Q : Vec Ideal S512x4736 .bf16) (P : Vec Ideal S128x512 .bf16) (W : Vec Ideal S2x16x128x256 .f32)
    (s : Fin 4) (j : Fin 8) :
    pointTile i Q P W s j = subOut j (qTile Q s) (kBefore Q P s) (kTile Q s) (vBefore Q P s) (vTile Q s) (biasOf i W s) := by
  match s with
  | 0 => rfl
  | 1 => rfl
  | 2 => rfl
  | 3 => rfl

/-- A tile's entry, at half `o` of its columns: head `2j + o`'s softmax row. -/
theorem subOut_apply (j : Fin 8) (o : Fin 2) (q : Fin 8 → Vec Ideal S128x128 .bf16) (kp kc vp vc : Vec Ideal S128x256 .bf16)
    (b : Fin 16 → Vec Ideal S1x1x128x256 .f32) (p : Fin 128) (x : Fin 64) :
    subOut j q kp kc vp vc b (ix2 p ⟨64 * o.val + x.val, by omega⟩)
      = attnRow (logitAt (q j) o kp kc ⟨j.val / 2, by omega⟩ (b ⟨2 * j.val + o.val, by omega⟩) p) (fun s => kvAt vp vc ⟨j.val / 2, by omega⟩ s x) := by
  match o with
  | 0 =>
    have h := subOut_low j q kp kc vp vc b p x
    have e : (⟨64 * (0 : Fin 2).val + x.val, by omega⟩ : Fin 128) = ⟨x.val, by omega⟩ := Fin.ext (by show 64 * 0 + x.val = x.val; omega)
    exact (congrArg (fun n => subOut j q kp kc vp vc b (ix2 p n)) e).trans h
  | 1 =>
    have h := subOut_high j q kp kc vp vc b p x
    exact h

/-- `Q` is point `t`'s rows of the projection, from the queries' first column on, -/
def IsRows (A0 : Vec Ideal S8192x9216 .bf16) (t : Fin 16) (Q : Vec Ideal S512x4736 .bf16) : Prop :=
  ∀ (p : Fin 512) (q : Fin 4736), Q (ix2 p q) = A0 (ix2 ⟨(512 * t.val + p.val) % 8192, Nat.mod_lt _ (by decide)⟩ ⟨4096 + q.val, by omega⟩)

/-- and `P` is the keys and values of the 128 rows before them. -/
def IsBefore (A0 : Vec Ideal S8192x9216 .bf16) (t : Fin 16) (P : Vec Ideal S128x512 .bf16) : Prop :=
  ∀ (p : Fin 128) (q : Fin 512), P (ix2 p q) = A0 (ix2 ⟨((4 * t.val - 1) * 128 + p.val) % 8192, Nat.mod_lt _ (by decide)⟩ ⟨5120 + q.val, by omega⟩)

section Entry

variable (A0 : Vec Ideal S8192x9216 .bf16) (A1 : Vec Ideal S1x16 .f32) (A2 : Vec Ideal S32x16 .f32)
  (t : Fin 16)
  (Q : Vec Ideal S512x4736 .bf16) (P : Vec Ideal S128x512 .bf16) (X3 : Vec Ideal S16x32 .f32)
  (hQ : IsRows A0 t Q)
  (hP : IsBefore A0 t P)
  (hX : ∀ (h : Fin 16) (b : Fin 32), X3 (ix2 h b) = A2 (ix2 b h))

include hQ hP in
theorem kBefore_apply (s : Fin 4) (p : Fin 128) (n : Fin 256) (r : Fin 8192) (k : Fin 9216) (h : 128 ≤ 512 * t.val + 128 * s.val)
    (hr : r.val = 512 * t.val + 128 * s.val + p.val - 128) (hk : k.val = 5120 + n.val) :
    kBefore Q P s (ix2 p n) = A0 (ix2 r k) := by
  have e : ∀ (r' : Fin 8192) (k' : Fin 9216), r'.val = r.val → k'.val = k.val → A0 (ix2 r' k') = A0 (ix2 r k) := by
    intro r' k' h1 h2; rw [Fin.ext h1, Fin.ext h2]
  match s with
  | 0 =>
    refine (kPrev_apply P p n).trans ((hP _ _).trans (e _ _ ?_ ?_))
    · show ((4 * t.val - 1) * 128 + p.val) % 8192 = r.val
      change 128 ≤ 512 * t.val + 128 * 0 at h; change r.val = 512 * t.val + 128 * 0 + p.val - 128 at hr; omega
    · show 5120 + n.val = k.val; omega
  | 1 =>
    refine (kTile_apply Q 0 p n).trans ((hQ _ _).trans (e _ _ ?_ ?_))
    · show (512 * t.val + (128 * 0 + p.val)) % 8192 = r.val; change r.val = 512 * t.val + 128 * 1 + p.val - 128 at hr; omega
    · show 4096 + (1024 + n.val) = k.val; omega
  | 2 =>
    refine (kTile_apply Q 1 p n).trans ((hQ _ _).trans (e _ _ ?_ ?_))
    · show (512 * t.val + (128 * 1 + p.val)) % 8192 = r.val; change r.val = 512 * t.val + 128 * 2 + p.val - 128 at hr; omega
    · show 4096 + (1024 + n.val) = k.val; omega
  | 3 =>
    refine (kTile_apply Q 2 p n).trans ((hQ _ _).trans (e _ _ ?_ ?_))
    · show (512 * t.val + (128 * 2 + p.val)) % 8192 = r.val; change r.val = 512 * t.val + 128 * 3 + p.val - 128 at hr; omega
    · show 4096 + (1024 + n.val) = k.val; omega

include hQ hP in
theorem vBefore_apply (s : Fin 4) (p : Fin 128) (n : Fin 256) (r : Fin 8192) (k : Fin 9216) (h : 128 ≤ 512 * t.val + 128 * s.val)
    (hr : r.val = 512 * t.val + 128 * s.val + p.val - 128) (hk : k.val = 5376 + n.val) :
    vBefore Q P s (ix2 p n) = A0 (ix2 r k) := by
  have e : ∀ (r' : Fin 8192) (k' : Fin 9216), r'.val = r.val → k'.val = k.val → A0 (ix2 r' k') = A0 (ix2 r k) := by
    intro r' k' h1 h2; rw [Fin.ext h1, Fin.ext h2]
  match s with
  | 0 =>
    refine (vPrev_apply P p n).trans ((hP _ _).trans (e _ _ ?_ ?_))
    · show ((4 * t.val - 1) * 128 + p.val) % 8192 = r.val
      change 128 ≤ 512 * t.val + 128 * 0 at h; change r.val = 512 * t.val + 128 * 0 + p.val - 128 at hr; omega
    · show 5120 + (256 + n.val) = k.val; omega
  | 1 =>
    refine (vTile_apply Q 0 p n).trans ((hQ _ _).trans (e _ _ ?_ ?_))
    · show (512 * t.val + (128 * 0 + p.val)) % 8192 = r.val; change r.val = 512 * t.val + 128 * 1 + p.val - 128 at hr; omega
    · show 4096 + (1280 + n.val) = k.val; omega
  | 2 =>
    refine (vTile_apply Q 1 p n).trans ((hQ _ _).trans (e _ _ ?_ ?_))
    · show (512 * t.val + (128 * 1 + p.val)) % 8192 = r.val; change r.val = 512 * t.val + 128 * 2 + p.val - 128 at hr; omega
    · show 4096 + (1280 + n.val) = k.val; omega
  | 3 =>
    refine (vTile_apply Q 2 p n).trans ((hQ _ _).trans (e _ _ ?_ ?_))
    · show (512 * t.val + (128 * 2 + p.val)) % 8192 = r.val; change r.val = 512 * t.val + 128 * 3 + p.val - 128 at hr; omega
    · show 4096 + (1280 + n.val) = k.val; omega

include hQ hP in
/-- The key of a column that the reference does not mask is the reference's, -/
theorem key_eq (b : Fin 2) (T : Fin 32) (s : Fin 4) (hT : b.val * 4096 + T.val * 128 = 512 * t.val + 128 * s.val) (k : Fin 4) (s' : Fin 256) (x : Fin 64)
    (h0 : s'.val ≠ 0) (h : 128 ≤ T.val * 128 + s'.val) :
    kvAt (kBefore Q P s) (kTile Q s) k s' x = winR A0 5120 (by omega) b T k s' x := by
  unfold kvAt winR
  rw [if_neg h0, dif_pos h]
  split
  · next h1 =>
    refine kBefore_apply (A0 := A0) (t := t) (Q := Q) (P := P) (hQ := hQ) (hP := hP) (s := s) (h := ?_) (hr := ?_) (hk := ?_) ..
    · omega
    · show b.val * 4096 + (T.val * 128 + s'.val - 128) = 512 * t.val + 128 * s.val + s'.val - 128; omega
    · show 5120 + (k.val * 64 + x.val) = 5120 + (64 * k.val + x.val); omega
  · next h1 =>
    refine (kTile_apply Q s _ _).trans ((hQ _ _).trans (congrArg A0 (congrArg₂ ix2 (Fin.ext ?_) (Fin.ext ?_))))
    · show (512 * t.val + (128 * s.val + (s'.val - 128))) % 8192 = b.val * 4096 + (T.val * 128 + s'.val - 128); omega
    · show 4096 + (1024 + (64 * k.val + x.val)) = 5120 + (k.val * 64 + x.val); omega

include hQ hP in
/-- and so is the value. -/
theorem val_eq (b : Fin 2) (T : Fin 32) (s : Fin 4) (hT : b.val * 4096 + T.val * 128 = 512 * t.val + 128 * s.val) (k : Fin 4) (s' : Fin 256) (x : Fin 64)
    (h0 : s'.val ≠ 0) (h : 128 ≤ T.val * 128 + s'.val) :
    kvAt (vBefore Q P s) (vTile Q s) k s' x = winR A0 5376 (by omega) b T k s' x := by
  unfold kvAt winR
  rw [if_neg h0, dif_pos h]
  split
  · next h1 =>
    refine vBefore_apply (A0 := A0) (t := t) (Q := Q) (P := P) (hQ := hQ) (hP := hP) (s := s) (h := ?_) (hr := ?_) (hk := ?_) ..
    · omega
    · show b.val * 4096 + (T.val * 128 + s'.val - 128) = 512 * t.val + 128 * s.val + s'.val - 128; omega
    · show 5376 + (k.val * 64 + x.val) = 5376 + (64 * k.val + x.val); omega
  · next h1 =>
    refine (vTile_apply Q s _ _).trans ((hQ _ _).trans (congrArg A0 (congrArg₂ ix2 (Fin.ext ?_) (Fin.ext ?_))))
    · show (512 * t.val + (128 * s.val + (s'.val - 128))) % 8192 = b.val * 4096 + (T.val * 128 + s'.val - 128); omega
    · show 4096 + (1280 + (64 * k.val + x.val)) = 5376 + (k.val * 64 + x.val); omega

variable (i : grid0.Coords) (hf : (first i).toNat = if t.val % 8 = 0 then 1 else 0)

include hf hX in
/-- The bias of a column: the sink in column 0, the relative bias where the reference does not mask, −∞ elsewhere. -/
theorem bias_eq (T : Fin 32) (s : Fin 4) (hT : T.val = (t.val % 8) * 4 + s.val) (h : Fin 16) (p : Fin 128) (s' : Fin 256) :
    biasOf i (biasTable A1 X3) s h (ix4 0 0 p s')
      = if s'.val = 0 then A1 (ix2 0 h)
        else if (p.val < s'.val ∧ s'.val ≤ p.val + 128) ∧ 128 ≤ T.val * 128 + s'.val then A2 (ix2 (bucketIx (p.val + 128 - s'.val)) h) else ⊥ := by
  have hb : ∀ g : Fin 2, (keep g p s' ↔ (p.val < s'.val ∧ s'.val ≤ p.val + 128) ∧ 128 ≤ T.val * 128 + s'.val) →
      biasTable A1 X3 (ix4 g h p s') = if s'.val = 0 then A1 (ix2 0 h)
        else if (p.val < s'.val ∧ s'.val ≤ p.val + 128) ∧ 128 ≤ T.val * 128 + s'.val then A2 (ix2 (bucketIx (p.val + 128 - s'.val)) h) else ⊥ := by
    intro g hk
    refine (bias_apply A1 X3 g h p s').trans ?_
    rw [hX]
    simp only [hk]
  have hz : ∀ g : Fin 2, g.val = 0 → 1 ≤ T.val → (keep g p s' ↔ (p.val < s'.val ∧ s'.val ≤ p.val + 128) ∧ 128 ≤ T.val * 128 + s'.val) := by
    intro g hg hT
    unfold keep
    constructor
    · rintro ⟨a, b, _⟩; exact ⟨⟨a, b⟩, by omega⟩
    · rintro ⟨⟨a, b⟩, _⟩; exact ⟨a, b, Or.inl hg⟩
  match s with
  | 0 =>
    change T.val = (t.val % 8) * 4 + 0 at hT
    by_cases h8 : t.val % 8 = 0
    · rw [if_pos h8] at hf
      refine (biasFirst_apply i _ 1 hf h p s').trans (hb 1 ?_)
      unfold keep
      constructor
      · rintro ⟨a, b, c⟩
        have : 128 ≤ s'.val := c.resolve_left (by decide)
        exact ⟨⟨a, b⟩, by omega⟩
      · rintro ⟨⟨a, b⟩, c⟩; exact ⟨a, b, Or.inr (by omega)⟩
    · rw [if_neg h8] at hf
      exact (biasFirst_apply i _ 0 hf h p s').trans (hb 0 (hz 0 rfl (by omega)))
  | 1 => change T.val = (t.val % 8) * 4 + 1 at hT; exact (biasAt_apply _ 0 h p s').trans (hb 0 (hz 0 rfl (by omega)))
  | 2 => change T.val = (t.val % 8) * 4 + 2 at hT; exact (biasAt_apply _ 0 h p s').trans (hb 0 (hz 0 rfl (by omega)))
  | 3 => change T.val = (t.val % 8) * 4 + 3 at hT; exact (biasAt_apply _ 0 h p s').trans (hb 0 (hz 0 rfl (by omega)))

/-- The score scale is a real number. -/
theorem eighth_real : ∃ e : ℝ, eighth = e := ⟨1 / 8, by
  unfold eighth
  simp [Ideal.ofBits, Ideal.ieee, -EReal.coe_mul]; norm_num⟩

variable (r0 : ∀ (r : Fin 8192) (q : Fin 9216), 4096 ≤ q.val → q.val < 5376 → ∃ x : ℝ, A0 (ix2 r q) = x)
  (r2 : ∀ (b : Fin 32) (h : Fin 16), ∃ x : ℝ, A2 (ix2 b h) = x)

include r0 r2 in
/-- No logit of the reference is +∞. -/
theorem logit_ne_top (b : Fin 2) (T : Fin 32) (k g : Fin 4) (p : Fin 128) (s : Fin 256) : logitRow A0 A2 b T k g p s ≠ ⊤ := by
  unfold logitRow
  split
  · next h =>
    obtain ⟨e, he⟩ := eighth_real
    obtain ⟨β, hβ⟩ := r2 (bucketIx (p.val + 128 - s.val)) ⟨k.val * 4 + g.val, by omega⟩
    have hw : ∀ x : Fin 64, ∃ y : ℝ, winR A0 5120 (by omega) b T k s x = y := by
      intro x
      unfold winR
      rw [dif_pos h.2]
      exact r0 _ _ (by show 4096 ≤ 5120 + (k.val * 64 + x.val); omega) (by show 5120 + (k.val * 64 + x.val) < 5376; omega)
    have hq : ∀ x : Fin 64, ∃ y : ℝ, A0 (ix2 ⟨b.val * 4096 + (T.val * 128 + p.val), by omega⟩ ⟨4096 + ((k.val * 4 + g.val) * 64 + x.val), by omega⟩) = y :=
      fun x => r0 _ _ (by show 4096 ≤ 4096 + ((k.val * 4 + g.val) * 64 + x.val); omega)
        (by show 4096 + ((k.val * 4 + g.val) * 64 + x.val) < 5376; omega)
    choose w hw using hw
    choose q hq using hq
    simp only [hw, hq, he, hβ, ← EReal.coe_mul, sum_coe, ← EReal.coe_add]
    exact EReal.coe_ne_top _
  · exact bot_ne_top

include hf hQ hP hX r0 r2 in
/-- An entry of a point's tile: row `p` of sub-block `s`, column `x` of half `o` of tile `j`. -/
theorem tile_entry (r1 : ∀ h : Fin 16, ∃ x : ℝ, A1 (ix2 0 h) = x) (s : Fin 4) (j : Fin 8) (o : Fin 2) (p : Fin 128) (x : Fin 64)
    (r : Fin 8192) (n : Fin 1024) (w : Fin 128) (hr : r.val = 512 * t.val + 128 * s.val + p.val) (hn : n.val = 128 * j.val + 64 * o.val + x.val)
    (hw : w.val = 64 * o.val + x.val) :
    pointTile i Q P (biasTable A1 X3) s j (ix2 p w) = refResult (F := Ideal) A0 A1 A2 (ix2 r n) := by
  have hk : j.val / 2 * 4 + (2 * (j.val % 2) + o.val) = 2 * j.val + o.val := by omega
  have hw' : w = ⟨64 * o.val + x.val, by omega⟩ := Fin.ext hw
  rw [hw', pointTile_eq, subOut_apply]
  rw [refResult_apply A0 A1 A2 ⟨t.val / 8, by omega⟩ ⟨(t.val % 8) * 4 + s.val, by omega⟩ ⟨j.val / 2, by omega⟩ ⟨2 * (j.val % 2) + o.val, by omega⟩ p x r n
    (by show r.val = t.val / 8 * 4096 + (((t.val % 8) * 4 + s.val) * 128 + p.val); omega)
    (by show n.val = (j.val / 2 * 4 + (2 * (j.val % 2) + o.val)) * 64 + x.val; omega)]
  have hh : (⟨j.val / 2 * 4 + (2 * (j.val % 2) + o.val), by omega⟩ : Fin 16) = ⟨2 * j.val + o.val, by omega⟩ := Fin.ext hk
  have hT : t.val / 8 * 4096 + ((t.val % 8) * 4 + s.val) * 128 = 512 * t.val + 128 * s.val := by omega
  obtain ⟨z, hz⟩ := r1 ⟨2 * j.val + o.val, by omega⟩
  have hz' : A1 (ix2 0 ⟨j.val / 2 * 4 + (2 * (j.val % 2) + o.val), by omega⟩) = (z : EReal) := (congrArg (fun h => A1 (ix2 0 h)) hh).trans hz
  refine Eq.trans ?_ (congrArg (sinkRow _ _) hz').symm
  refine attn_eq _ _ _ _ z ?_ (fun s' => logit_ne_top A0 A2 r0 r2 _ _ _ _ _ _) ?_ ?_ ?_
  · unfold logitRow
    exact if_neg fun h => Nat.not_lt_zero _ h.1.1
  · intro s'
    unfold logitAt
    rw [bias_eq A1 A2 t X3 hX i hf ⟨(t.val % 8) * 4 + s.val, by omega⟩ s rfl]
    by_cases h0 : s'.val = 0
    · rw [if_pos h0, if_pos h0, hz]
      have : scoreAt (qTile Q s j) o (kBefore Q P s) (kTile Q s) ⟨j.val / 2, by omega⟩ p s' = 0 := by
        unfold scoreAt
        refine Finset.sum_eq_zero fun y _ => ?_
        unfold kvAt
        rw [if_pos h0, mul_zero]
      rw [this, zero_add]
    · rw [if_neg h0, if_neg h0]
      unfold logitRow
      by_cases hm : (p.val < s'.val ∧ s'.val ≤ p.val + 128) ∧ 128 ≤ ((t.val % 8) * 4 + s.val) * 128 + s'.val
      · rw [if_pos hm]
        refine Eq.trans ?_ (if_pos hm).symm
        refine congrArg₂ (· + ·) ?_ (congrArg (fun h => A2 (ix2 (bucketIx (p.val + 128 - s'.val)) h)) hh.symm)
        unfold scoreAt
        refine Finset.sum_congr rfl fun y _ => ?_
        rw [mul_comm]
        refine congrArg₂ (· * ·) (key_eq A0 t Q P hQ hP ⟨t.val / 8, by omega⟩ ⟨(t.val % 8) * 4 + s.val, by omega⟩ s hT ⟨j.val / 2, by omega⟩ s' y h0 hm.2) ?_
        refine congrArg (· * eighth) ((qTile_apply Q s j p _).trans ((hQ _ _).trans (congrArg A0 (congrArg₂ ix2 (Fin.ext ?_) (Fin.ext ?_)))))
        · show (512 * t.val + (128 * s.val + p.val)) % 8192 = t.val / 8 * 4096 + (((t.val % 8) * 4 + s.val) * 128 + p.val); omega
        · show 4096 + (128 * j.val + (64 * o.val + y.val)) = 4096 + ((j.val / 2 * 4 + (2 * (j.val % 2) + o.val)) * 64 + y.val); omega
      · rw [if_neg hm]
        refine Eq.trans ?_ (if_neg hm).symm
        exact EReal.add_bot _
  · unfold kvAt
    exact if_pos rfl
  · intro s' h0 hb
    have hm : (p.val < s'.val ∧ s'.val ≤ p.val + 128) ∧ 128 ≤ ((t.val % 8) * 4 + s.val) * 128 + s'.val := by
      by_contra hm
      exact hb (if_neg hm)
    exact val_eq A0 t Q P hQ hP ⟨t.val / 8, by omega⟩ ⟨(t.val % 8) * 4 + s.val, by omega⟩ s hT ⟨j.val / 2, by omega⟩ s' x h0 hm.2

end Entry

end Cert.KernelIdeal.Hand

end
-- ==== Proof.AttnValue.lean ====
/- The attention's value: the kernel's run ends with the reference's result in its output array (`run`), where the queries, keys,
   sinks and relative biases are real numbers, and the reference's run ends with it too (`reference_run`). -/
module

public import Idealize.ShloMosaic.Lib.Claim
public import proofs.«01_k».proof.Proof.AttnEntry

@[expose] public section

set_option maxRecDepth 16384
set_option maxHeartbeats 400000

noncomputable section

namespace Cert.KernelIdeal.Hand

open Cert.KernelIdeal Cert.KernelIdeal.Gen
open Idealize.ShloMosaic Idealize.ShloMosaic.TcCoe
open Idealize.SL.Sem
open Cert.ReferenceIdeal.Hand (refResult)

/-- The queries, keys, sinks and relative biases are real numbers. -/
def RealScores (A0 : Vec Ideal S8192x9216 .bf16) (A1 : Vec Ideal S1x16 .f32) (A2 : Vec Ideal S32x16 .f32) : Prop :=
  (∀ (r : Fin 8192) (q : Fin 9216), 4096 ≤ q.val → q.val < 5376 → ∃ x : ℝ, A0 (ix2 r q) = x)
    ∧ (∀ h : Fin 16, ∃ x : ℝ, A1 (ix2 0 h) = x)
    ∧ ∀ (b : Fin 32) (h : Fin 16), ∃ x : ℝ, A2 (ix2 b h) = x

variable (m : (ℓ : Loc nD τ sig) → Buf (Elt Ideal) ℓ) (ρ : Dev nD → PrngReg)

/-- The attention of the arguments. -/
def attnOf (c : Dev nD) : Vec Ideal S8192x1024 .bf16 :=
  refResult (F := Ideal) (m ((c.tc : Thread nD τ).loc main_arg0)) (m ((c.tc : Thread nD τ).loc main_arg1)) (m ((c.tc : Thread nD τ).loc main_arg2))

/-- Every argument array of device `c` that enters a score holds real numbers there. -/
def RealArgs (c : Dev nD) : Prop :=
  RealScores (m ((c.tc : Thread nD τ).loc main_arg0)) (m ((c.tc : Thread nD τ).loc main_arg1)) (m ((c.tc : Thread nD τ).loc main_arg2))

/-- An entry of the block a point leaves. -/
theorem block_entry (c : Dev nD) (h : RealArgs m c) (t : Fin cfg0.N) (p : Fin 512) (n : Fin 1024) (r : Fin 8192) (hr : r.val = 512 * t.val + p.val) :
    ((outsAt0 m c t.val t.isLt).1 : Vec Ideal S512x1024 .bf16) (ix2 p n) = attnOf m c (ix2 r n) := by
  have ht : t.val < 16 := Nat.lt_of_lt_of_eq t.isLt N_0
  refine (congrFun (block_at m c t) (ix2 p n)).trans ?_
  show pointTile (grid0.coords t) (iblk m c 0 t) (iblk m c 1 t) (tableOf m c) ⟨p.val / 128, _⟩ ⟨n.val / 128, _⟩ (ix2 ⟨p.val % 128, _⟩ ⟨n.val % 128, _⟩) = _
  exact tile_entry (A0 := m ((c.tc : Thread nD τ).loc main_arg0)) (A1 := m ((c.tc : Thread nD τ).loc main_arg1)) (A2 := m ((c.tc : Thread nD τ).loc main_arg2))
    (t := ⟨t.val, ht⟩) (i := grid0.coords t) (hf := first_at t) (Q := iblk m c 0 t) (P := iblk m c 1 t) (X3 := V m c main_v0)
    (hQ := proj_block m c t) (hP := prev_block m c t) (hX := V_main_v0 m c) (r0 := h.1) (r1 := h.2.1) (r2 := h.2.2)
    (s := ⟨p.val / 128, by omega⟩) (j := ⟨n.val / 128, by omega⟩) (o := ⟨n.val % 128 / 64, by omega⟩) (p := ⟨p.val % 128, by omega⟩) (x := ⟨n.val % 64, by omega⟩)
    (r := r) (n := n) (w := ⟨n.val % 128, by omega⟩) (hw := by show n.val % 128 = 64 * (n.val % 128 / 64) + n.val % 64; omega) (hr := by show r.val = 512 * t.val + 128 * (p.val / 128) + p.val % 128; omega)
    (hn := by show n.val = 128 * (n.val / 128) + 64 * (n.val % 128 / 64) + n.val % 64; omega)

theorem out_index13 (t : Fin cfg0.N) : win0_13.index t 0 = t.val ∧ win0_13.index t 1 = 0 :=
  (by decide +kernel : ∀ t : Fin grid0.N, win0_13.index t 0 = t.val ∧ win0_13.index t 1 = 0) t

/-- A block whose entries are an array's at its place is the array's block. -/
theorem block13 (t : Fin cfg0.N) (X : Vec Ideal S512x1024 .bf16) (R : Vec Ideal S8192x1024 .bf16)
    (h : ∀ (p : Fin 512) (n : Fin 1024) (r : Fin 8192), r.val = 512 * t.val + p.val → X (ix2 p n) = R (ix2 r n)) :
    (cfg0.win 13).cut (grid0.coords t) X = ((cfg0.win 13).blk t).view.read (Elt Ideal) R := by
  have ht : t.val < 16 := Nat.lt_of_lt_of_eq t.isLt N_0
  have hi := out_index13 t
  funext j
  rw [View.read_apply]
  have hj0 : (j 0).val < 512 := (j 0).isLt
  have hj1 : (j 1).val < 1024 := (j 1).isLt
  have hj : (j : S512x1024.Idx) = ix2 (n0 := 512) (n1 := 1024) ⟨(j 0).val, hj0⟩ ⟨(j 1).val, hj1⟩ := by
    funext a
    match a with
    | ⟨0, _⟩ => rfl
    | ⟨1, _⟩ => rfl
  have hr : (((cfg0.win 13).blk t).view.emb j : S8192x1024.Idx) = ix2 (n0 := 8192) (n1 := 1024) ⟨512 * t.val + (j 0).val, by omega⟩ ⟨(j 1).val, hj1⟩ := by
    funext a
    apply Fin.ext
    match a with
    | ⟨0, _⟩ => show win0_13.index t 0 * 512 + 1 * (j 0).val = 512 * t.val + (j 0).val; rw [hi.1]; omega
    | ⟨1, _⟩ => show win0_13.index t 1 * 1024 + 1 * (j 1).val = (j 1).val; rw [hi.2]; omega
  refine Eq.trans ?_ (congrArg R hr).symm
  show X (j : S512x1024.Idx) = _
  refine Eq.trans (congrArg X hj) ?_
  exact h _ _ _ rfl

theorem flushed13 (c : Dev nD) (t : Fin cfg0.N) :
    (dats m 0 c).flushed 13 t = (cfg0.win 13).cut (grid0.coords t) ((outsAt0 m c t.val t.isLt).1) := by
  show (cfg0.win 13).cut (grid0.coords t) ((dats m 0 c).after 13 t) = _
  rw [after0_13]

/-- Every write-back writes its block of the attention. -/
theorem flushed13_eq (c : Dev nD) (h : RealArgs m c) (t : Fin cfg0.N) :
    (dats m 0 c).flushed 13 t = ((cfg0.win 13).blk t).view.read (Elt Ideal) (attnOf m c) :=
  (flushed13 m c t).trans (block13 t _ _ (block_entry m c h t))

/-- The sixteen write-backs cover the attention's array. -/
theorem cover13 (c : Dev nD) (R : Vec Ideal S8192x1024 .bf16)
    (h : ∀ t, (dats m 0 c).flushed 13 t = ((cfg0.win 13).blk t).view.read (Elt Ideal) R) : (dats m 0 c).arrAt 13 cfg0.N = R :=
  (dats m 0 c).arrAt_eq_of_cover 13 R (fun t _ => h t) fun i => by
    have h0 : (i 0 : Nat) < 8192 := (i 0).isLt
    have h1 : (i 1 : Nat) < 1024 := (i 1).isLt
    have hb : (i 0 : Nat) / 512 < cfg0.N := by rw [show cfg0.N = 16 from N_0]; omega
    refine ⟨⟨(i 0 : Nat) / 512, hb⟩, flush0_13 _, ?_⟩
    have hi := out_index13 ⟨(i 0 : Nat) / 512, hb⟩
    generalize hT : (⟨(i 0 : Nat) / 512, hb⟩ : Fin cfg0.N) = T at hi ⊢
    have hv : T.val = (i 0 : Nat) / 512 := by rw [← hT]
    show i ∈ ((View.whole main_v1_0).slice (win0_13.rect T)).set
    rw [View.set_slice_whole, Rect.mem_set_unit]
    intro a
    match a with
    | ⟨0, _⟩ =>
      show win0_13.index T 0 * 512 ≤ (i 0 : Nat) ∧ (i 0 : Nat) < win0_13.index T 0 * 512 + 512
      rw [hi.1]; omega
    | ⟨1, _⟩ =>
      show win0_13.index T 1 * 1024 ≤ (i 1 : Nat) ∧ (i 1 : Nat) < win0_13.index T 1 * 1024 + 1024
      rw [hi.2]; omega

/-- The attention's array after the call. -/
theorem final13 (c : Dev nD) (h : RealArgs m c) : (dats m 0 c).arrAt 13 cfg0.N = attnOf m c :=
  cover13 m c _ (flushed13_eq m c h)

/-- The call's run at exact arithmetic: the attention of its arguments, the arguments unchanged. -/
theorem run (h : ∀ c, RealArgs m c) : θ_run defs (onTc (τ := τ) (main (F := Ideal))) ⟨m, fun _ => 0, ρ⟩ fun r => ∀ c : Dev nD,
      r.2.mem ((c.tc : Thread nD τ).loc main_v1_0) = attnOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ hr c => ⟨((hr.1 c).1 13).trans (final13 m c (h c)), hr.2 c⟩) (θ_run_and (run_main m ρ) (unchanged m ρ))

end Cert.KernelIdeal.Hand

/-! ## The reference's run -/

namespace Cert.ReferenceIdeal.Hand

open Cert.ReferenceIdeal
open Idealize.ShloMosaic Idealize.ShloMosaic.TcCoe
open Idealize.SL.Sem

variable (m : (ℓ : Loc nD τ sig) → Buf (Elt Ideal) ℓ) (ρ : Dev nD → PrngReg)

/-- The reference's run at exact arithmetic ends at the same attention of its own arguments. -/
theorem reference_run : θ_run defs (onTc (τ := τ) (main (F := Ideal))) ⟨m, fun _ => 0, ρ⟩ fun r => ∀ c : Dev nD,
      r.2.mem ((c.tc : Thread nD τ).loc main_v110) = refResult (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run _ _ _).mono (fun r h c => ⟨(h c).1.trans (result_eq m c), (h c).2⟩) (Cert.ReferenceIdeal.Value.run (F := Ideal) m ρ)

end Cert.ReferenceIdeal.Hand

end
-- ==== Proof.TailValue.lean ====
/- The input projection's second call at exact arithmetic: rows 1024.. of the first 8960 columns of the projected array,
   computed block by block into an array that is first a copy of its last operand. A row block's first point stores the
   block's normalised rows in the scratch (`scratch_first`), the other points find them there (`scratch_at`); every point
   multiplies them by its 1792 weight rows (`block_entry`). The reference's run ends with the same (`reference_run`). -/
module

public import proofs.«01_k».proof.Proof.Gen.TailIdeal.Frame
public import proofs.«01_k».proof.Proof.Gen.TailReferenceIdeal.Run
public import proofs.«01_k».proof.Proof.AttnValue
public import Idealize.ShloMosaic.Lib.Pointwise
public import Idealize.ShloMosaic.Lib.IdealHost
public import Idealize.ShloMosaic.Lib.Claim
public import Idealize.ShloMosaic.Lib.Pipeline.ValueKit.Tiles

@[expose] public section

set_option maxRecDepth 16384

noncomputable section

namespace Cert.TailIdeal.Hand

open Cert.TailIdeal Cert.TailIdeal.Gen
open Idealize.ShloMosaic Idealize.ShloMosaic.TcCoe
open Idealize.SL.Sem
open Idealize.ShloMosaic.Pipeline (Dat Cfg Window cellOf)

/-! ## The mathematics -/

/-- A row under root-mean-square normalisation and gain. -/
def normedRow (g : S1x2048.Idx → EReal) (row : Fin 2048 → EReal) (n : Fin 2048) : EReal :=
  row n * Ideal.rsqrt (Ideal.div (∑ y : Fin 2048, row y * row y) (Ideal.ofBits FTy.f32 1157627904#32) + Ideal.ofBits FTy.f32 897988541#32)
    * g (ix2 0 n)

/-- The projection of a normalised row on a row of the weights. -/
def projAt (x : S8192x2048.Idx → EReal) (g : S1x2048.Idx → EReal) (w : S9216x2048.Idx → EReal) (r : Fin 8192) (n : Fin 9216) : EReal :=
  ∑ k : Fin 2048, normedRow g (fun y => x (ix2 r y)) k * w (ix2 n k)

/-- The call's result: its last operand, with the projection at rows 1024.. of the first 8960 columns. -/
def result (x : S8192x2048.Idx → EReal) (g : S1x2048.Idx → EReal) (w : S9216x2048.Idx → EReal) (old : S8192x9216.Idx → EReal) :
    S8192x9216.Idx → EReal :=
  fun i => if 1024 ≤ (i 0).val ∧ (i 1).val < 8960 then projAt x g w (i 0) (i 1) else old i

/-! ## The payloads at an entry -/

theorem norm_apply (g : Vec Ideal S1x2048 .f32) (v : Vec Ideal S512x2048 .f32) (p : Fin 512) (n : Fin 2048) :
    k0_pay1 g v (ix2 p n) = normedRow g (fun y => v (ix2 p y)) n := by
  unfold normedRow
  pointwise [k0_pay1]

theorem dot_apply (u : Vec Ideal S1024x2048 .bf16) (w : Vec Ideal S1792x2048 .bf16) (p : Fin 1024) (n : Fin 1792) :
    k0_pay2 u w (ix2 p n) = ∑ k : Fin 2048, u (ix2 p k) * w (ix2 n k) := by
  pointwise [k0_pay2]

/-- A block's rows, normalised. -/
def normedBlock (x : Vec Ideal S1024x2048 .f32) (g : Vec Ideal S1x2048 .f32) : Vec Ideal S1024x2048 .bf16 :=
  fun y => normedRow g (fun k => x (ix2 (y 0) k)) (y 1)

theorem zeros : (![0, 0] : Fin 2 → Nat) = fun _ => 0 := funext fun a => by
  match a with
  | ⟨0, _⟩ => rfl
  | ⟨1, _⟩ => rfl

/-! ## What a point leaves in the scratch and in its block -/

section Outs

variable (c : Dev nD) (i : grid0.Coords)
  (arg2 : Memref sig .tc .vmem S1024x2048 .f32) (harg2 : arg2.IsWhole) (arg3 : Memref sig .tc .vmem S1x2048 .f32) (harg3 : arg3.IsWhole)
  (arg4 : Memref sig .tc .vmem S1792x2048 .bf16) (harg4 : arg4.IsWhole) (arg6 : Memref sig .tc .vmem S1024x1792 .bf16) (harg6 : arg6.IsWhole)
  (arg7 : Memref sig .tc .vmem S1024x2048 .bf16) (harg7 : arg7.IsWhole)
  (x0 : Vec Ideal S1024x2048 .f32) (x1 : Vec Ideal S1x2048 .f32) (x2 : Vec Ideal S1792x2048 .bf16)

/-- The rows a trip of the loop starts at. -/
theorem trip_row (k : Fin k0_t1_loop.trips) : k0_off1 k = ![512 * k.val, 0] := by
  revert k; decide

/-- A trip stores 512 normalised rows at their place. -/
theorem trip_piece (𝒱 : Variants) (bd : Option 𝒱.V) (arg5 : Memref sig .tc .hbm S8192x9216 .bf16) (harg5 : arg5.IsWhole) (h : k0_cond1 i = 1#1)
    (k : Fin k0_t1_loop.trips) (p : View.Piece (Elt Ideal) S1024x2048 .bf16)
    (hp : p ∈ tripL_k0_t1 (F := Ideal) 𝒱 c bd i arg2 harg2 arg3 harg3 arg4 harg4 arg5 harg5 arg6 harg6 arg7 harg7 h x1 (harg2.unread x0) k)
    (x : p.1.shape.Idx) : p.2 x = normedBlock x0 x1 (p.1.emb x) := by
  unfold tripL_k0_t1 trip_k0_t1 at hp
  dsimp only at hp
  obtain rfl := List.mem_singleton.mp hp
  have hx0 : (x 0).val < 512 := (x 0).isLt
  have hx1 : (x 1).val < 2048 := (x 1).isLt
  have hx : (x : S512x2048.Idx) = ix2 (n0 := 512) (n1 := 2048) ⟨(x 0).val, hx0⟩ ⟨(x 1).val, hx1⟩ := by
    funext a
    match a with
    | ⟨0, _⟩ => rfl
    | ⟨1, _⟩ => rfl
  refine Eq.trans (congrArg _ hx) ?_
  refine (norm_apply _ _ _ _).trans ?_
  have ho := trip_row k
  have ho1 : k0_off1 k 1 = 0 := congrFun ho 1
  show normedRow x1 _ _ = normedRow x1 _ _
  refine congrArg₂ (normedRow x1) (funext fun y => ?_) (Fin.ext (show (x 1).val = k0_off1 k 1 + 1 * (x 1).val by omega))
  show arg2.view.read (Elt Ideal) (harg2.unread x0) _ = x0 _
  rw [harg2.read_unread]
  refine congrArg x0 ?_
  funext a
  apply Fin.ext
  match a with
  | ⟨0, _⟩ => rfl
  | ⟨1, _⟩ =>
    show k0_off1 k 1 + 1 * y.val = y.val
    omega

/-- So does the whole loop. -/
theorem loop_pieces (𝒱 : Variants) (bd : Option 𝒱.V) (arg5 : Memref sig .tc .hbm S8192x9216 .bf16) (harg5 : arg5.IsWhole) (h : k0_cond1 i = 1#1) :
    ∀ n : ℕ, n ≤ k0_t1_loop.trips →
      ∀ p ∈ pb_k0_t1 (F := Ideal) 𝒱 c bd i arg2 harg2 arg3 harg3 arg4 harg4 arg5 harg5 arg6 harg6 arg7 harg7 h x1 (harg2.unread x0) n,
        ∀ x : p.1.shape.Idx, p.2 x = normedBlock x0 x1 (p.1.emb x)
  | 0, _ => fun p hp => absurd hp List.not_mem_nil
  | n + 1, hn => fun p hp => by
    have e := pb_k0_t1_succ (F := Ideal) 𝒱 c bd i arg2 harg2 arg3 harg3 arg4 harg4 arg5 harg5 arg6 harg6 arg7 harg7 h x1 (harg2.unread x0) ⟨n, hn⟩
    rw [e] at hp
    rcases List.mem_append.mp hp with hp | hp
    · exact trip_piece c i arg2 harg2 arg3 harg3 arg4 harg4 arg6 harg6 arg7 harg7 x0 x1 𝒱 bd arg5 harg5 h ⟨n, hn⟩ p hp
    · exact loop_pieces 𝒱 bd arg5 harg5 h n (Nat.le_of_succ_le hn) p hp

/-- The pieces a row block's first point stores in the scratch read as the block's normalised rows. -/
theorem scratch_canon (hc0 : cond0_0 i) :
    View.canon (kernelRun0_A c i arg2 harg2 arg3 harg3 arg4 harg4 arg6 harg6 arg7 harg7 hc0 x0 x1 x2).2.1 = normedBlock x0 x1 := by
  funext y
  refine View.canon_apply_of_pieces (normedBlock x0 x1) _ ?_ y
    (scover0_A_0 c i arg2 harg2 arg3 harg3 arg4 harg4 arg6 harg6 arg7 harg7 hc0 x0 x1 x2 y)
  unfold kernelRun0_A
  dsimp only
  rw [View.readAt_eq_ld, harg3.read_unread, View.ld_unit_zero (S := S1x2048) zeros]
  exact loop_pieces c i arg2 harg2 arg3 harg3 arg4 harg4 arg6 harg6 arg7 harg7 x0 x1 _ _ _ _ _ _ (le_refl _)

/-- A row block's first point leaves the block's normalised rows in the scratch, -/
theorem scratch_first (hc0 : cond0_0 i) :
    sout0_A_0 c i arg2 harg2 arg3 harg3 arg4 harg4 arg6 harg6 arg7 harg7 hc0 x0 x1 x2 = normedBlock x0 x1 := by
  unfold sout0_A_0
  rw [View.read_writes_junk_eq_canon]
  exact scratch_canon c i arg2 harg2 arg3 harg3 arg4 harg4 arg6 harg6 arg7 harg7 x0 x1 x2 hc0

/-- and their products with its weights in its block. -/
theorem out_first (hc0 : cond0_0 i) :
    out0_A_3 c i arg2 harg2 arg3 harg3 arg4 harg4 arg6 harg6 arg7 harg7 hc0 x0 x1 x2 = k0_pay2 (normedBlock x0 x1) x2 := by
  have hs := scratch_canon c i arg2 harg2 arg3 harg3 arg4 harg4 arg6 harg6 arg7 harg7 x0 x1 x2 hc0
  unfold out0_A_3
  rw [View.read_writes_junk_eq_canon]
  unfold kernelRun0_A at hs ⊢
  dsimp only at hs ⊢
  rw [View.canon_unit_zero zeros, View.readCov_eq_canon']
  refine congrArg₂ k0_pay2 ?_ ?_
  · refine Eq.trans ?_ hs
    exact View.ld_unit_zero (S := S1024x2048) (Val := Elt Ideal) (e := .bf16) zeros _ _
  · rw [View.readAt_eq_ld, harg4.read_unread, View.ld_unit_zero (S := S1792x2048) zeros]

/-- Another point leaves the products of the rows it finds in the scratch. -/
theorem out_later (hc0 : ¬cond0_0 i) (xs : Vec Ideal S1024x2048 .bf16) :
    out0_B_3 c i arg2 harg2 arg3 harg3 arg4 harg4 arg6 harg6 arg7 harg7 hc0 x0 x1 x2 xs = k0_pay2 xs x2 := by
  unfold out0_B_3
  rw [View.read_writes_junk_eq_canon]
  unfold kernelRun0_B
  dsimp only
  rw [View.canon_unit_zero zeros]
  simp only [View.readAt_eq_ld, harg4.read_unread, harg7.read_unread, View.ld_unit_zero (S := S1792x2048) zeros,
    View.ld_unit_zero (S := S1024x2048) zeros]

end Outs

/-! ## The blocks a point reads -/

variable (m : (ℓ : Loc nD τ sig) → Buf (Elt Ideal) ℓ) (ρ : Dev nD → PrngReg)

/-- The arguments as launched. -/
abbrev argAt (c : Dev nD) (b : Ref sig .tc) := m ((c.tc : Thread nD τ).loc b)

/-- The result's array before the call: a copy of the last operand. -/
theorem V_main_v0 (c : Dev nD) : (V m c main_v0 : Vec Ideal S8192x9216 .bf16) = argAt m c main_arg3 := by
  show (StableHlo.after hostOps0 (fun b => m (c, b)) main_v0 : Vec Ideal S8192x9216 .bf16) = _
  simp only [hostOps0]
  after_results_simp
  try rfl

/-- The point's rows of the input. -/
theorem x_block (c : Dev nD) (t : Fin cfg0.N) (p : Fin 1024) (q : Fin 2048) :
    (iblk m c 0 t : Vec Ideal S1024x2048 .f32) (ix2 p q) = argAt m c main_arg0 (ix2 (n0 := 8192) (n1 := 2048) ⟨(1024 * (t.val / 5 + 1) + p.val) % 8192, Nat.mod_lt _ (by decide)⟩ q) := by
  have hi : win0_0.index t 0 = t.val / 5 + 1 ∧ win0_0.index t 1 = 0 :=
    (by decide +kernel : ∀ t : Fin grid0.N, win0_0.index t 0 = t.val / 5 + 1 ∧ win0_0.index t 1 = 0) t
  have ht : t.val < 35 := Nat.lt_of_lt_of_eq t.isLt N_0
  unfold iblk
  rw [View.read_apply]
  show (V m c main_arg0 : Vec Ideal S8192x2048 .f32) _ = m (c.tc.loc main_arg0) _
  rw [V_main_arg0]
  refine congrArg (m (c.tc.loc main_arg0)) ?_
  funext a
  apply Fin.ext
  match a with
  | ⟨0, _⟩ => show win0_0.index t 0 * 1024 + 1 * p.val = (⟨(1024 * (t.val / 5 + 1) + p.val) % 8192, Nat.mod_lt _ (by decide)⟩ : Fin 8192).val; rw [hi.1]; show _ = (1024 * (t.val / 5 + 1) + p.val) % 8192; omega
  | ⟨1, _⟩ => show win0_0.index t 1 * 2048 + 1 * q.val = (q : Fin 2048).val; rw [hi.2]; show _ = q.val; omega

/-- The gain. -/
theorem g_block (c : Dev nD) (t : Fin cfg0.N) (p : Fin 1) (q : Fin 2048) :
    (iblk m c 1 t : Vec Ideal S1x2048 .f32) (ix2 p q) = argAt m c main_arg1 (ix2 (n0 := 1) (n1 := 2048) p q) := by
  have hi : win0_1.index t 0 = 0 ∧ win0_1.index t 1 = 0 :=
    (by decide +kernel : ∀ t : Fin grid0.N, win0_1.index t 0 = 0 ∧ win0_1.index t 1 = 0) t
  have ht : t.val < 35 := Nat.lt_of_lt_of_eq t.isLt N_0
  unfold iblk
  rw [View.read_apply]
  show (V m c main_arg1 : Vec Ideal S1x2048 .f32) _ = m (c.tc.loc main_arg1) _
  rw [V_main_arg1]
  refine congrArg (m (c.tc.loc main_arg1)) ?_
  funext a
  apply Fin.ext
  match a with
  | ⟨0, _⟩ => show win0_1.index t 0 * 1 + 1 * p.val = (p : Fin 1).val; rw [hi.1]; show _ = p.val; omega
  | ⟨1, _⟩ => show win0_1.index t 1 * 2048 + 1 * q.val = (q : Fin 2048).val; rw [hi.2]; show _ = q.val; omega

/-- The point's rows of the weights. -/
theorem w_block (c : Dev nD) (t : Fin cfg0.N) (p : Fin 1792) (q : Fin 2048) :
    (X0_2 m c t : Vec Ideal S1792x2048 .bf16) (ix2 p q) = argAt m c main_arg2 (ix2 (n0 := 9216) (n1 := 2048) ⟨(1792 * (t.val % 5) + p.val) % 9216, Nat.mod_lt _ (by decide)⟩ q) := by
  have hi : win0_2.index t 0 = t.val % 5 ∧ win0_2.index t 1 = 0 :=
    (by decide +kernel : ∀ t : Fin grid0.N, win0_2.index t 0 = t.val % 5 ∧ win0_2.index t 1 = 0) t
  have ht : t.val < 35 := Nat.lt_of_lt_of_eq t.isLt N_0
  unfold X0_2 Pipeline.Window.fill
  rw [dif_pos (moved0_2 t _)]
  unfold iblk
  rw [View.read_apply]
  show (V m c main_arg2 : Vec Ideal S9216x2048 .bf16) _ = m (c.tc.loc main_arg2) _
  rw [V_main_arg2]
  refine congrArg (m (c.tc.loc main_arg2)) ?_
  funext a
  apply Fin.ext
  match a with
  | ⟨0, _⟩ => show win0_2.index t 0 * 1792 + 1 * p.val = (⟨(1792 * (t.val % 5) + p.val) % 9216, Nat.mod_lt _ (by decide)⟩ : Fin 9216).val; rw [hi.1]; show _ = (1792 * (t.val % 5) + p.val) % 9216; omega
  | ⟨1, _⟩ => show win0_2.index t 1 * 2048 + 1 * q.val = (q : Fin 2048).val; rw [hi.2]; show _ = q.val; omega

/-- The normalised rows of row block `b`. -/
def normedOf (c : Dev nD) (b : ℕ) : Vec Ideal S1024x2048 .bf16 := fun y =>
  normedRow (argAt m c main_arg1) (fun k => argAt m c main_arg0 (ix2 (n0 := 8192) (n1 := 2048) ⟨(1024 * (b + 1) + (y 0).val) % 8192, Nat.mod_lt _ (by decide)⟩ k)) (y 1)

theorem normedBlock_eq (c : Dev nD) (t : Fin cfg0.N) : normedBlock (iblk m c 0 t) (iblk m c 1 t) = normedOf m c (t.val / 5) := by
  funext y
  obtain ⟨p, n, rfl⟩ : ∃ (p : Fin 1024) (n : Fin 2048), y = ix2 p n := ⟨y 0, y 1, by
    funext a
    match a with
    | ⟨0, _⟩ => rfl
    | ⟨1, _⟩ => rfl⟩
  show normedRow (iblk m c 1 t : Vec Ideal S1x2048 .f32) (fun k => (iblk m c 0 t : Vec Ideal S1024x2048 .f32) (ix2 p k)) n
    = normedRow (argAt m c main_arg1) (fun k => argAt m c main_arg0 (ix2 (n0 := 8192) (n1 := 2048) ⟨(1024 * (t.val / 5 + 1) + p.val) % 8192, Nat.mod_lt _ (by decide)⟩ k)) n
  unfold normedRow
  simp only [x_block, g_block]

/-- After every point the scratch holds its row block's normalised rows. -/
theorem scratch_at (c : Dev nD) : ∀ (n : ℕ) (hn : n < cfg0.N), (outsAt0 m c n hn).2 = normedOf m c (n / 5)
  | 0, hn => by
    rw [outsAt0_A m c ⟨0, hn⟩ rfl]
    dsimp only
    rw [scratch_first]
    exact normedBlock_eq m c ⟨0, hn⟩
  | n + 1, hn => by
    by_cases h : (n + 1) % 5 = 0
    · rw [outsAt0_A m c ⟨n + 1, hn⟩ h]
      dsimp only
      rw [scratch_first]
      exact normedBlock_eq m c ⟨n + 1, hn⟩
    · rw [outsAt0_B m c ⟨n + 1, hn⟩ h]
      dsimp only
      unfold sout0_B_0
      refine (scratch_at c n (Nat.lt_of_succ_lt hn)).trans (congrArg (normedOf m c) ?_)
      omega

/-- What a point leaves in its block. -/
theorem out_at (c : Dev nD) (t : Fin cfg0.N) : (outsAt0 m c t.val t.isLt).1 = k0_pay2 (normedOf m c (t.val / 5)) (X0_2 m c t) := by
  by_cases h : t.val % 5 = 0
  · rw [outsAt0_A m c t h]
    dsimp only
    rw [out_first]
    exact congrArg (fun u => k0_pay2 u (X0_2 m c t)) (normedBlock_eq m c t)
  · rw [outsAt0_B m c t h]
    dsimp only
    rw [out_later, scratch_at]
    refine congrArg (fun b => k0_pay2 (normedOf m c b) (X0_2 m c t)) ?_
    omega

/-- The call's result on a core. -/
def resultOf (c : Dev nD) : Vec Ideal S8192x9216 .bf16 :=
  result (argAt m c main_arg0) (argAt m c main_arg1) (argAt m c main_arg2) (argAt m c main_arg3)

/-- An entry of a point's block is the result's entry at its place. -/
theorem block_entry (c : Dev nD) (t : Fin cfg0.N) (p : Fin 1024) (q : Fin 1792) (r : Fin 8192) (n : Fin 9216)
    (hr : r.val = 1024 * (t.val / 5 + 1) + p.val) (hn : n.val = 1792 * (t.val % 5) + q.val) :
    (outsAt0 m c t.val t.isLt).1 (ix2 p q) = resultOf m c (ix2 r n) := by
  rw [out_at, dot_apply]
  have hk : 1024 ≤ (r.val) ∧ n.val < 8960 := by
    have := q.isLt
    have := Nat.mod_lt t.val (by decide : 5 > 0)
    omega
  unfold resultOf result
  refine Eq.trans ?_ (if_pos hk).symm
  unfold projAt
  refine Finset.sum_congr rfl fun k _ => ?_
  have er : (⟨(1024 * (t.val / 5 + 1) + p.val) % 8192, Nat.mod_lt _ (by decide)⟩ : Fin 8192) = r :=
    Fin.ext ((congrArg (· % 8192) hr).symm.trans (Nat.mod_eq_of_lt r.isLt))
  have en : (⟨(1792 * (t.val % 5) + q.val) % 9216, Nat.mod_lt _ (by decide)⟩ : Fin 9216) = n :=
    Fin.ext ((congrArg (· % 9216) hn).symm.trans (Nat.mod_eq_of_lt n.isLt))
  refine congrArg₂ (· * ·) ?_ ?_
  · show normedRow _ (fun y => argAt m c main_arg0 (ix2 (n0 := 8192) (n1 := 2048) (⟨(1024 * (t.val / 5 + 1) + p.val) % 8192, _⟩ : Fin 8192) y)) k = _
    rw [er]
    rfl
  · rw [w_block, en]
    rfl

/-! ## The result array -/

theorem out_index (t : Fin cfg0.N) : win0_3.index t 0 = t.val / 5 + 1 ∧ win0_3.index t 1 = t.val % 5 :=
  (by decide +kernel : ∀ t : Fin grid0.N, win0_3.index t 0 = t.val / 5 + 1 ∧ win0_3.index t 1 = t.val % 5) t

/-- A block whose entries are an array's at its place is the array's block. -/
theorem block3 (t : Fin cfg0.N) (X : Vec Ideal S1024x1792 .bf16) (R : Vec Ideal S8192x9216 .bf16)
    (h : ∀ (p : Fin 1024) (q : Fin 1792) (r : Fin 8192) (n : Fin 9216), r.val = 1024 * (t.val / 5 + 1) + p.val →
      n.val = 1792 * (t.val % 5) + q.val → X (ix2 p q) = R (ix2 r n)) :
    (cfg0.win 3).cut (grid0.coords t) X = ((cfg0.win 3).blk t).view.read (Elt Ideal) R := by
  have ht : t.val < 35 := Nat.lt_of_lt_of_eq t.isLt N_0
  have hi := out_index t
  funext j
  rw [View.read_apply]
  have hs : ∀ a, (cfg0.win 3).xsize (grid0.coords t) a = (cfg0.win 3).size a :=
    (by decide +kernel : ∀ t : Fin cfg0.N, ∀ a, (cfg0.win 3).xsize (grid0.coords t) a = (cfg0.win 3).size a) t
  have hj0 : (j 0).val < 1024 := Nat.lt_of_lt_of_eq (j 0).isLt (hs 0)
  have hj1 : (j 1).val < 1792 := Nat.lt_of_lt_of_eq (j 1).isLt (hs 1)
  have hr : (((cfg0.win 3).blk t).view.emb j : S8192x9216.Idx)
      = ix2 (n0 := 8192) (n1 := 9216) ⟨1024 * (t.val / 5 + 1) + (j 0).val, by omega⟩ ⟨1792 * (t.val % 5) + (j 1).val, by omega⟩ := by
    funext a
    apply Fin.ext
    match a with
    | ⟨0, _⟩ => show win0_3.index t 0 * 1024 + 1 * (j 0).val = 1024 * (t.val / 5 + 1) + (j 0).val; rw [hi.1]; omega
    | ⟨1, _⟩ => show win0_3.index t 1 * 1792 + 1 * (j 1).val = 1792 * (t.val % 5) + (j 1).val; rw [hi.2]; omega
  refine Eq.trans ?_ (congrArg R hr).symm
  refine Eq.trans ?_ (h ⟨(j 0).val, hj0⟩ ⟨(j 1).val, hj1⟩ _ _ rfl rfl)
  show X _ = X _
  refine congrArg X ?_
  funext a
  match a with
  | ⟨0, _⟩ => rfl
  | ⟨1, _⟩ => rfl

theorem flushed3 (c : Dev nD) (t : Fin cfg0.N) :
    (dats m 0 c).flushed 3 t = (cfg0.win 3).cut (grid0.coords t) ((outsAt0 m c t.val t.isLt).1) := by
  show (cfg0.win 3).cut (grid0.coords t) ((dats m 0 c).after 3 t) = _
  rw [after0_3]

/-- Every write-back writes its block of the result. -/
theorem flushed3_eq (c : Dev nD) (t : Fin cfg0.N) :
    (dats m 0 c).flushed 3 t = ((cfg0.win 3).blk t).view.read (Elt Ideal) (resultOf m c) :=
  (flushed3 m c t).trans (block3 t _ _ (block_entry m c t))

/-- An entry's place in the block of the point which computes it. -/
theorem mem_block (t : Fin cfg0.N) (i : S8192x9216.Idx) (h0 : (i 0).val / 1024 = t.val / 5 + 1) (h1 : (i 1).val / 1792 = t.val % 5) :
    i ∈ ((View.whole main_v0).slice (win0_3.rect t)).set := by
  have hi := out_index t
  rw [View.set_slice_whole, Rect.mem_set_unit]
  have hs : ∀ a, (cfg0.win 3).xsize (grid0.coords t) a = (cfg0.win 3).size a :=
    (by decide +kernel : ∀ t : Fin cfg0.N, ∀ a, (cfg0.win 3).xsize (grid0.coords t) a = (cfg0.win 3).size a) t
  have hs0 : win0_3.xsize (grid0.coords t) 0 = 1024 := hs 0
  have hs1 : win0_3.xsize (grid0.coords t) 1 = 1792 := hs 1
  intro a
  match a with
  | ⟨0, _⟩ =>
    show win0_3.index t 0 * 1024 ≤ (i 0 : Nat) ∧ (i 0 : Nat) < win0_3.index t 0 * 1024 + win0_3.xsize (grid0.coords t) 0
    rw [hi.1, hs0]; omega
  | ⟨1, _⟩ =>
    show win0_3.index t 1 * 1792 ≤ (i 1 : Nat) ∧ (i 1 : Nat) < win0_3.index t 1 * 1792 + win0_3.xsize (grid0.coords t) 1
    rw [hi.2, hs1]; omega

/-- The write-backs cover rows 1024.. of the first 8960 columns; the other entries stay. -/
theorem cover3 (c : Dev nD) (R : Vec Ideal S8192x9216 .bf16)
    (h : ∀ t, (dats m 0 c).flushed 3 t = ((cfg0.win 3).blk t).view.read (Elt Ideal) R)
    (hR : ∀ i : S8192x9216.Idx, ¬(1024 ≤ (i 0).val ∧ (i 1).val < 8960) → (argAt m c main_arg3 : Vec Ideal S8192x9216 .bf16) i = R i) :
    (dats m 0 c).arrAt 3 cfg0.N = R := by
  funext i
  refine ((dats m 0 c).arrAt_eq_piecewise 3 R (fun t _ => h t) i).trans ?_
  split
  · rfl
  · rename_i hno
    refine Eq.trans ?_ (hR i fun hk => hno ?_)
    · refine congrFun (((A_eq m c 3)).trans ?_) i
      exact V_main_v0 m c
    · have h0 : (i 0 : Nat) < 8192 := (i 0).isLt
      have hN : cfg0.N = 35 := N_0
      exact ⟨⟨5 * ((i 0 : Nat) / 1024 - 1) + (i 1 : Nat) / 1792, by omega⟩, flush0_3 _, mem_block _ i (by dsimp only; omega) (by dsimp only; omega)⟩

/-- The result's array after the call. -/
theorem final3 (c : Dev nD) : (dats m 0 c).arrAt 3 cfg0.N = resultOf m c :=
  cover3 m c _ (flushed3_eq m c) fun i hi => (if_neg hi).symm

/-- The call's run at exact arithmetic: the result of its arguments, the arguments unchanged. -/
theorem run : θ_run defs (onTc (τ := τ) (main (F := Ideal))) ⟨m, fun _ => 0, ρ⟩ fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ hr c => ⟨((hr.1 c).1 3).trans (final3 m c), hr.2 c⟩) (θ_run_and (run_main m ρ) (unchanged m ρ))

end Cert.TailIdeal.Hand

/-! ## The reference's run -/

namespace Cert.TailReferenceIdeal.Hand

open Cert.TailReferenceIdeal
open Idealize.ShloMosaic Idealize.ShloMosaic.TcCoe
open Idealize.SL.Sem

variable (m : (ℓ : Loc nD τ sig) → Buf (Elt Ideal) ℓ) (ρ : Dev nD → PrngReg)

/-- The reference's run at exact arithmetic ends at the same result of its own arguments. -/
theorem reference_run : θ_run defs (onTc (τ := τ) (main (F := Ideal))) ⟨m, fun _ => 0, ρ⟩ fun r => ∀ c : Dev nD,
      r.2.mem ((c.tc : Thread nD τ).loc main_v21) = Cert.TailIdeal.Hand.result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run _ _ _).mono (fun r h c => ⟨(h c).1.trans ?_, (h c).2⟩) (Cert.TailReferenceIdeal.Value.run (F := Ideal) m ρ)
  funext j
  idx_vars j
  unfold Cert.TailIdeal.Hand.result Cert.TailIdeal.Hand.projAt Cert.TailIdeal.Hand.normedRow
  pointwise
  by_cases h0 : j0.val < 1024
  · exact (dif_pos h0).trans (if_neg (by omega)).symm
  · refine (dif_neg h0).trans ?_
    have e0 : ∀ hp, (⟨1024 + (j0.val - 1024), hp⟩ : Fin 8192) = j0 := fun hp => Fin.ext (show 1024 + (j0.val - 1024) = j0.val by omega)
    by_cases h1 : j1.val < 8960
    · refine (dif_pos h1).trans (Eq.trans ?_ (if_pos ⟨by omega, h1⟩).symm)
      simp only [e0]
    · have e1 : ∀ hp, (⟨8960 + (j1.val - 8960), hp⟩ : Fin 9216) = j1 := fun hp => Fin.ext (show 8960 + (j1.val - 8960) = j1.val by omega)
      refine (dif_neg h1).trans (Eq.trans ?_ (if_neg (by omega)).symm)
      simp only [e0, e1]

end Cert.TailReferenceIdeal.Hand

end
-- ==== Proof.lean ====
module

public import proofs.«01_k».proof.Defs
public import proofs.«01_k».proof.Proof.Gen.Pre_finite_scores
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Merge
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Ffn
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnReferenceIdeal
public import proofs.«01_k».proof.Proof.Gen.FfnReferenceIdeal.Run
public import proofs.«01_k».proof.Proof.Gen.Tail
public import proofs.«01_k».proof.Proof.Gen.TailIdeal
public import proofs.«01_k».proof.Proof.Gen.TailIdeal.Skeleton
public import proofs.«01_k».proof.Proof.Gen.TailIdeal.Loops
public import proofs.«01_k».proof.Proof.Gen.TailIdeal.Launch
public import proofs.«01_k».proof.Proof.Gen.TailIdeal.Points
public import proofs.«01_k».proof.Proof.Gen.TailIdeal.Frame
public import proofs.«01_k».proof.Proof.Gen.TailReferenceIdeal
public import proofs.«01_k».proof.Proof.Gen.TailReferenceIdeal.Run
public import proofs.«01_k».proof.Proof.FfnBody
public import proofs.«01_k».proof.Proof.FfnValue
public import proofs.«01_k».proof.Proof.MergeValue
public import proofs.«01_k».proof.Proof.AttnBody
public import proofs.«01_k».proof.Proof.AttnRead
public import proofs.«01_k».proof.Proof.AttnBias
public import proofs.«01_k».proof.Proof.AttnRef
public import proofs.«01_k».proof.Proof.AttnBucket
public import proofs.«01_k».proof.Proof.AttnRefRead
public import proofs.«01_k».proof.Proof.AttnMath
public import proofs.«01_k».proof.Proof.AttnPoint
public import proofs.«01_k».proof.Proof.AttnBlocks
public import proofs.«01_k».proof.Proof.AttnPre
public import proofs.«01_k».proof.Proof.AttnEntry
public import proofs.«01_k».proof.Proof.AttnValue
public import proofs.«01_k».proof.Proof.TailValue
public import Idealize.ShloMosaic.Adequacy
public import Idealize.ShloMosaic.Init

@[expose] public section

set_option maxRecDepth 16384

noncomputable section

namespace Cert.Proof

open Idealize.ShloMosaic Idealize.SL.Sem

/-! ## The mixers call: the attention -/

/-- The call as lowered leaves its arguments unchanged and ends with every semaphore at zero. -/
theorem frame_mixers : Cert.quiescent_Kernel := fun m ρ _ => Cert.Kernel.Gen.frame m ρ

/-- So does the idealized call, -/
theorem frame_mixersIdeal : Cert.quiescent_KernelIdeal := fun m ρ _ => Cert.KernelIdeal.Gen.frame m ρ

/-- under the precondition too. -/
theorem frame_mixersIdeal_pre : Cert.quiescent_KernelIdeal_pre_finite_scores := fun m ρ _ => Cert.KernelIdeal.Gen.frame m ρ

/-- So does its reference, -/
theorem frame_mixersReference : Cert.quiescent_ReferenceIdeal := fun m ρ _ =>
  (θ_run _ _ _).mono (fun r h => ⟨fun c => (h c).2, Idealize.ShloMosaic.sem_eq_zero_of_no_sems (by decide) r.2⟩)
    (Cert.ReferenceIdeal.Value.run m ρ)

/-- under the precondition too. -/
theorem frame_mixersReference_pre : Cert.quiescent_ReferenceIdeal_pre_finite_scores := fun m ρ _ =>
  (θ_run _ _ _).mono (fun r h => ⟨fun c => (h c).2, Idealize.ShloMosaic.sem_eq_zero_of_no_sems (by decide) r.2⟩)
    (Cert.ReferenceIdeal.Value.run m ρ)

/-- The named constant: the mask is −∞ at exact arithmetic. -/
theorem preserves_mixers : Cert.preserves_Kernel_KernelIdeal :=
  IdealRules.named_const.statement Cert.KernelIdeal.κ "mask" .f32 0xF149F2CA#32 ⊥ rfl

/-- The precondition says that the queries, keys, sinks and relative biases are real numbers. -/
theorem real_args (m : (ℓ : Loc Cert.KernelIdeal.nD Cert.KernelIdeal.τ Cert.KernelIdeal.sig) → Buf (Elt Ideal) ℓ)
    (h : Cert.Pre_KernelIdeal_finite_scores m) (c : Dev Cert.KernelIdeal.nD) : Cert.KernelIdeal.Hand.RealArgs m c :=
  ⟨fun r q lo hi => Cert.Pre_finite_scores.Hand.real_proj _ _ _ _ _ _ _ _ _ _ _ _ (h c).1 r q lo hi,
    fun j => Cert.Pre_finite_scores.Hand.real_sink _ _ _ _ _ _ _ _ _ _ _ _ (h c).2.1 j,
    fun b j => Cert.Pre_finite_scores.Hand.real_rel _ _ _ _ _ _ _ _ _ _ _ _ (h c).2.2 b j⟩

/-- At exact arithmetic the call and its reference end with equal results where the scores are real numbers. -/
theorem algebraic_mixers : Cert.algebraic_KernelIdeal_ReferenceIdeal_pre_finite_scores := fun m ρ m' ρ' hp hag =>
  ⟨fun c => Cert.KernelIdeal.Hand.attnOf m c, Cert.KernelIdeal.Hand.run m ρ (real_args m hp),
    (θ_run _ _ _).mono (fun _ h c => ⟨(h c).1.trans (by
      obtain ⟨h0, h1, h2, _⟩ := hag c
      rw [h0, h1, h2]
      rfl), (h c).2⟩) (Cert.ReferenceIdeal.Hand.reference_run m' ρ')⟩

/-! ## The merge call -/

/-- The call's body as lowered is the idealized one's, -/
theorem body_merge (i : Cert.Merge.grid0.Coords) (a1 h1 a2 h2 a3 h3 a4 h4 a5 h5 a6 h6 a7 h7 a8 h8 a9 h9 a10 h10) :
    Cert.Merge.cc0_merge (F := Bits) i a1 h1 a2 h2 a3 h3 a4 h4 a5 h5 a6 h6 a7 h7 a8 h8 a9 h9 a10 h10
      = Cert.MergeIdeal.cc0_merge (F := Bits) i a1 h1 a2 h2 a3 h3 a4 h4 a5 h5 a6 h6 a7 h7 a8 h8 a9 h9 a10 h10 := by
  unfold Cert.Merge.cc0_merge Cert.MergeIdeal.cc0_merge
  rfl

/-- so the body tables are one, -/
theorem table_merge : Cert.Merge.defs₀ (F := Bits) = Cert.MergeIdeal.defs₀ (F := Bits) :=
  congrArg Defs.onTc (funext fun l => by
    obtain rfl : l = 0 := Subsingleton.elim _ _
    funext x
    obtain ⟨t, s⟩ := x
    exact body_merge _ _ _ _ _ _ _ _ _ _ _ _ _ _ _ _ _ _ _ _ _)

/-- and the call as lowered leaves its arguments unchanged and every semaphore at zero, as the idealized one does at any
    float values. -/
theorem frame_merge : Cert.quiescent_Merge := fun m ρ _ => by
  have e : Cert.Merge.defs (F := Bits) = Cert.MergeIdeal.defs (F := Bits) := congrArg (Pipeline.defs Cert.Merge.pcfgs) table_merge
  rw [e]
  exact Cert.MergeIdeal.Gen.frame (F := Bits) m ρ

/-- So does the idealized call. -/
theorem frame_mergeIdeal : Cert.quiescent_MergeIdeal := fun m ρ _ => Cert.MergeIdeal.Gen.frame m ρ

/-- So does its reference. -/
theorem frame_mergeReference : Cert.quiescent_MergeReferenceIdeal := fun m ρ _ =>
  (θ_run _ _ _).mono (fun r h => ⟨fun c => (h c).2.2, Idealize.ShloMosaic.sem_eq_zero_of_no_sems (by decide) r.2⟩)
    (Cert.MergeReferenceIdeal.Value.run m ρ)

/-- At exact arithmetic the call and its reference end with equal results. -/
theorem algebraic_merge : Cert.algebraic_MergeIdeal_MergeReferenceIdeal := fun m ρ m' ρ' _ hag =>
  ⟨fun c => Cert.MergeIdeal.Hand.resultHAt m c, fun c => Cert.MergeIdeal.Hand.resultZAt m c, Cert.MergeIdeal.Hand.run m ρ,
    (θ_run _ _ _).mono (fun _ h c => by
      obtain ⟨h0, h1, h2, h3, h4, h5, h6, h7⟩ := hag c
      exact ⟨(h c).1.trans (by rw [h0, h1, h2, h3, h4, h5, h6]), (h c).2.1.trans (by rw [h0, h1, h2, h3, h4, h5, h6, h7]), (h c).2.2⟩)
      (Cert.MergeReferenceIdeal.Hand.reference_run m' ρ')⟩

/-! ## The feed-forward call -/

/-- The call's body as lowered is the idealized one's, -/
theorem body_ffn (i : Cert.Ffn.grid0.Coords) (a2 h2 a3 h3 a4 h4 a5 h5 a6 h6 a7 h7 a8 h8) :
    Cert.Ffn.cc0_ffn (F := Bits) i a2 h2 a3 h3 a4 h4 a5 h5 a6 h6 a7 h7 a8 h8
      = Cert.FfnIdeal.cc0_ffn (F := Bits) i a2 h2 a3 h3 a4 h4 a5 h5 a6 h6 a7 h7 a8 h8 := by
  unfold Cert.Ffn.cc0_ffn Cert.FfnIdeal.cc0_ffn
  rfl

/-- so the body tables are one, -/
theorem table_ffn : Cert.Ffn.defs₀ (F := Bits) = Cert.FfnIdeal.defs₀ (F := Bits) :=
  congrArg Defs.onTc (funext fun l => by
    obtain rfl : l = 0 := Subsingleton.elim _ _
    funext x
    obtain ⟨t, s⟩ := x
    exact body_ffn _ _ _ _ _ _ _ _ _ _ _ _ _ _ _)

/-- and the call as lowered leaves its arguments unchanged and every semaphore at zero, as the idealized one does at any
    float values. -/
theorem frame_ffn : Cert.quiescent_Ffn := fun m ρ _ => by
  have e : Cert.Ffn.defs (F := Bits) = Cert.FfnIdeal.defs (F := Bits) := congrArg (Pipeline.defs Cert.Ffn.pcfgs) table_ffn
  rw [e]
  exact Cert.FfnIdeal.Hand.frame (F := Bits) m ρ

/-- So does the idealized call. -/
theorem frame_ffnIdeal : Cert.quiescent_FfnIdeal := fun m ρ _ => Cert.FfnIdeal.Hand.frame m ρ

/-- So does its reference. -/
theorem frame_ffnReference : Cert.quiescent_FfnReferenceIdeal := fun m ρ _ =>
  (θ_run _ _ _).mono (fun r h => ⟨fun c => (h c).2, Idealize.ShloMosaic.sem_eq_zero_of_no_sems (by decide) r.2⟩)
    (Cert.FfnReferenceIdeal.Value.run m ρ)

/-- At exact arithmetic the call and its reference end with equal results. -/
theorem algebraic_ffn : Cert.algebraic_FfnIdeal_FfnReferenceIdeal := fun m ρ m' ρ' _ hag =>
  ⟨fun c => Cert.FfnIdeal.Hand.resultAt m c, Cert.FfnIdeal.Hand.run m ρ,
    (θ_run _ _ _).mono (fun _ h c => ⟨(h c).1.trans (by
      obtain ⟨h0, h1, h2, h3, h4, h5⟩ := hag c
      rw [h0, h1, h2, h3, h4, h5]), (h c).2⟩) (Cert.FfnReferenceIdeal.Hand.reference_run m' ρ')⟩

/-! ## The input projection's second call -/

/-- The call's body as lowered is the idealized one's, -/
theorem body_tail (i : Cert.Tail.grid0.Coords) (a2 h2 a3 h3 a4 h4 a5 h5 a6 h6 a7 h7) :
    Cert.Tail.cc0_inproj_tail (F := Bits) i a2 h2 a3 h3 a4 h4 a5 h5 a6 h6 a7 h7
      = Cert.TailIdeal.cc0_inproj_tail (F := Bits) i a2 h2 a3 h3 a4 h4 a5 h5 a6 h6 a7 h7 := by
  unfold Cert.Tail.cc0_inproj_tail Cert.TailIdeal.cc0_inproj_tail
  rfl

/-- so the body tables are one, -/
theorem table_tail : Cert.Tail.defs₀ (F := Bits) = Cert.TailIdeal.defs₀ (F := Bits) :=
  congrArg Defs.onTc (funext fun l => by
    obtain rfl : l = 0 := Subsingleton.elim _ _
    funext x
    obtain ⟨t, s⟩ := x
    exact body_tail _ _ _ _ _ _ _ _ _ _ _ _ _)

/-- and the call as lowered leaves its arguments unchanged and every semaphore at zero, as the idealized one does at any
    float values. -/
theorem frame_tail : Cert.quiescent_Tail := fun m ρ _ => by
  have e : Cert.Tail.defs (F := Bits) = Cert.TailIdeal.defs (F := Bits) := congrArg (Pipeline.defs Cert.Tail.pcfgs) table_tail
  rw [e]
  exact Cert.TailIdeal.Gen.frame (F := Bits) m ρ

/-- So does the idealized call. -/
theorem frame_tailIdeal : Cert.quiescent_TailIdeal := fun m ρ _ => Cert.TailIdeal.Gen.frame m ρ

/-- So does its reference. -/
theorem frame_tailReference : Cert.quiescent_TailReferenceIdeal := fun m ρ _ =>
  (θ_run _ _ _).mono (fun r h => ⟨fun c => (h c).2, Idealize.ShloMosaic.sem_eq_zero_of_no_sems (by decide) r.2⟩)
    (Cert.TailReferenceIdeal.Value.run m ρ)

/-- At exact arithmetic the call and its reference end with equal results. -/
theorem algebraic_tail : Cert.algebraic_TailIdeal_TailReferenceIdeal := fun m ρ m' ρ' _ hag =>
  ⟨fun c => Cert.TailIdeal.Hand.resultOf m c, Cert.TailIdeal.Hand.run m ρ,
    (θ_run _ _ _).mono (fun _ h c => ⟨(h c).1.trans (by
      obtain ⟨h0, h1, h2, h3⟩ := hag c
      rw [h0, h1, h2, h3]
      rfl), (h c).2⟩) (Cert.TailReferenceIdeal.Hand.reference_run m' ρ')⟩

theorem claim : Cert.Claim := ⟨Cert.Kernel.Gen.facts, Cert.KernelIdeal.Gen.facts, Cert.ReferenceIdeal.Gen.facts,
  Cert.Merge.Gen.facts, Cert.MergeIdeal.Gen.facts, Cert.MergeReferenceIdeal.Gen.facts,
  Cert.Ffn.Gen.facts, Cert.FfnIdeal.Gen.facts, Cert.FfnReferenceIdeal.Gen.facts,
  Cert.Tail.Gen.facts, Cert.TailIdeal.Gen.facts, Cert.TailReferenceIdeal.Gen.facts, Cert.Pre_finite_scores.Gen.facts,
  frame_mixers, frame_mixersIdeal, frame_mixersIdeal_pre, frame_mixersReference, frame_mixersReference_pre,
  frame_merge, frame_mergeIdeal, frame_mergeReference, frame_ffn, frame_ffnIdeal, frame_ffnReference,
  frame_tail, frame_tailIdeal, frame_tailReference,
  preserves_mixers, algebraic_mixers, trivial, algebraic_merge, trivial, algebraic_ffn, trivial, algebraic_tail⟩

end Cert.Proof

end
